-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)) (v3 : (c : Dev Cert.Kernel3Ideal.nD) → Buf (Elt Ideal) ((c.tc : Thread Cert.Kernel3Ideal.nD Cert.Kernel3Ideal.τ).loc Cert.Kernel3Ideal.main_v16_3)) (v4 : (c : Dev Cert.Kernel3Ideal.nD) → Buf (Elt Ideal) ((c.tc : Thread Cert.Kernel3Ideal.nD Cert.Kernel3Ideal.τ).loc Cert.Kernel3Ideal.main_v16_4)) (v5 : (c : Dev Cert.Kernel3Ideal.nD) → Buf (Elt Ideal) ((c.tc : Thread Cert.Kernel3Ideal.nD Cert.Kernel3Ideal.τ).loc Cert.Kernel3Ideal.main_v16_5)) (v6 : (c : Dev Cert.Kernel3Ideal.nD) → Buf (Elt Ideal) ((c.tc : Thread Cert.Kernel3Ideal.nD Cert.Kernel3Ideal.τ).loc Cert.Kernel3Ideal.main_v16_6)) (v7 : (c : Dev Cert.Kernel3Ideal.nD) → Buf (Elt Ideal) ((c.tc : Thread Cert.Kernel3Ideal.nD Cert.Kernel3Ideal.τ).loc Cert.Kernel3Ideal.main_v16_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_v16_3) = v3 c
          ∧ r.2.mem ((c.tc : Thread Cert.Kernel3Ideal.nD Cert.Kernel3Ideal.τ).loc Cert.Kernel3Ideal.main_v16_4) = v4 c
          ∧ r.2.mem ((c.tc : Thread Cert.Kernel3Ideal.nD Cert.Kernel3Ideal.τ).loc Cert.Kernel3Ideal.main_v16_5) = v5 c
          ∧ r.2.mem ((c.tc : Thread Cert.Kernel3Ideal.nD Cert.Kernel3Ideal.τ).loc Cert.Kernel3Ideal.main_v16_6) = v6 c
          ∧ r.2.mem ((c.tc : Thread Cert.Kernel3Ideal.nD Cert.Kernel3Ideal.τ).loc Cert.Kernel3Ideal.main_v16_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_v93) = v3 c
          ∧ r.2.mem ((c.tc : Thread Cert.Reference3Ideal.nD Cert.Reference3Ideal.τ).loc Cert.Reference3Ideal.main_v94) = v4 c
          ∧ r.2.mem ((c.tc : Thread Cert.Reference3Ideal.nD Cert.Reference3Ideal.τ).loc Cert.Reference3Ideal.main_v96) = v5 c
          ∧ r.2.mem ((c.tc : Thread Cert.Reference3Ideal.nD Cert.Reference3Ideal.τ).loc Cert.Reference3Ideal.main_v97) = v6 c
          ∧ r.2.mem ((c.tc : Thread Cert.Reference3Ideal.nD Cert.Reference3Ideal.τ).loc Cert.Reference3Ideal.main_v87) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4 : Shape := ⟨1, ![4]⟩
abbrev S32768x512 : Shape := ⟨2, ![32768, 512]⟩
abbrev S8x32768x64 : Shape := ⟨3, ![8, 32768, 64]⟩
abbrev S8x32768 : Shape := ⟨2, ![8, 32768]⟩
abbrev S512x32768 : Shape := ⟨2, ![512, 32768]⟩
abbrev S32768x64 : Shape := ⟨2, ![32768, 64]⟩
abbrev S4x2x256x256 : Shape := ⟨4, ![4, 2, 256, 256]⟩
abbrev S256x512 : Shape := ⟨2, ![256, 512]⟩
abbrev S8x256x64 : Shape := ⟨3, ![8, 256, 64]⟩
abbrev S8x256 : Shape := ⟨2, ![8, 256]⟩
abbrev S4096x512 : Shape := ⟨2, ![4096, 512]⟩
abbrev S512x4096 : Shape := ⟨2, ![512, 4096]⟩
abbrev S4096x64 : Shape := ⟨2, ![4096, 64]⟩
abbrev S8x4096 : Shape := ⟨2, ![8, 4096]⟩
abbrev S4096x256 : Shape := ⟨2, ![4096, 256]⟩
abbrev S32x128x256 : Shape := ⟨3, ![32, 128, 256]⟩
abbrev S4x256x256 : Shape := ⟨3, ![4, 256, 256]⟩
abbrev S4x1x256 : Shape := ⟨3, ![4, 1, 256]⟩
abbrev S4x8x256 : Shape := ⟨3, ![4, 8, 256]⟩
abbrev S4x128x256 : Shape := ⟨3, ![4, 128, 256]⟩
abbrev S256x64 : Shape := ⟨2, ![256, 64]⟩
abbrev S256x256 : Shape := ⟨2, ![256, 256]⟩
abbrev S1x256x64 : Shape := ⟨3, ![1, 256, 64]⟩
abbrev S1x256 : Shape := ⟨2, ![1, 256]⟩
abbrev S8x128 : Shape := ⟨2, ![8, 128]⟩
abbrev S1x8x128 : Shape := ⟨3, ![1, 8, 128]⟩
abbrev S128x256 : Shape := ⟨2, ![128, 256]⟩
abbrev S1x128x256 : Shape := ⟨3, ![1, 128, 256]⟩
abbrev S256 : Shape := ⟨1, ![256]⟩
abbrev S32x8x256 : Shape := ⟨3, ![32, 8, 256]⟩
abbrev S1x1x256 : Shape := ⟨3, ![1, 1, 256]⟩
abbrev S1 : Shape := ⟨1, ![1]⟩
abbrev S1x1x1 : Shape := ⟨3, ![1, 1, 1]⟩
abbrev S256x128 : Shape := ⟨2, ![256, 128]⟩
abbrev S1x4096 : Shape := ⟨2, ![1, 4096]⟩
abbrev S1x1x4096 : Shape := ⟨3, ![1, 1, 4096]⟩
abbrev S1x256x256 : Shape := ⟨3, ![1, 256, 256]⟩
abbrev S1x8x256 : Shape := ⟨3, ![1, 8, 256]⟩
abbrev S1x1x256x256 : Shape := ⟨4, ![1, 1, 256, 256]⟩
abbrev S4x256 : Shape := ⟨2, ![4, 256]⟩
abbrev S1x4x256 : Shape := ⟨3, ![1, 4, 256]⟩

abbrev nBuf : Space → Nat
  | .hbm => 10
  | .vmem => 26
  | .smem => 1
  | _ => 0

abbrev bufTy : (tb : Table) → Fin (tcTables nBuf tb) → BufTy
  | .hbm, ⟨0, _⟩ => ⟨S4, .f32⟩
  | .hbm, ⟨1, _⟩ => ⟨S32768x512, .bf16⟩
  | .hbm, ⟨2, _⟩ => ⟨S8x32768x64, .bf16⟩
  | .hbm, ⟨3, _⟩ => ⟨S8x32768, .f32⟩
  | .hbm, ⟨4, _⟩ => ⟨S32768x512, .bf16⟩
  | .hbm, ⟨5, _⟩ => ⟨S512x32768, .bf16⟩
  | .hbm, ⟨6, _⟩ => ⟨S32768x64, .bf16⟩
  | .hbm, ⟨7, _⟩ => ⟨S8x32768, .f32⟩
  | .hbm, ⟨8, _⟩ => ⟨S4x2x256x256, .f32⟩
  | .hbm, ⟨9, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S8x256x64, .bf16⟩
  | .local _ .vmem, ⟨3, _⟩ => ⟨S8x256x64, .bf16⟩
  | .local _ .vmem, ⟨4, _⟩ => ⟨S8x256, .f32⟩
  | .local _ .vmem, ⟨5, _⟩ => ⟨S8x256, .f32⟩
  | .local _ .vmem, ⟨6, _⟩ => ⟨S4096x512, .bf16⟩
  | .local _ .vmem, ⟨7, _⟩ => ⟨S4096x512, .bf16⟩
  | .local _ .vmem, ⟨8, _⟩ => ⟨S512x4096, .bf16⟩
  | .local _ .vmem, ⟨9, _⟩ => ⟨S512x4096, .bf16⟩
  | .local _ .vmem, ⟨10, _⟩ => ⟨S4096x64, .bf16⟩
  | .local _ .vmem, ⟨11, _⟩ => ⟨S4096x64, .bf16⟩
  | .local _ .vmem, ⟨12, _⟩ => ⟨S8x4096, .f32⟩
  | .local _ .vmem, ⟨13, _⟩ => ⟨S8x4096, .f32⟩
  | .local _ .vmem, ⟨14, _⟩ => ⟨S4x2x256x256, .f32⟩
  | .local _ .vmem, ⟨15, _⟩ => ⟨S256x512, .bf16⟩
  | .local _ .vmem, ⟨16, _⟩ => ⟨S256x512, .bf16⟩
  | .local _ .vmem, ⟨17, _⟩ => ⟨S4096x256, .f32⟩
  | .local _ .vmem, ⟨18, _⟩ => ⟨S32x128x256, .i32⟩
  | .local _ .vmem, ⟨19, _⟩ => ⟨S8x256, .i32⟩
  | .local _ .vmem, ⟨20, _⟩ => ⟨S4096x256, .f32⟩
  | .local _ .vmem, ⟨21, _⟩ => ⟨S4x256x256, .f32⟩
  | .local _ .vmem, ⟨22, _⟩ => ⟨S4x256x256, .f32⟩
  | .local _ .vmem, ⟨23, _⟩ => ⟨S4x1x256, .f32⟩
  | .local _ .vmem, ⟨24, _⟩ => ⟨S4x8x256, .f32⟩
  | .local _ .vmem, ⟨25, _⟩ => ⟨S4x128x256, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨2, ![8, 16], ![false, false]⟩

def k0_mult1 : BitVec 32 :=
  let c0_i32_10 : BitVec 32 := 0#32
  c0_i32_10
def k0_mult2 : BitVec 32 :=
  let c0_i32_60 : BitVec 32 := 0#32
  c0_i32_60
@[reducible] def k0_t1_loop (i : grid0.Coords) : Scf.Loop 32 :=
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_64 : BitVec 32 := 1#32
  ⟨c0_i32_62, v116, c1_i32_64⟩
def k0_mult3 (i : grid0.Coords) (k0_t1 : Fin (k0_t1_loop i).trips) : BitVec 32 :=
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let c1_i32_1736 : BitVec 32 := 1#32
  let v4767 : BitVec 32 := Scalar.addi v4766 c1_i32_1736
  let c256_i32_1737 : BitVec 32 := 256#32
  let v4768 : BitVec 32 := Scalar.muli v4767 c256_i32_1737
  v4768
def k0_off1 (i : grid0.Coords) (k0_t1 : Fin (k0_t1_loop i).trips) (c1_i32_1736 : BitVec 32) : Fin 2 → Nat :=
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c256_i32_1737 : BitVec 32 := 256#32
  let v4768 : BitVec 32 := Scalar.muli v4767 c256_i32_1737
  let v4769 : BitVec 32 := v4768
  let v4770 : Index := Scalar.indexCast v4769
  let c0_1738 : Index := 0#32
  ![v4770.toNat, 0]
def k0_mult4 (i : grid0.Coords) (k0_t1 : Fin (k0_t1_loop i).trips) : BitVec 32 :=
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let c1_i32_1736 : BitVec 32 := 1#32
  let v4767 : BitVec 32 := Scalar.addi v4766 c1_i32_1736
  let c256_i32_1798 : BitVec 32 := 256#32
  let v4851 : BitVec 32 := Scalar.muli v4767 c256_i32_1798
  v4851
def k0_off2 (i : grid0.Coords) (k0_t1 : Fin (k0_t1_loop i).trips) (c1_i32_1736 : BitVec 32) : Fin 2 → Nat :=
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c256_i32_1798 : BitVec 32 := 256#32
  let v4851 : BitVec 32 := Scalar.muli v4767 c256_i32_1798
  let v4852 : BitVec 32 := v4851
  let v4853 : Index := Scalar.indexCast v4852
  let c0_1799 : Index := 0#32
  ![v4853.toNat, 0]
def k0_mult5 (i : grid0.Coords) (k0_t1 : Fin (k0_t1_loop i).trips) : BitVec 32 :=
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let c1_i32_1736 : BitVec 32 := 1#32
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  v4858
def k0_off3 (i : grid0.Coords) (k0_t1 : Fin (k0_t1_loop i).trips) (c1_i32_1736 : BitVec 32) : Fin 3 → Nat :=
  let c0_2043 : Index := 0#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5613 : Index := Scalar.indexCast v4859
  let c0_2044 : Index := 0#32
  ![0, v5613.toNat, 0]
def k0_off4 (i : grid0.Coords) (k0_t1 : Fin (k0_t1_loop i).trips) (c1_i32_1736 : BitVec 32) : Fin 3 → Nat :=
  let c1_2045 : Index := 1#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5617 : Index := Scalar.indexCast v4859
  let c0_2046 : Index := 0#32
  ![1, v5617.toNat, 0]
def k0_off5 (i : grid0.Coords) (k0_t1 : Fin (k0_t1_loop i).trips) (c1_i32_1736 : BitVec 32) : Fin 3 → Nat :=
  let c2_2047 : Index := 2#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5621 : Index := Scalar.indexCast v4859
  let c0_2048 : Index := 0#32
  ![2, v5621.toNat, 0]
def k0_off6 (i : grid0.Coords) (k0_t1 : Fin (k0_t1_loop i).trips) (c1_i32_1736 : BitVec 32) : Fin 3 → Nat :=
  let c3_2049 : Index := 3#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5625 : Index := Scalar.indexCast v4859
  let c0_2050 : Index := 0#32
  ![3, v5625.toNat, 0]
def k0_off7 (i : grid0.Coords) (k0_t1 : Fin (k0_t1_loop i).trips) (c1_i32_1736 : BitVec 32) : Fin 3 → Nat :=
  let c4_2051 : Index := 4#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5629 : Index := Scalar.indexCast v4859
  let c0_2052 : Index := 0#32
  ![4, v5629.toNat, 0]
def k0_off8 (i : grid0.Coords) (k0_t1 : Fin (k0_t1_loop i).trips) (c1_i32_1736 : BitVec 32) : Fin 3 → Nat :=
  let c5_2053 : Index := 5#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5633 : Index := Scalar.indexCast v4859
  let c0_2054 : Index := 0#32
  ![5, v5633.toNat, 0]
def k0_off9 (i : grid0.Coords) (k0_t1 : Fin (k0_t1_loop i).trips) (c1_i32_1736 : BitVec 32) : Fin 3 → Nat :=
  let c6_2055 : Index := 6#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5637 : Index := Scalar.indexCast v4859
  let c0_2056 : Index := 0#32
  ![6, v5637.toNat, 0]
def k0_off10 (i : grid0.Coords) (k0_t1 : Fin (k0_t1_loop i).trips) (c1_i32_1736 : BitVec 32) : Fin 3 → Nat :=
  let c7_2057 : Index := 7#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5641 : Index := Scalar.indexCast v4859
  let c0_2058 : Index := 0#32
  ![7, v5641.toNat, 0]
def k0_off11 (i : grid0.Coords) (k0_t1 : Fin (k0_t1_loop i).trips) (c1_i32_1736 : BitVec 32) : Fin 3 → Nat :=
  let c8_2059 : Index := 8#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5645 : Index := Scalar.indexCast v4859
  let c0_2060 : Index := 0#32
  ![8, v5645.toNat, 0]
def k0_off12 (i : grid0.Coords) (k0_t1 : Fin (k0_t1_loop i).trips) (c1_i32_1736 : BitVec 32) : Fin 3 → Nat :=
  let c9_2061 : Index := 9#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5649 : Index := Scalar.indexCast v4859
  let c0_2062 : Index := 0#32
  ![9, v5649.toNat, 0]
def k0_off13 (i : grid0.Coords) (k0_t1 : Fin (k0_t1_loop i).trips) (c1_i32_1736 : BitVec 32) : Fin 3 → Nat :=
  let c10_2063 : Index := 10#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5653 : Index := Scalar.indexCast v4859
  let c0_2064 : Index := 0#32
  ![10, v5653.toNat, 0]
def k0_off14 (i : grid0.Coords) (k0_t1 : Fin (k0_t1_loop i).trips) (c1_i32_1736 : BitVec 32) : Fin 3 → Nat :=
  let c11_2065 : Index := 11#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5657 : Index := Scalar.indexCast v4859
  let c0_2066 : Index := 0#32
  ![11, v5657.toNat, 0]
def k0_off15 (i : grid0.Coords) (k0_t1 : Fin (k0_t1_loop i).trips) (c1_i32_1736 : BitVec 32) : Fin 3 → Nat :=
  let c12_2067 : Index := 12#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5661 : Index := Scalar.indexCast v4859
  let c0_2068 : Index := 0#32
  ![12, v5661.toNat, 0]
def k0_off16 (i : grid0.Coords) (k0_t1 : Fin (k0_t1_loop i).trips) (c1_i32_1736 : BitVec 32) : Fin 3 → Nat :=
  let c13_2069 : Index := 13#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5665 : Index := Scalar.indexCast v4859
  let c0_2070 : Index := 0#32
  ![13, v5665.toNat, 0]
def k0_off17 (i : grid0.Coords) (k0_t1 : Fin (k0_t1_loop i).trips) (c1_i32_1736 : BitVec 32) : Fin 3 → Nat :=
  let c14_2071 : Index := 14#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5669 : Index := Scalar.indexCast v4859
  let c0_2072 : Index := 0#32
  ![14, v5669.toNat, 0]
def k0_off18 (i : grid0.Coords) (k0_t1 : Fin (k0_t1_loop i).trips) (c1_i32_1736 : BitVec 32) : Fin 3 → Nat :=
  let c15_2073 : Index := 15#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5673 : Index := Scalar.indexCast v4859
  let c0_2074 : Index := 0#32
  ![15, v5673.toNat, 0]
def k0_off19 (i : grid0.Coords) (k0_t1 : Fin (k0_t1_loop i).trips) (c1_i32_1736 : BitVec 32) : Fin 3 → Nat :=
  let c16_2075 : Index := 16#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5677 : Index := Scalar.indexCast v4859
  let c0_2076 : Index := 0#32
  ![16, v5677.toNat, 0]
def k0_off20 (i : grid0.Coords) (k0_t1 : Fin (k0_t1_loop i).trips) (c1_i32_1736 : BitVec 32) : Fin 3 → Nat :=
  let c17_2077 : Index := 17#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5681 : Index := Scalar.indexCast v4859
  let c0_2078 : Index := 0#32
  ![17, v5681.toNat, 0]
def k0_off21 (i : grid0.Coords) (k0_t1 : Fin (k0_t1_loop i).trips) (c1_i32_1736 : BitVec 32) : Fin 3 → Nat :=
  let c18_2079 : Index := 18#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5685 : Index := Scalar.indexCast v4859
  let c0_2080 : Index := 0#32
  ![18, v5685.toNat, 0]
def k0_off22 (i : grid0.Coords) (k0_t1 : Fin (k0_t1_loop i).trips) (c1_i32_1736 : BitVec 32) : Fin 3 → Nat :=
  let c19_2081 : Index := 19#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5689 : Index := Scalar.indexCast v4859
  let c0_2082 : Index := 0#32
  ![19, v5689.toNat, 0]
def k0_off23 (i : grid0.Coords) (k0_t1 : Fin (k0_t1_loop i).trips) (c1_i32_1736 : BitVec 32) : Fin 3 → Nat :=
  let c20_2083 : Index := 20#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5693 : Index := Scalar.indexCast v4859
  let c0_2084 : Index := 0#32
  ![20, v5693.toNat, 0]
def k0_off24 (i : grid0.Coords) (k0_t1 : Fin (k0_t1_loop i).trips) (c1_i32_1736 : BitVec 32) : Fin 3 → Nat :=
  let c21_2085 : Index := 21#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5697 : Index := Scalar.indexCast v4859
  let c0_2086 : Index := 0#32
  ![21, v5697.toNat, 0]
def k0_off25 (i : grid0.Coords) (k0_t1 : Fin (k0_t1_loop i).trips) (c1_i32_1736 : BitVec 32) : Fin 3 → Nat :=
  let c22_2087 : Index := 22#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5701 : Index := Scalar.indexCast v4859
  let c0_2088 : Index := 0#32
  ![22, v5701.toNat, 0]
def k0_off26 (i : grid0.Coords) (k0_t1 : Fin (k0_t1_loop i).trips) (c1_i32_1736 : BitVec 32) : Fin 3 → Nat :=
  let c23_2089 : Index := 23#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5705 : Index := Scalar.indexCast v4859
  let c0_2090 : Index := 0#32
  ![23, v5705.toNat, 0]
def k0_off27 (i : grid0.Coords) (k0_t1 : Fin (k0_t1_loop i).trips) (c1_i32_1736 : BitVec 32) : Fin 3 → Nat :=
  let c24_2091 : Index := 24#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5709 : Index := Scalar.indexCast v4859
  let c0_2092 : Index := 0#32
  ![24, v5709.toNat, 0]
def k0_off28 (i : grid0.Coords) (k0_t1 : Fin (k0_t1_loop i).trips) (c1_i32_1736 : BitVec 32) : Fin 3 → Nat :=
  let c25_2093 : Index := 25#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5713 : Index := Scalar.indexCast v4859
  let c0_2094 : Index := 0#32
  ![25, v5713.toNat, 0]
def k0_off29 (i : grid0.Coords) (k0_t1 : Fin (k0_t1_loop i).trips) (c1_i32_1736 : BitVec 32) : Fin 3 → Nat :=
  let c26_2095 : Index := 26#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5717 : Index := Scalar.indexCast v4859
  let c0_2096 : Index := 0#32
  ![26, v5717.toNat, 0]
def k0_off30 (i : grid0.Coords) (k0_t1 : Fin (k0_t1_loop i).trips) (c1_i32_1736 : BitVec 32) : Fin 3 → Nat :=
  let c27_2097 : Index := 27#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5721 : Index := Scalar.indexCast v4859
  let c0_2098 : Index := 0#32
  ![27, v5721.toNat, 0]
def k0_off31 (i : grid0.Coords) (k0_t1 : Fin (k0_t1_loop i).trips) (c1_i32_1736 : BitVec 32) : Fin 3 → Nat :=
  let c28_2099 : Index := 28#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5725 : Index := Scalar.indexCast v4859
  let c0_2100 : Index := 0#32
  ![28, v5725.toNat, 0]
def k0_off32 (i : grid0.Coords) (k0_t1 : Fin (k0_t1_loop i).trips) (c1_i32_1736 : BitVec 32) : Fin 3 → Nat :=
  let c29_2101 : Index := 29#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5729 : Index := Scalar.indexCast v4859
  let c0_2102 : Index := 0#32
  ![29, v5729.toNat, 0]
def k0_off33 (i : grid0.Coords) (k0_t1 : Fin (k0_t1_loop i).trips) (c1_i32_1736 : BitVec 32) : Fin 3 → Nat :=
  let c30_2103 : Index := 30#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5733 : Index := Scalar.indexCast v4859
  let c0_2104 : Index := 0#32
  ![30, v5733.toNat, 0]
def k0_off34 (i : grid0.Coords) (k0_t1 : Fin (k0_t1_loop i).trips) (c1_i32_1736 : BitVec 32) : Fin 3 → Nat :=
  let c31_2105 : Index := 31#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5737 : Index := Scalar.indexCast v4859
  let c0_2106 : Index := 0#32
  ![31, v5737.toNat, 0]
def k0_off35 (i : grid0.Coords) (k0_t1 : Fin (k0_t1_loop i).trips) (c1_i32_1736 : BitVec 32) : Fin 3 → Nat :=
  let c0_2348 : Index := 0#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6494 : Index := Scalar.indexCast v4859
  let c128_2349 : Index := 128#32
  ![0, v6494.toNat, 128]
def k0_off36 (i : grid0.Coords) (k0_t1 : Fin (k0_t1_loop i).trips) (c1_i32_1736 : BitVec 32) : Fin 3 → Nat :=
  let c1_2350 : Index := 1#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6498 : Index := Scalar.indexCast v4859
  let c128_2351 : Index := 128#32
  ![1, v6498.toNat, 128]
def k0_off37 (i : grid0.Coords) (k0_t1 : Fin (k0_t1_loop i).trips) (c1_i32_1736 : BitVec 32) : Fin 3 → Nat :=
  let c2_2352 : Index := 2#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6502 : Index := Scalar.indexCast v4859
  let c128_2353 : Index := 128#32
  ![2, v6502.toNat, 128]
def k0_off38 (i : grid0.Coords) (k0_t1 : Fin (k0_t1_loop i).trips) (c1_i32_1736 : BitVec 32) : Fin 3 → Nat :=
  let c3_2354 : Index := 3#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6506 : Index := Scalar.indexCast v4859
  let c128_2355 : Index := 128#32
  ![3, v6506.toNat, 128]
def k0_off39 (i : grid0.Coords) (k0_t1 : Fin (k0_t1_loop i).trips) (c1_i32_1736 : BitVec 32) : Fin 3 → Nat :=
  let c4_2356 : Index := 4#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6510 : Index := Scalar.indexCast v4859
  let c128_2357 : Index := 128#32
  ![4, v6510.toNat, 128]
def k0_off40 (i : grid0.Coords) (k0_t1 : Fin (k0_t1_loop i).trips) (c1_i32_1736 : BitVec 32) : Fin 3 → Nat :=
  let c5_2358 : Index := 5#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6514 : Index := Scalar.indexCast v4859
  let c128_2359 : Index := 128#32
  ![5, v6514.toNat, 128]
def k0_off41 (i : grid0.Coords) (k0_t1 : Fin (k0_t1_loop i).trips) (c1_i32_1736 : BitVec 32) : Fin 3 → Nat :=
  let c6_2360 : Index := 6#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6518 : Index := Scalar.indexCast v4859
  let c128_2361 : Index := 128#32
  ![6, v6518.toNat, 128]
def k0_off42 (i : grid0.Coords) (k0_t1 : Fin (k0_t1_loop i).trips) (c1_i32_1736 : BitVec 32) : Fin 3 → Nat :=
  let c7_2362 : Index := 7#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6522 : Index := Scalar.indexCast v4859
  let c128_2363 : Index := 128#32
  ![7, v6522.toNat, 128]
def k0_off43 (i : grid0.Coords) (k0_t1 : Fin (k0_t1_loop i).trips) (c1_i32_1736 : BitVec 32) : Fin 3 → Nat :=
  let c8_2364 : Index := 8#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6526 : Index := Scalar.indexCast v4859
  let c128_2365 : Index := 128#32
  ![8, v6526.toNat, 128]
def k0_off44 (i : grid0.Coords) (k0_t1 : Fin (k0_t1_loop i).trips) (c1_i32_1736 : BitVec 32) : Fin 3 → Nat :=
  let c9_2366 : Index := 9#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6530 : Index := Scalar.indexCast v4859
  let c128_2367 : Index := 128#32
  ![9, v6530.toNat, 128]
def k0_off45 (i : grid0.Coords) (k0_t1 : Fin (k0_t1_loop i).trips) (c1_i32_1736 : BitVec 32) : Fin 3 → Nat :=
  let c10_2368 : Index := 10#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6534 : Index := Scalar.indexCast v4859
  let c128_2369 : Index := 128#32
  ![10, v6534.toNat, 128]
def k0_off46 (i : grid0.Coords) (k0_t1 : Fin (k0_t1_loop i).trips) (c1_i32_1736 : BitVec 32) : Fin 3 → Nat :=
  let c11_2370 : Index := 11#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6538 : Index := Scalar.indexCast v4859
  let c128_2371 : Index := 128#32
  ![11, v6538.toNat, 128]
def k0_off47 (i : grid0.Coords) (k0_t1 : Fin (k0_t1_loop i).trips) (c1_i32_1736 : BitVec 32) : Fin 3 → Nat :=
  let c12_2372 : Index := 12#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6542 : Index := Scalar.indexCast v4859
  let c128_2373 : Index := 128#32
  ![12, v6542.toNat, 128]
def k0_off48 (i : grid0.Coords) (k0_t1 : Fin (k0_t1_loop i).trips) (c1_i32_1736 : BitVec 32) : Fin 3 → Nat :=
  let c13_2374 : Index := 13#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6546 : Index := Scalar.indexCast v4859
  let c128_2375 : Index := 128#32
  ![13, v6546.toNat, 128]
def k0_off49 (i : grid0.Coords) (k0_t1 : Fin (k0_t1_loop i).trips) (c1_i32_1736 : BitVec 32) : Fin 3 → Nat :=
  let c14_2376 : Index := 14#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6550 : Index := Scalar.indexCast v4859
  let c128_2377 : Index := 128#32
  ![14, v6550.toNat, 128]
def k0_off50 (i : grid0.Coords) (k0_t1 : Fin (k0_t1_loop i).trips) (c1_i32_1736 : BitVec 32) : Fin 3 → Nat :=
  let c15_2378 : Index := 15#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6554 : Index := Scalar.indexCast v4859
  let c128_2379 : Index := 128#32
  ![15, v6554.toNat, 128]
def k0_off51 (i : grid0.Coords) (k0_t1 : Fin (k0_t1_loop i).trips) (c1_i32_1736 : BitVec 32) : Fin 3 → Nat :=
  let c16_2380 : Index := 16#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6558 : Index := Scalar.indexCast v4859
  let c128_2381 : Index := 128#32
  ![16, v6558.toNat, 128]
def k0_off52 (i : grid0.Coords) (k0_t1 : Fin (k0_t1_loop i).trips) (c1_i32_1736 : BitVec 32) : Fin 3 → Nat :=
  let c17_2382 : Index := 17#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6562 : Index := Scalar.indexCast v4859
  let c128_2383 : Index := 128#32
  ![17, v6562.toNat, 128]
def k0_off53 (i : grid0.Coords) (k0_t1 : Fin (k0_t1_loop i).trips) (c1_i32_1736 : BitVec 32) : Fin 3 → Nat :=
  let c18_2384 : Index := 18#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6566 : Index := Scalar.indexCast v4859
  let c128_2385 : Index := 128#32
  ![18, v6566.toNat, 128]
def k0_off54 (i : grid0.Coords) (k0_t1 : Fin (k0_t1_loop i).trips) (c1_i32_1736 : BitVec 32) : Fin 3 → Nat :=
  let c19_2386 : Index := 19#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6570 : Index := Scalar.indexCast v4859
  let c128_2387 : Index := 128#32
  ![19, v6570.toNat, 128]
def k0_off55 (i : grid0.Coords) (k0_t1 : Fin (k0_t1_loop i).trips) (c1_i32_1736 : BitVec 32) : Fin 3 → Nat :=
  let c20_2388 : Index := 20#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6574 : Index := Scalar.indexCast v4859
  let c128_2389 : Index := 128#32
  ![20, v6574.toNat, 128]
def k0_off56 (i : grid0.Coords) (k0_t1 : Fin (k0_t1_loop i).trips) (c1_i32_1736 : BitVec 32) : Fin 3 → Nat :=
  let c21_2390 : Index := 21#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6578 : Index := Scalar.indexCast v4859
  let c128_2391 : Index := 128#32
  ![21, v6578.toNat, 128]
def k0_off57 (i : grid0.Coords) (k0_t1 : Fin (k0_t1_loop i).trips) (c1_i32_1736 : BitVec 32) : Fin 3 → Nat :=
  let c22_2392 : Index := 22#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6582 : Index := Scalar.indexCast v4859
  let c128_2393 : Index := 128#32
  ![22, v6582.toNat, 128]
def k0_off58 (i : grid0.Coords) (k0_t1 : Fin (k0_t1_loop i).trips) (c1_i32_1736 : BitVec 32) : Fin 3 → Nat :=
  let c23_2394 : Index := 23#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6586 : Index := Scalar.indexCast v4859
  let c128_2395 : Index := 128#32
  ![23, v6586.toNat, 128]
def k0_off59 (i : grid0.Coords) (k0_t1 : Fin (k0_t1_loop i).trips) (c1_i32_1736 : BitVec 32) : Fin 3 → Nat :=
  let c24_2396 : Index := 24#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6590 : Index := Scalar.indexCast v4859
  let c128_2397 : Index := 128#32
  ![24, v6590.toNat, 128]
def k0_off60 (i : grid0.Coords) (k0_t1 : Fin (k0_t1_loop i).trips) (c1_i32_1736 : BitVec 32) : Fin 3 → Nat :=
  let c25_2398 : Index := 25#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6594 : Index := Scalar.indexCast v4859
  let c128_2399 : Index := 128#32
  ![25, v6594.toNat, 128]
def k0_off61 (i : grid0.Coords) (k0_t1 : Fin (k0_t1_loop i).trips) (c1_i32_1736 : BitVec 32) : Fin 3 → Nat :=
  let c26_2400 : Index := 26#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6598 : Index := Scalar.indexCast v4859
  let c128_2401 : Index := 128#32
  ![26, v6598.toNat, 128]
def k0_off62 (i : grid0.Coords) (k0_t1 : Fin (k0_t1_loop i).trips) (c1_i32_1736 : BitVec 32) : Fin 3 → Nat :=
  let c27_2402 : Index := 27#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6602 : Index := Scalar.indexCast v4859
  let c128_2403 : Index := 128#32
  ![27, v6602.toNat, 128]
def k0_off63 (i : grid0.Coords) (k0_t1 : Fin (k0_t1_loop i).trips) (c1_i32_1736 : BitVec 32) : Fin 3 → Nat :=
  let c28_2404 : Index := 28#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6606 : Index := Scalar.indexCast v4859
  let c128_2405 : Index := 128#32
  ![28, v6606.toNat, 128]
def k0_off64 (i : grid0.Coords) (k0_t1 : Fin (k0_t1_loop i).trips) (c1_i32_1736 : BitVec 32) : Fin 3 → Nat :=
  let c29_2406 : Index := 29#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6610 : Index := Scalar.indexCast v4859
  let c128_2407 : Index := 128#32
  ![29, v6610.toNat, 128]
def k0_off65 (i : grid0.Coords) (k0_t1 : Fin (k0_t1_loop i).trips) (c1_i32_1736 : BitVec 32) : Fin 3 → Nat :=
  let c30_2408 : Index := 30#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6614 : Index := Scalar.indexCast v4859
  let c128_2409 : Index := 128#32
  ![30, v6614.toNat, 128]
def k0_off66 (i : grid0.Coords) (k0_t1 : Fin (k0_t1_loop i).trips) (c1_i32_1736 : BitVec 32) : Fin 3 → Nat :=
  let c31_2410 : Index := 31#32
  let c2_i32_1735 : BitVec 32 := 2#32
  let c0_i32_62 : BitVec 32 := 0#32
  let c1_i32_64 : BitVec 32 := 1#32
  let arg21 : BitVec 32 := Scf.iv c0_i32_62 c1_i32_64 k0_t1
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6618 : Index := Scalar.indexCast v4859
  let c128_2411 : Index := 128#32
  ![31, v6618.toNat, 128]
def k0_mult6 (i : grid0.Coords) (k0_t1 : Fin (k0_t1_loop i).trips) : BitVec 32 :=
  let c2_i32_1733 : BitVec 32 := 2#32
  let c0_i32_62 : BitVec 32 := 0#32
  let c1_i32_64 : BitVec 32 := 1#32
  let arg21 : BitVec 32 := Scf.iv c0_i32_62 c1_i32_64 k0_t1
  let v4764 : BitVec 32 := Scalar.muli c2_i32_1733 arg21
  let c2_i32_1734 : BitVec 32 := 2#32
  let v4765 : BitVec 32 := Scalar.addi v4764 c2_i32_1734
  let c256_i32_2412 : BitVec 32 := 256#32
  let v6622 : BitVec 32 := Scalar.muli v4765 c256_i32_2412
  v6622
def k0_mult7 (i : grid0.Coords) (k0_t1 : Fin (k0_t1_loop i).trips) : BitVec 32 :=
  let c2_i32_1733 : BitVec 32 := 2#32
  let c0_i32_62 : BitVec 32 := 0#32
  let c1_i32_64 : BitVec 32 := 1#32
  let arg21 : BitVec 32 := Scf.iv c0_i32_62 c1_i32_64 k0_t1
  let v4764 : BitVec 32 := Scalar.muli c2_i32_1733 arg21
  let c2_i32_1734 : BitVec 32 := 2#32
  let v4765 : BitVec 32 := Scalar.addi v4764 c2_i32_1734
  let c256_i32_2473 : BitVec 32 := 256#32
  let v6705 : BitVec 32 := Scalar.muli v4765 c256_i32_2473
  v6705
def k0_mult8 (i : grid0.Coords) (k0_t1 : Fin (k0_t1_loop i).trips) : BitVec 32 :=
  let c2_i32_1733 : BitVec 32 := 2#32
  let c0_i32_62 : BitVec 32 := 0#32
  let c1_i32_64 : BitVec 32 := 1#32
  let arg21 : BitVec 32 := Scf.iv c0_i32_62 c1_i32_64 k0_t1
  let v4764 : BitVec 32 := Scalar.muli c2_i32_1733 arg21
  let c2_i32_1734 : BitVec 32 := 2#32
  let v4765 : BitVec 32 := Scalar.addi v4764 c2_i32_1734
  let c1_i32_2475 : BitVec 32 := 1#32
  let v6711 : BitVec 32 := Scalar.subi v4765 c1_i32_2475
  let c8_i32_2476 : BitVec 32 := 8#32
  let v6712 : BitVec 32 := Scalar.muli v6711 c8_i32_2476
  v6712
@[reducible] def k0_t2_loop (i : grid0.Coords) : Scf.Loop 32 :=
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let v113 : BitVec 32 := Scalar.addi c0_i32_62 v112
  let c1_i32_65 : BitVec 32 := 1#32
  ⟨v116, v113, c1_i32_65⟩
def k0_mult9 (i : grid0.Coords) (k0_t2 : Fin (k0_t2_loop i).trips) : BitVec 32 :=
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let c1_i32_1736 : BitVec 32 := 1#32
  let v4767 : BitVec 32 := Scalar.addi v4766 c1_i32_1736
  let c256_i32_1737 : BitVec 32 := 256#32
  let v4768 : BitVec 32 := Scalar.muli v4767 c256_i32_1737
  v4768
def k0_off67 (i : grid0.Coords) (k0_t2 : Fin (k0_t2_loop i).trips) (c1_i32_1736 : BitVec 32) : Fin 2 → Nat :=
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c256_i32_1737 : BitVec 32 := 256#32
  let v4768 : BitVec 32 := Scalar.muli v4767 c256_i32_1737
  let v4769 : BitVec 32 := v4768
  let v4770 : Index := Scalar.indexCast v4769
  let c0_1738 : Index := 0#32
  ![v4770.toNat, 0]
def k0_mult10 (i : grid0.Coords) (k0_t2 : Fin (k0_t2_loop i).trips) : BitVec 32 :=
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let c1_i32_1736 : BitVec 32 := 1#32
  let v4767 : BitVec 32 := Scalar.addi v4766 c1_i32_1736
  let c256_i32_1798 : BitVec 32 := 256#32
  let v4851 : BitVec 32 := Scalar.muli v4767 c256_i32_1798
  v4851
def k0_off68 (i : grid0.Coords) (k0_t2 : Fin (k0_t2_loop i).trips) (c1_i32_1736 : BitVec 32) : Fin 2 → Nat :=
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c256_i32_1798 : BitVec 32 := 256#32
  let v4851 : BitVec 32 := Scalar.muli v4767 c256_i32_1798
  let v4852 : BitVec 32 := v4851
  let v4853 : Index := Scalar.indexCast v4852
  let c0_1799 : Index := 0#32
  ![v4853.toNat, 0]
def k0_mult11 (i : grid0.Coords) (k0_t2 : Fin (k0_t2_loop i).trips) : BitVec 32 :=
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let c1_i32_1736 : BitVec 32 := 1#32
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  v4858
def k0_off69 (i : grid0.Coords) (k0_t2 : Fin (k0_t2_loop i).trips) (c1_i32_1736 : BitVec 32) : Fin 3 → Nat :=
  let c0_2043 : Index := 0#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5613 : Index := Scalar.indexCast v4859
  let c0_2044 : Index := 0#32
  ![0, v5613.toNat, 0]
def k0_off70 (i : grid0.Coords) (k0_t2 : Fin (k0_t2_loop i).trips) (c1_i32_1736 : BitVec 32) : Fin 3 → Nat :=
  let c1_2045 : Index := 1#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5617 : Index := Scalar.indexCast v4859
  let c0_2046 : Index := 0#32
  ![1, v5617.toNat, 0]
def k0_off71 (i : grid0.Coords) (k0_t2 : Fin (k0_t2_loop i).trips) (c1_i32_1736 : BitVec 32) : Fin 3 → Nat :=
  let c2_2047 : Index := 2#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5621 : Index := Scalar.indexCast v4859
  let c0_2048 : Index := 0#32
  ![2, v5621.toNat, 0]
def k0_off72 (i : grid0.Coords) (k0_t2 : Fin (k0_t2_loop i).trips) (c1_i32_1736 : BitVec 32) : Fin 3 → Nat :=
  let c3_2049 : Index := 3#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5625 : Index := Scalar.indexCast v4859
  let c0_2050 : Index := 0#32
  ![3, v5625.toNat, 0]
def k0_off73 (i : grid0.Coords) (k0_t2 : Fin (k0_t2_loop i).trips) (c1_i32_1736 : BitVec 32) : Fin 3 → Nat :=
  let c4_2051 : Index := 4#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5629 : Index := Scalar.indexCast v4859
  let c0_2052 : Index := 0#32
  ![4, v5629.toNat, 0]
def k0_off74 (i : grid0.Coords) (k0_t2 : Fin (k0_t2_loop i).trips) (c1_i32_1736 : BitVec 32) : Fin 3 → Nat :=
  let c5_2053 : Index := 5#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5633 : Index := Scalar.indexCast v4859
  let c0_2054 : Index := 0#32
  ![5, v5633.toNat, 0]
def k0_off75 (i : grid0.Coords) (k0_t2 : Fin (k0_t2_loop i).trips) (c1_i32_1736 : BitVec 32) : Fin 3 → Nat :=
  let c6_2055 : Index := 6#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5637 : Index := Scalar.indexCast v4859
  let c0_2056 : Index := 0#32
  ![6, v5637.toNat, 0]
def k0_off76 (i : grid0.Coords) (k0_t2 : Fin (k0_t2_loop i).trips) (c1_i32_1736 : BitVec 32) : Fin 3 → Nat :=
  let c7_2057 : Index := 7#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5641 : Index := Scalar.indexCast v4859
  let c0_2058 : Index := 0#32
  ![7, v5641.toNat, 0]
def k0_off77 (i : grid0.Coords) (k0_t2 : Fin (k0_t2_loop i).trips) (c1_i32_1736 : BitVec 32) : Fin 3 → Nat :=
  let c8_2059 : Index := 8#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5645 : Index := Scalar.indexCast v4859
  let c0_2060 : Index := 0#32
  ![8, v5645.toNat, 0]
def k0_off78 (i : grid0.Coords) (k0_t2 : Fin (k0_t2_loop i).trips) (c1_i32_1736 : BitVec 32) : Fin 3 → Nat :=
  let c9_2061 : Index := 9#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5649 : Index := Scalar.indexCast v4859
  let c0_2062 : Index := 0#32
  ![9, v5649.toNat, 0]
def k0_off79 (i : grid0.Coords) (k0_t2 : Fin (k0_t2_loop i).trips) (c1_i32_1736 : BitVec 32) : Fin 3 → Nat :=
  let c10_2063 : Index := 10#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5653 : Index := Scalar.indexCast v4859
  let c0_2064 : Index := 0#32
  ![10, v5653.toNat, 0]
def k0_off80 (i : grid0.Coords) (k0_t2 : Fin (k0_t2_loop i).trips) (c1_i32_1736 : BitVec 32) : Fin 3 → Nat :=
  let c11_2065 : Index := 11#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5657 : Index := Scalar.indexCast v4859
  let c0_2066 : Index := 0#32
  ![11, v5657.toNat, 0]
def k0_off81 (i : grid0.Coords) (k0_t2 : Fin (k0_t2_loop i).trips) (c1_i32_1736 : BitVec 32) : Fin 3 → Nat :=
  let c12_2067 : Index := 12#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5661 : Index := Scalar.indexCast v4859
  let c0_2068 : Index := 0#32
  ![12, v5661.toNat, 0]
def k0_off82 (i : grid0.Coords) (k0_t2 : Fin (k0_t2_loop i).trips) (c1_i32_1736 : BitVec 32) : Fin 3 → Nat :=
  let c13_2069 : Index := 13#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5665 : Index := Scalar.indexCast v4859
  let c0_2070 : Index := 0#32
  ![13, v5665.toNat, 0]
def k0_off83 (i : grid0.Coords) (k0_t2 : Fin (k0_t2_loop i).trips) (c1_i32_1736 : BitVec 32) : Fin 3 → Nat :=
  let c14_2071 : Index := 14#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5669 : Index := Scalar.indexCast v4859
  let c0_2072 : Index := 0#32
  ![14, v5669.toNat, 0]
def k0_off84 (i : grid0.Coords) (k0_t2 : Fin (k0_t2_loop i).trips) (c1_i32_1736 : BitVec 32) : Fin 3 → Nat :=
  let c15_2073 : Index := 15#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5673 : Index := Scalar.indexCast v4859
  let c0_2074 : Index := 0#32
  ![15, v5673.toNat, 0]
def k0_off85 (i : grid0.Coords) (k0_t2 : Fin (k0_t2_loop i).trips) (c1_i32_1736 : BitVec 32) : Fin 3 → Nat :=
  let c16_2075 : Index := 16#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5677 : Index := Scalar.indexCast v4859
  let c0_2076 : Index := 0#32
  ![16, v5677.toNat, 0]
def k0_off86 (i : grid0.Coords) (k0_t2 : Fin (k0_t2_loop i).trips) (c1_i32_1736 : BitVec 32) : Fin 3 → Nat :=
  let c17_2077 : Index := 17#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5681 : Index := Scalar.indexCast v4859
  let c0_2078 : Index := 0#32
  ![17, v5681.toNat, 0]
def k0_off87 (i : grid0.Coords) (k0_t2 : Fin (k0_t2_loop i).trips) (c1_i32_1736 : BitVec 32) : Fin 3 → Nat :=
  let c18_2079 : Index := 18#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5685 : Index := Scalar.indexCast v4859
  let c0_2080 : Index := 0#32
  ![18, v5685.toNat, 0]
def k0_off88 (i : grid0.Coords) (k0_t2 : Fin (k0_t2_loop i).trips) (c1_i32_1736 : BitVec 32) : Fin 3 → Nat :=
  let c19_2081 : Index := 19#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5689 : Index := Scalar.indexCast v4859
  let c0_2082 : Index := 0#32
  ![19, v5689.toNat, 0]
def k0_off89 (i : grid0.Coords) (k0_t2 : Fin (k0_t2_loop i).trips) (c1_i32_1736 : BitVec 32) : Fin 3 → Nat :=
  let c20_2083 : Index := 20#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5693 : Index := Scalar.indexCast v4859
  let c0_2084 : Index := 0#32
  ![20, v5693.toNat, 0]
def k0_off90 (i : grid0.Coords) (k0_t2 : Fin (k0_t2_loop i).trips) (c1_i32_1736 : BitVec 32) : Fin 3 → Nat :=
  let c21_2085 : Index := 21#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5697 : Index := Scalar.indexCast v4859
  let c0_2086 : Index := 0#32
  ![21, v5697.toNat, 0]
def k0_off91 (i : grid0.Coords) (k0_t2 : Fin (k0_t2_loop i).trips) (c1_i32_1736 : BitVec 32) : Fin 3 → Nat :=
  let c22_2087 : Index := 22#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5701 : Index := Scalar.indexCast v4859
  let c0_2088 : Index := 0#32
  ![22, v5701.toNat, 0]
def k0_off92 (i : grid0.Coords) (k0_t2 : Fin (k0_t2_loop i).trips) (c1_i32_1736 : BitVec 32) : Fin 3 → Nat :=
  let c23_2089 : Index := 23#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5705 : Index := Scalar.indexCast v4859
  let c0_2090 : Index := 0#32
  ![23, v5705.toNat, 0]
def k0_off93 (i : grid0.Coords) (k0_t2 : Fin (k0_t2_loop i).trips) (c1_i32_1736 : BitVec 32) : Fin 3 → Nat :=
  let c24_2091 : Index := 24#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5709 : Index := Scalar.indexCast v4859
  let c0_2092 : Index := 0#32
  ![24, v5709.toNat, 0]
def k0_off94 (i : grid0.Coords) (k0_t2 : Fin (k0_t2_loop i).trips) (c1_i32_1736 : BitVec 32) : Fin 3 → Nat :=
  let c25_2093 : Index := 25#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5713 : Index := Scalar.indexCast v4859
  let c0_2094 : Index := 0#32
  ![25, v5713.toNat, 0]
def k0_off95 (i : grid0.Coords) (k0_t2 : Fin (k0_t2_loop i).trips) (c1_i32_1736 : BitVec 32) : Fin 3 → Nat :=
  let c26_2095 : Index := 26#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5717 : Index := Scalar.indexCast v4859
  let c0_2096 : Index := 0#32
  ![26, v5717.toNat, 0]
def k0_off96 (i : grid0.Coords) (k0_t2 : Fin (k0_t2_loop i).trips) (c1_i32_1736 : BitVec 32) : Fin 3 → Nat :=
  let c27_2097 : Index := 27#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5721 : Index := Scalar.indexCast v4859
  let c0_2098 : Index := 0#32
  ![27, v5721.toNat, 0]
def k0_off97 (i : grid0.Coords) (k0_t2 : Fin (k0_t2_loop i).trips) (c1_i32_1736 : BitVec 32) : Fin 3 → Nat :=
  let c28_2099 : Index := 28#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5725 : Index := Scalar.indexCast v4859
  let c0_2100 : Index := 0#32
  ![28, v5725.toNat, 0]
def k0_off98 (i : grid0.Coords) (k0_t2 : Fin (k0_t2_loop i).trips) (c1_i32_1736 : BitVec 32) : Fin 3 → Nat :=
  let c29_2101 : Index := 29#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5729 : Index := Scalar.indexCast v4859
  let c0_2102 : Index := 0#32
  ![29, v5729.toNat, 0]
def k0_off99 (i : grid0.Coords) (k0_t2 : Fin (k0_t2_loop i).trips) (c1_i32_1736 : BitVec 32) : Fin 3 → Nat :=
  let c30_2103 : Index := 30#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5733 : Index := Scalar.indexCast v4859
  let c0_2104 : Index := 0#32
  ![30, v5733.toNat, 0]
def k0_off100 (i : grid0.Coords) (k0_t2 : Fin (k0_t2_loop i).trips) (c1_i32_1736 : BitVec 32) : Fin 3 → Nat :=
  let c31_2105 : Index := 31#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v5737 : Index := Scalar.indexCast v4859
  let c0_2106 : Index := 0#32
  ![31, v5737.toNat, 0]
def k0_off101 (i : grid0.Coords) (k0_t2 : Fin (k0_t2_loop i).trips) (c1_i32_1736 : BitVec 32) : Fin 3 → Nat :=
  let c0_2348 : Index := 0#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6494 : Index := Scalar.indexCast v4859
  let c128_2349 : Index := 128#32
  ![0, v6494.toNat, 128]
def k0_off102 (i : grid0.Coords) (k0_t2 : Fin (k0_t2_loop i).trips) (c1_i32_1736 : BitVec 32) : Fin 3 → Nat :=
  let c1_2350 : Index := 1#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6498 : Index := Scalar.indexCast v4859
  let c128_2351 : Index := 128#32
  ![1, v6498.toNat, 128]
def k0_off103 (i : grid0.Coords) (k0_t2 : Fin (k0_t2_loop i).trips) (c1_i32_1736 : BitVec 32) : Fin 3 → Nat :=
  let c2_2352 : Index := 2#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6502 : Index := Scalar.indexCast v4859
  let c128_2353 : Index := 128#32
  ![2, v6502.toNat, 128]
def k0_off104 (i : grid0.Coords) (k0_t2 : Fin (k0_t2_loop i).trips) (c1_i32_1736 : BitVec 32) : Fin 3 → Nat :=
  let c3_2354 : Index := 3#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6506 : Index := Scalar.indexCast v4859
  let c128_2355 : Index := 128#32
  ![3, v6506.toNat, 128]
def k0_off105 (i : grid0.Coords) (k0_t2 : Fin (k0_t2_loop i).trips) (c1_i32_1736 : BitVec 32) : Fin 3 → Nat :=
  let c4_2356 : Index := 4#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6510 : Index := Scalar.indexCast v4859
  let c128_2357 : Index := 128#32
  ![4, v6510.toNat, 128]
def k0_off106 (i : grid0.Coords) (k0_t2 : Fin (k0_t2_loop i).trips) (c1_i32_1736 : BitVec 32) : Fin 3 → Nat :=
  let c5_2358 : Index := 5#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6514 : Index := Scalar.indexCast v4859
  let c128_2359 : Index := 128#32
  ![5, v6514.toNat, 128]
def k0_off107 (i : grid0.Coords) (k0_t2 : Fin (k0_t2_loop i).trips) (c1_i32_1736 : BitVec 32) : Fin 3 → Nat :=
  let c6_2360 : Index := 6#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6518 : Index := Scalar.indexCast v4859
  let c128_2361 : Index := 128#32
  ![6, v6518.toNat, 128]
def k0_off108 (i : grid0.Coords) (k0_t2 : Fin (k0_t2_loop i).trips) (c1_i32_1736 : BitVec 32) : Fin 3 → Nat :=
  let c7_2362 : Index := 7#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6522 : Index := Scalar.indexCast v4859
  let c128_2363 : Index := 128#32
  ![7, v6522.toNat, 128]
def k0_off109 (i : grid0.Coords) (k0_t2 : Fin (k0_t2_loop i).trips) (c1_i32_1736 : BitVec 32) : Fin 3 → Nat :=
  let c8_2364 : Index := 8#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6526 : Index := Scalar.indexCast v4859
  let c128_2365 : Index := 128#32
  ![8, v6526.toNat, 128]
def k0_off110 (i : grid0.Coords) (k0_t2 : Fin (k0_t2_loop i).trips) (c1_i32_1736 : BitVec 32) : Fin 3 → Nat :=
  let c9_2366 : Index := 9#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6530 : Index := Scalar.indexCast v4859
  let c128_2367 : Index := 128#32
  ![9, v6530.toNat, 128]
def k0_off111 (i : grid0.Coords) (k0_t2 : Fin (k0_t2_loop i).trips) (c1_i32_1736 : BitVec 32) : Fin 3 → Nat :=
  let c10_2368 : Index := 10#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6534 : Index := Scalar.indexCast v4859
  let c128_2369 : Index := 128#32
  ![10, v6534.toNat, 128]
def k0_off112 (i : grid0.Coords) (k0_t2 : Fin (k0_t2_loop i).trips) (c1_i32_1736 : BitVec 32) : Fin 3 → Nat :=
  let c11_2370 : Index := 11#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6538 : Index := Scalar.indexCast v4859
  let c128_2371 : Index := 128#32
  ![11, v6538.toNat, 128]
def k0_off113 (i : grid0.Coords) (k0_t2 : Fin (k0_t2_loop i).trips) (c1_i32_1736 : BitVec 32) : Fin 3 → Nat :=
  let c12_2372 : Index := 12#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6542 : Index := Scalar.indexCast v4859
  let c128_2373 : Index := 128#32
  ![12, v6542.toNat, 128]
def k0_off114 (i : grid0.Coords) (k0_t2 : Fin (k0_t2_loop i).trips) (c1_i32_1736 : BitVec 32) : Fin 3 → Nat :=
  let c13_2374 : Index := 13#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6546 : Index := Scalar.indexCast v4859
  let c128_2375 : Index := 128#32
  ![13, v6546.toNat, 128]
def k0_off115 (i : grid0.Coords) (k0_t2 : Fin (k0_t2_loop i).trips) (c1_i32_1736 : BitVec 32) : Fin 3 → Nat :=
  let c14_2376 : Index := 14#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6550 : Index := Scalar.indexCast v4859
  let c128_2377 : Index := 128#32
  ![14, v6550.toNat, 128]
def k0_off116 (i : grid0.Coords) (k0_t2 : Fin (k0_t2_loop i).trips) (c1_i32_1736 : BitVec 32) : Fin 3 → Nat :=
  let c15_2378 : Index := 15#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6554 : Index := Scalar.indexCast v4859
  let c128_2379 : Index := 128#32
  ![15, v6554.toNat, 128]
def k0_off117 (i : grid0.Coords) (k0_t2 : Fin (k0_t2_loop i).trips) (c1_i32_1736 : BitVec 32) : Fin 3 → Nat :=
  let c16_2380 : Index := 16#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6558 : Index := Scalar.indexCast v4859
  let c128_2381 : Index := 128#32
  ![16, v6558.toNat, 128]
def k0_off118 (i : grid0.Coords) (k0_t2 : Fin (k0_t2_loop i).trips) (c1_i32_1736 : BitVec 32) : Fin 3 → Nat :=
  let c17_2382 : Index := 17#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6562 : Index := Scalar.indexCast v4859
  let c128_2383 : Index := 128#32
  ![17, v6562.toNat, 128]
def k0_off119 (i : grid0.Coords) (k0_t2 : Fin (k0_t2_loop i).trips) (c1_i32_1736 : BitVec 32) : Fin 3 → Nat :=
  let c18_2384 : Index := 18#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6566 : Index := Scalar.indexCast v4859
  let c128_2385 : Index := 128#32
  ![18, v6566.toNat, 128]
def k0_off120 (i : grid0.Coords) (k0_t2 : Fin (k0_t2_loop i).trips) (c1_i32_1736 : BitVec 32) : Fin 3 → Nat :=
  let c19_2386 : Index := 19#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6570 : Index := Scalar.indexCast v4859
  let c128_2387 : Index := 128#32
  ![19, v6570.toNat, 128]
def k0_off121 (i : grid0.Coords) (k0_t2 : Fin (k0_t2_loop i).trips) (c1_i32_1736 : BitVec 32) : Fin 3 → Nat :=
  let c20_2388 : Index := 20#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6574 : Index := Scalar.indexCast v4859
  let c128_2389 : Index := 128#32
  ![20, v6574.toNat, 128]
def k0_off122 (i : grid0.Coords) (k0_t2 : Fin (k0_t2_loop i).trips) (c1_i32_1736 : BitVec 32) : Fin 3 → Nat :=
  let c21_2390 : Index := 21#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6578 : Index := Scalar.indexCast v4859
  let c128_2391 : Index := 128#32
  ![21, v6578.toNat, 128]
def k0_off123 (i : grid0.Coords) (k0_t2 : Fin (k0_t2_loop i).trips) (c1_i32_1736 : BitVec 32) : Fin 3 → Nat :=
  let c22_2392 : Index := 22#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6582 : Index := Scalar.indexCast v4859
  let c128_2393 : Index := 128#32
  ![22, v6582.toNat, 128]
def k0_off124 (i : grid0.Coords) (k0_t2 : Fin (k0_t2_loop i).trips) (c1_i32_1736 : BitVec 32) : Fin 3 → Nat :=
  let c23_2394 : Index := 23#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6586 : Index := Scalar.indexCast v4859
  let c128_2395 : Index := 128#32
  ![23, v6586.toNat, 128]
def k0_off125 (i : grid0.Coords) (k0_t2 : Fin (k0_t2_loop i).trips) (c1_i32_1736 : BitVec 32) : Fin 3 → Nat :=
  let c24_2396 : Index := 24#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6590 : Index := Scalar.indexCast v4859
  let c128_2397 : Index := 128#32
  ![24, v6590.toNat, 128]
def k0_off126 (i : grid0.Coords) (k0_t2 : Fin (k0_t2_loop i).trips) (c1_i32_1736 : BitVec 32) : Fin 3 → Nat :=
  let c25_2398 : Index := 25#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6594 : Index := Scalar.indexCast v4859
  let c128_2399 : Index := 128#32
  ![25, v6594.toNat, 128]
def k0_off127 (i : grid0.Coords) (k0_t2 : Fin (k0_t2_loop i).trips) (c1_i32_1736 : BitVec 32) : Fin 3 → Nat :=
  let c26_2400 : Index := 26#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6598 : Index := Scalar.indexCast v4859
  let c128_2401 : Index := 128#32
  ![26, v6598.toNat, 128]
def k0_off128 (i : grid0.Coords) (k0_t2 : Fin (k0_t2_loop i).trips) (c1_i32_1736 : BitVec 32) : Fin 3 → Nat :=
  let c27_2402 : Index := 27#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6602 : Index := Scalar.indexCast v4859
  let c128_2403 : Index := 128#32
  ![27, v6602.toNat, 128]
def k0_off129 (i : grid0.Coords) (k0_t2 : Fin (k0_t2_loop i).trips) (c1_i32_1736 : BitVec 32) : Fin 3 → Nat :=
  let c28_2404 : Index := 28#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6606 : Index := Scalar.indexCast v4859
  let c128_2405 : Index := 128#32
  ![28, v6606.toNat, 128]
def k0_off130 (i : grid0.Coords) (k0_t2 : Fin (k0_t2_loop i).trips) (c1_i32_1736 : BitVec 32) : Fin 3 → Nat :=
  let c29_2406 : Index := 29#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6610 : Index := Scalar.indexCast v4859
  let c128_2407 : Index := 128#32
  ![29, v6610.toNat, 128]
def k0_off131 (i : grid0.Coords) (k0_t2 : Fin (k0_t2_loop i).trips) (c1_i32_1736 : BitVec 32) : Fin 3 → Nat :=
  let c30_2408 : Index := 30#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6614 : Index := Scalar.indexCast v4859
  let c128_2409 : Index := 128#32
  ![30, v6614.toNat, 128]
def k0_off132 (i : grid0.Coords) (k0_t2 : Fin (k0_t2_loop i).trips) (c1_i32_1736 : BitVec 32) : Fin 3 → Nat :=
  let c31_2410 : Index := 31#32
  let c2_i32_1735 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4766 : BitVec 32 := Scalar.muli c2_i32_1735 arg21
  let v4767 : BitVec 32 := Scalar.addi v4766 c1_i32_1736
  let c1_i32_1800 : BitVec 32 := 1#32
  let v4857 : BitVec 32 := Scalar.subi v4767 c1_i32_1800
  let c8_i32_1801 : BitVec 32 := 8#32
  let v4858 : BitVec 32 := Scalar.muli v4857 c8_i32_1801
  let v4859 : BitVec 32 := v4858
  let v6618 : Index := Scalar.indexCast v4859
  let c128_2411 : Index := 128#32
  ![31, v6618.toNat, 128]
def k0_mult12 (i : grid0.Coords) (k0_t2 : Fin (k0_t2_loop i).trips) : BitVec 32 :=
  let c2_i32_1733 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4764 : BitVec 32 := Scalar.muli c2_i32_1733 arg21
  let c2_i32_1734 : BitVec 32 := 2#32
  let v4765 : BitVec 32 := Scalar.addi v4764 c2_i32_1734
  let c256_i32_2412 : BitVec 32 := 256#32
  let v6622 : BitVec 32 := Scalar.muli v4765 c256_i32_2412
  v6622
def k0_mult13 (i : grid0.Coords) (k0_t2 : Fin (k0_t2_loop i).trips) : BitVec 32 :=
  let c2_i32_1733 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4764 : BitVec 32 := Scalar.muli c2_i32_1733 arg21
  let c2_i32_1734 : BitVec 32 := 2#32
  let v4765 : BitVec 32 := Scalar.addi v4764 c2_i32_1734
  let c256_i32_2473 : BitVec 32 := 256#32
  let v6705 : BitVec 32 := Scalar.muli v4765 c256_i32_2473
  v6705
def k0_mult14 (i : grid0.Coords) (k0_t2 : Fin (k0_t2_loop i).trips) : BitVec 32 :=
  let c2_i32_1733 : BitVec 32 := 2#32
  let c0_i32_62 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c2_i32 : BitVec 32 := 2#32
  let c0_i32_6 : BitVec 32 := 0#32
  let v14 : BitVec 1 := Scalar.cmpi .sgt c2_i32 c0_i32_6
  let v15 : BitVec 32 := Scalar.extui v14
  let c0_i32_7 : BitVec 32 := 0#32
  let v16 : BitVec 1 := Scalar.cmpi .slt c2_i32 c0_i32_7
  let v17 : BitVec 32 := Scalar.extui v16
  let v18 : BitVec 32 := Scalar.subi v15 v17
  let v19 : BitVec 1 := Scalar.cmpi .ne v13 v18
  let v20 : BitVec 32 := Scalar.remsi v7 c2_i32
  let c0_i32_8 : BitVec 32 := 0#32
  let v21 : BitVec 1 := Scalar.cmpi .ne v20 c0_i32_8
  let v22 : BitVec 1 := Scalar.andi v19 v21
  let v8 : BitVec 32 := Scalar.divsi v7 c2_i32
  let c1_i32_9 : BitVec 32 := 1#32
  let v23 : BitVec 32 := Scalar.subi v8 c1_i32_9
  let v24 : BitVec 32 := Scalar.select v22 v23 v8
  let v112 : BitVec 32 := Scalar.subi v24 c0_i32_62
  let c1_i32_63 : BitVec 32 := 1#32
  let v114 : BitVec 32 := Scalar.divsi v112 c1_i32_63
  let v115 : BitVec 32 := Scalar.muli v114 c1_i32_63
  let v116 : BitVec 32 := Scalar.addi c0_i32_62 v115
  let c1_i32_65 : BitVec 32 := 1#32
  let arg21 : BitVec 32 := Scf.iv v116 c1_i32_65 k0_t2
  let v4764 : BitVec 32 := Scalar.muli c2_i32_1733 arg21
  let c2_i32_1734 : BitVec 32 := 2#32
  let v4765 : BitVec 32 := Scalar.addi v4764 c2_i32_1734
  let c1_i32_2475 : BitVec 32 := 1#32
  let v6711 : BitVec 32 := Scalar.subi v4765 c1_i32_2475
  let c8_i32_2476 : BitVec 32 := 8#32
  let v6712 : BitVec 32 := Scalar.muli v6711 c8_i32_2476
  v6712
def k0_cond2 (i : grid0.Coords) : BitVec 1 :=
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c2_i32_66 : BitVec 32 := 2#32
  let c0_i32_67 : BitVec 32 := 0#32
  let v119 : BitVec 1 := Scalar.cmpi .eq c2_i32_66 c0_i32_67
  let c1_i32_68 : BitVec 32 := 1#32
  let v120 : BitVec 32 := Scalar.select v119 c1_i32_68 c2_i32_66
  let v121 : BitVec 32 := Scalar.remsi v7 v120
  let c0_i32_70 : BitVec 32 := 0#32
  let v123 : BitVec 1 := Scalar.cmpi .slt v121 c0_i32_70
  let c0_i32_71 : BitVec 32 := 0#32
  let v124 : BitVec 1 := Scalar.cmpi .slt v120 c0_i32_71
  let v125 : BitVec 1 := Scalar.xori v123 v124
  let c0_i32_69 : BitVec 32 := 0#32
  let v122 : BitVec 1 := Scalar.cmpi .ne v121 c0_i32_69
  let v126 : BitVec 1 := Scalar.andi v125 v122
  let v127 : BitVec 32 := Scalar.addi v121 v120
  let v128 : BitVec 32 := Scalar.select v126 v127 v121
  let c1_i32_72 : BitVec 32 := 1#32
  let v129 : BitVec 1 := Scalar.cmpi .eq v128 c1_i32_72
  let v130 : BitVec 32 := Scalar.extui v129
  let c0_i32_73 : BitVec 32 := 0#32
  let v131 : BitVec 1 := Scalar.cmpi .ne v130 c0_i32_73
  v131

def k0_mult15 (i : grid0.Coords) : BitVec 32 :=
  let arg1 : BitVec 32 := BitVec.ofNat 32 (i 1).val
  let c1_i32_1733 : BitVec 32 := 1#32
  let v4764 : BitVec 32 := Scalar.subi arg1 c1_i32_1733
  let c256_i32_1734 : BitVec 32 := 256#32
  let v4765 : BitVec 32 := Scalar.muli v4764 c256_i32_1734
  v4765
def k0_off133 (i : grid0.Coords) : Fin 2 → Nat :=
  let arg1 : BitVec 32 := BitVec.ofNat 32 (i 1).val
  let c1_i32_1733 : BitVec 32 := 1#32
  let v4764 : BitVec 32 := Scalar.subi arg1 c1_i32_1733
  let c256_i32_1734 : BitVec 32 := 256#32
  let v4765 : BitVec 32 := Scalar.muli v4764 c256_i32_1734
  let v4766 : BitVec 32 := v4765
  let v4767 : Index := Scalar.indexCast v4766
  let c0_1735 : Index := 0#32
  ![v4767.toNat, 0]
def k0_mult16 (i : grid0.Coords) : BitVec 32 :=
  let arg1 : BitVec 32 := BitVec.ofNat 32 (i 1).val
  let c1_i32_1733 : BitVec 32 := 1#32
  let v4764 : BitVec 32 := Scalar.subi arg1 c1_i32_1733
  let c256_i32_1795 : BitVec 32 := 256#32
  let v4848 : BitVec 32 := Scalar.muli v4764 c256_i32_1795
  v4848
def k0_off134 (i : grid0.Coords) : Fin 2 → Nat :=
  let arg1 : BitVec 32 := BitVec.ofNat 32 (i 1).val
  let c1_i32_1733 : BitVec 32 := 1#32
  let v4764 : BitVec 32 := Scalar.subi arg1 c1_i32_1733
  let c256_i32_1795 : BitVec 32 := 256#32
  let v4848 : BitVec 32 := Scalar.muli v4764 c256_i32_1795
  let v4849 : BitVec 32 := v4848
  let v4850 : Index := Scalar.indexCast v4849
  let c0_1796 : Index := 0#32
  ![v4850.toNat, 0]
def k0_mult17 (i : grid0.Coords) : BitVec 32 :=
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  v4855
def k0_off135 (i : grid0.Coords) : Fin 3 → Nat :=
  let c0_2040 : Index := 0#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5610 : Index := Scalar.indexCast v4856
  let c0_2041 : Index := 0#32
  ![0, v5610.toNat, 0]
def k0_off136 (i : grid0.Coords) : Fin 3 → Nat :=
  let c1_2042 : Index := 1#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5614 : Index := Scalar.indexCast v4856
  let c0_2043 : Index := 0#32
  ![1, v5614.toNat, 0]
def k0_off137 (i : grid0.Coords) : Fin 3 → Nat :=
  let c2_2044 : Index := 2#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5618 : Index := Scalar.indexCast v4856
  let c0_2045 : Index := 0#32
  ![2, v5618.toNat, 0]
def k0_off138 (i : grid0.Coords) : Fin 3 → Nat :=
  let c3_2046 : Index := 3#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5622 : Index := Scalar.indexCast v4856
  let c0_2047 : Index := 0#32
  ![3, v5622.toNat, 0]
def k0_off139 (i : grid0.Coords) : Fin 3 → Nat :=
  let c4_2048 : Index := 4#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5626 : Index := Scalar.indexCast v4856
  let c0_2049 : Index := 0#32
  ![4, v5626.toNat, 0]
def k0_off140 (i : grid0.Coords) : Fin 3 → Nat :=
  let c5_2050 : Index := 5#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5630 : Index := Scalar.indexCast v4856
  let c0_2051 : Index := 0#32
  ![5, v5630.toNat, 0]
def k0_off141 (i : grid0.Coords) : Fin 3 → Nat :=
  let c6_2052 : Index := 6#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5634 : Index := Scalar.indexCast v4856
  let c0_2053 : Index := 0#32
  ![6, v5634.toNat, 0]
def k0_off142 (i : grid0.Coords) : Fin 3 → Nat :=
  let c7_2054 : Index := 7#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5638 : Index := Scalar.indexCast v4856
  let c0_2055 : Index := 0#32
  ![7, v5638.toNat, 0]
def k0_off143 (i : grid0.Coords) : Fin 3 → Nat :=
  let c8_2056 : Index := 8#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5642 : Index := Scalar.indexCast v4856
  let c0_2057 : Index := 0#32
  ![8, v5642.toNat, 0]
def k0_off144 (i : grid0.Coords) : Fin 3 → Nat :=
  let c9_2058 : Index := 9#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5646 : Index := Scalar.indexCast v4856
  let c0_2059 : Index := 0#32
  ![9, v5646.toNat, 0]
def k0_off145 (i : grid0.Coords) : Fin 3 → Nat :=
  let c10_2060 : Index := 10#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5650 : Index := Scalar.indexCast v4856
  let c0_2061 : Index := 0#32
  ![10, v5650.toNat, 0]
def k0_off146 (i : grid0.Coords) : Fin 3 → Nat :=
  let c11_2062 : Index := 11#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5654 : Index := Scalar.indexCast v4856
  let c0_2063 : Index := 0#32
  ![11, v5654.toNat, 0]
def k0_off147 (i : grid0.Coords) : Fin 3 → Nat :=
  let c12_2064 : Index := 12#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5658 : Index := Scalar.indexCast v4856
  let c0_2065 : Index := 0#32
  ![12, v5658.toNat, 0]
def k0_off148 (i : grid0.Coords) : Fin 3 → Nat :=
  let c13_2066 : Index := 13#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5662 : Index := Scalar.indexCast v4856
  let c0_2067 : Index := 0#32
  ![13, v5662.toNat, 0]
def k0_off149 (i : grid0.Coords) : Fin 3 → Nat :=
  let c14_2068 : Index := 14#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5666 : Index := Scalar.indexCast v4856
  let c0_2069 : Index := 0#32
  ![14, v5666.toNat, 0]
def k0_off150 (i : grid0.Coords) : Fin 3 → Nat :=
  let c15_2070 : Index := 15#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5670 : Index := Scalar.indexCast v4856
  let c0_2071 : Index := 0#32
  ![15, v5670.toNat, 0]
def k0_off151 (i : grid0.Coords) : Fin 3 → Nat :=
  let c16_2072 : Index := 16#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5674 : Index := Scalar.indexCast v4856
  let c0_2073 : Index := 0#32
  ![16, v5674.toNat, 0]
def k0_off152 (i : grid0.Coords) : Fin 3 → Nat :=
  let c17_2074 : Index := 17#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5678 : Index := Scalar.indexCast v4856
  let c0_2075 : Index := 0#32
  ![17, v5678.toNat, 0]
def k0_off153 (i : grid0.Coords) : Fin 3 → Nat :=
  let c18_2076 : Index := 18#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5682 : Index := Scalar.indexCast v4856
  let c0_2077 : Index := 0#32
  ![18, v5682.toNat, 0]
def k0_off154 (i : grid0.Coords) : Fin 3 → Nat :=
  let c19_2078 : Index := 19#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5686 : Index := Scalar.indexCast v4856
  let c0_2079 : Index := 0#32
  ![19, v5686.toNat, 0]
def k0_off155 (i : grid0.Coords) : Fin 3 → Nat :=
  let c20_2080 : Index := 20#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5690 : Index := Scalar.indexCast v4856
  let c0_2081 : Index := 0#32
  ![20, v5690.toNat, 0]
def k0_off156 (i : grid0.Coords) : Fin 3 → Nat :=
  let c21_2082 : Index := 21#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5694 : Index := Scalar.indexCast v4856
  let c0_2083 : Index := 0#32
  ![21, v5694.toNat, 0]
def k0_off157 (i : grid0.Coords) : Fin 3 → Nat :=
  let c22_2084 : Index := 22#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5698 : Index := Scalar.indexCast v4856
  let c0_2085 : Index := 0#32
  ![22, v5698.toNat, 0]
def k0_off158 (i : grid0.Coords) : Fin 3 → Nat :=
  let c23_2086 : Index := 23#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5702 : Index := Scalar.indexCast v4856
  let c0_2087 : Index := 0#32
  ![23, v5702.toNat, 0]
def k0_off159 (i : grid0.Coords) : Fin 3 → Nat :=
  let c24_2088 : Index := 24#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5706 : Index := Scalar.indexCast v4856
  let c0_2089 : Index := 0#32
  ![24, v5706.toNat, 0]
def k0_off160 (i : grid0.Coords) : Fin 3 → Nat :=
  let c25_2090 : Index := 25#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5710 : Index := Scalar.indexCast v4856
  let c0_2091 : Index := 0#32
  ![25, v5710.toNat, 0]
def k0_off161 (i : grid0.Coords) : Fin 3 → Nat :=
  let c26_2092 : Index := 26#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5714 : Index := Scalar.indexCast v4856
  let c0_2093 : Index := 0#32
  ![26, v5714.toNat, 0]
def k0_off162 (i : grid0.Coords) : Fin 3 → Nat :=
  let c27_2094 : Index := 27#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5718 : Index := Scalar.indexCast v4856
  let c0_2095 : Index := 0#32
  ![27, v5718.toNat, 0]
def k0_off163 (i : grid0.Coords) : Fin 3 → Nat :=
  let c28_2096 : Index := 28#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5722 : Index := Scalar.indexCast v4856
  let c0_2097 : Index := 0#32
  ![28, v5722.toNat, 0]
def k0_off164 (i : grid0.Coords) : Fin 3 → Nat :=
  let c29_2098 : Index := 29#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5726 : Index := Scalar.indexCast v4856
  let c0_2099 : Index := 0#32
  ![29, v5726.toNat, 0]
def k0_off165 (i : grid0.Coords) : Fin 3 → Nat :=
  let c30_2100 : Index := 30#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5730 : Index := Scalar.indexCast v4856
  let c0_2101 : Index := 0#32
  ![30, v5730.toNat, 0]
def k0_off166 (i : grid0.Coords) : Fin 3 → Nat :=
  let c31_2102 : Index := 31#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v5734 : Index := Scalar.indexCast v4856
  let c0_2103 : Index := 0#32
  ![31, v5734.toNat, 0]
def k0_off167 (i : grid0.Coords) : Fin 3 → Nat :=
  let c0_2345 : Index := 0#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6491 : Index := Scalar.indexCast v4856
  let c128_2346 : Index := 128#32
  ![0, v6491.toNat, 128]
def k0_off168 (i : grid0.Coords) : Fin 3 → Nat :=
  let c1_2347 : Index := 1#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6495 : Index := Scalar.indexCast v4856
  let c128_2348 : Index := 128#32
  ![1, v6495.toNat, 128]
def k0_off169 (i : grid0.Coords) : Fin 3 → Nat :=
  let c2_2349 : Index := 2#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6499 : Index := Scalar.indexCast v4856
  let c128_2350 : Index := 128#32
  ![2, v6499.toNat, 128]
def k0_off170 (i : grid0.Coords) : Fin 3 → Nat :=
  let c3_2351 : Index := 3#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6503 : Index := Scalar.indexCast v4856
  let c128_2352 : Index := 128#32
  ![3, v6503.toNat, 128]
def k0_off171 (i : grid0.Coords) : Fin 3 → Nat :=
  let c4_2353 : Index := 4#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6507 : Index := Scalar.indexCast v4856
  let c128_2354 : Index := 128#32
  ![4, v6507.toNat, 128]
def k0_off172 (i : grid0.Coords) : Fin 3 → Nat :=
  let c5_2355 : Index := 5#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6511 : Index := Scalar.indexCast v4856
  let c128_2356 : Index := 128#32
  ![5, v6511.toNat, 128]
def k0_off173 (i : grid0.Coords) : Fin 3 → Nat :=
  let c6_2357 : Index := 6#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6515 : Index := Scalar.indexCast v4856
  let c128_2358 : Index := 128#32
  ![6, v6515.toNat, 128]
def k0_off174 (i : grid0.Coords) : Fin 3 → Nat :=
  let c7_2359 : Index := 7#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6519 : Index := Scalar.indexCast v4856
  let c128_2360 : Index := 128#32
  ![7, v6519.toNat, 128]
def k0_off175 (i : grid0.Coords) : Fin 3 → Nat :=
  let c8_2361 : Index := 8#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6523 : Index := Scalar.indexCast v4856
  let c128_2362 : Index := 128#32
  ![8, v6523.toNat, 128]
def k0_off176 (i : grid0.Coords) : Fin 3 → Nat :=
  let c9_2363 : Index := 9#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6527 : Index := Scalar.indexCast v4856
  let c128_2364 : Index := 128#32
  ![9, v6527.toNat, 128]
def k0_off177 (i : grid0.Coords) : Fin 3 → Nat :=
  let c10_2365 : Index := 10#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6531 : Index := Scalar.indexCast v4856
  let c128_2366 : Index := 128#32
  ![10, v6531.toNat, 128]
def k0_off178 (i : grid0.Coords) : Fin 3 → Nat :=
  let c11_2367 : Index := 11#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6535 : Index := Scalar.indexCast v4856
  let c128_2368 : Index := 128#32
  ![11, v6535.toNat, 128]
def k0_off179 (i : grid0.Coords) : Fin 3 → Nat :=
  let c12_2369 : Index := 12#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6539 : Index := Scalar.indexCast v4856
  let c128_2370 : Index := 128#32
  ![12, v6539.toNat, 128]
def k0_off180 (i : grid0.Coords) : Fin 3 → Nat :=
  let c13_2371 : Index := 13#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6543 : Index := Scalar.indexCast v4856
  let c128_2372 : Index := 128#32
  ![13, v6543.toNat, 128]
def k0_off181 (i : grid0.Coords) : Fin 3 → Nat :=
  let c14_2373 : Index := 14#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6547 : Index := Scalar.indexCast v4856
  let c128_2374 : Index := 128#32
  ![14, v6547.toNat, 128]
def k0_off182 (i : grid0.Coords) : Fin 3 → Nat :=
  let c15_2375 : Index := 15#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6551 : Index := Scalar.indexCast v4856
  let c128_2376 : Index := 128#32
  ![15, v6551.toNat, 128]
def k0_off183 (i : grid0.Coords) : Fin 3 → Nat :=
  let c16_2377 : Index := 16#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6555 : Index := Scalar.indexCast v4856
  let c128_2378 : Index := 128#32
  ![16, v6555.toNat, 128]
def k0_off184 (i : grid0.Coords) : Fin 3 → Nat :=
  let c17_2379 : Index := 17#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6559 : Index := Scalar.indexCast v4856
  let c128_2380 : Index := 128#32
  ![17, v6559.toNat, 128]
def k0_off185 (i : grid0.Coords) : Fin 3 → Nat :=
  let c18_2381 : Index := 18#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6563 : Index := Scalar.indexCast v4856
  let c128_2382 : Index := 128#32
  ![18, v6563.toNat, 128]
def k0_off186 (i : grid0.Coords) : Fin 3 → Nat :=
  let c19_2383 : Index := 19#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6567 : Index := Scalar.indexCast v4856
  let c128_2384 : Index := 128#32
  ![19, v6567.toNat, 128]
def k0_off187 (i : grid0.Coords) : Fin 3 → Nat :=
  let c20_2385 : Index := 20#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6571 : Index := Scalar.indexCast v4856
  let c128_2386 : Index := 128#32
  ![20, v6571.toNat, 128]
def k0_off188 (i : grid0.Coords) : Fin 3 → Nat :=
  let c21_2387 : Index := 21#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6575 : Index := Scalar.indexCast v4856
  let c128_2388 : Index := 128#32
  ![21, v6575.toNat, 128]
def k0_off189 (i : grid0.Coords) : Fin 3 → Nat :=
  let c22_2389 : Index := 22#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6579 : Index := Scalar.indexCast v4856
  let c128_2390 : Index := 128#32
  ![22, v6579.toNat, 128]
def k0_off190 (i : grid0.Coords) : Fin 3 → Nat :=
  let c23_2391 : Index := 23#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6583 : Index := Scalar.indexCast v4856
  let c128_2392 : Index := 128#32
  ![23, v6583.toNat, 128]
def k0_off191 (i : grid0.Coords) : Fin 3 → Nat :=
  let c24_2393 : Index := 24#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6587 : Index := Scalar.indexCast v4856
  let c128_2394 : Index := 128#32
  ![24, v6587.toNat, 128]
def k0_off192 (i : grid0.Coords) : Fin 3 → Nat :=
  let c25_2395 : Index := 25#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6591 : Index := Scalar.indexCast v4856
  let c128_2396 : Index := 128#32
  ![25, v6591.toNat, 128]
def k0_off193 (i : grid0.Coords) : Fin 3 → Nat :=
  let c26_2397 : Index := 26#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6595 : Index := Scalar.indexCast v4856
  let c128_2398 : Index := 128#32
  ![26, v6595.toNat, 128]
def k0_off194 (i : grid0.Coords) : Fin 3 → Nat :=
  let c27_2399 : Index := 27#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6599 : Index := Scalar.indexCast v4856
  let c128_2400 : Index := 128#32
  ![27, v6599.toNat, 128]
def k0_off195 (i : grid0.Coords) : Fin 3 → Nat :=
  let c28_2401 : Index := 28#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6603 : Index := Scalar.indexCast v4856
  let c128_2402 : Index := 128#32
  ![28, v6603.toNat, 128]
def k0_off196 (i : grid0.Coords) : Fin 3 → Nat :=
  let c29_2403 : Index := 29#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6607 : Index := Scalar.indexCast v4856
  let c128_2404 : Index := 128#32
  ![29, v6607.toNat, 128]
def k0_off197 (i : grid0.Coords) : Fin 3 → Nat :=
  let c30_2405 : Index := 30#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6611 : Index := Scalar.indexCast v4856
  let c128_2406 : Index := 128#32
  ![30, v6611.toNat, 128]
def k0_off198 (i : grid0.Coords) : Fin 3 → Nat :=
  let c31_2407 : Index := 31#32
  let arg1 : BitVec 32 := BitVec.ofNat 32 (i 1).val
  let c1_i32_1733 : BitVec 32 := 1#32
  let v4764 : BitVec 32 := Scalar.subi arg1 c1_i32_1733
  let c1_i32_1797 : BitVec 32 := 1#32
  let v4854 : BitVec 32 := Scalar.subi v4764 c1_i32_1797
  let c8_i32_1798 : BitVec 32 := 8#32
  let v4855 : BitVec 32 := Scalar.muli v4854 c8_i32_1798
  let v4856 : BitVec 32 := v4855
  let v6615 : Index := Scalar.indexCast v4856
  let c128_2408 : Index := 128#32
  ![31, v6615.toNat, 128]
def k0_mult18 (i : grid0.Coords) : BitVec 32 :=
  let arg1 : BitVec 32 := BitVec.ofNat 32 (i 1).val
  let c256_i32 : BitVec 32 := 256#32
  let v133 : BitVec 32 := Scalar.muli arg1 c256_i32
  v133
def k0_off199 (i : grid0.Coords) : Fin 2 → Nat :=
  let arg1 : BitVec 32 := BitVec.ofNat 32 (i 1).val
  let c256_i32 : BitVec 32 := 256#32
  let v133 : BitVec 32 := Scalar.muli arg1 c256_i32
  let v134 : BitVec 32 := v133
  let v135 : Index := Scalar.indexCast v134
  let c0_74 : Index := 0#32
  ![v135.toNat, 0]
def k0_mult19 (i : grid0.Coords) : BitVec 32 :=
  let arg1 : BitVec 32 := BitVec.ofNat 32 (i 1).val
  let c256_i32_148 : BitVec 32 := 256#32
  let v271 : BitVec 32 := Scalar.muli arg1 c256_i32_148
  v271
def k0_off200 (i : grid0.Coords) : Fin 2 → Nat :=
  let arg1 : BitVec 32 := BitVec.ofNat 32 (i 1).val
  let c256_i32_148 : BitVec 32 := 256#32
  let v271 : BitVec 32 := Scalar.muli arg1 c256_i32_148
  let v272 : BitVec 32 := v271
  let v273 : Index := Scalar.indexCast v272
  let c0_149 : Index := 0#32
  ![v273.toNat, 0]
def k0_mult20 (i : grid0.Coords) : BitVec 32 :=
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  v279
def k0_off201 (i : grid0.Coords) : Fin 3 → Nat :=
  let c0_386 : Index := 0#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1034 : Index := Scalar.indexCast v280
  let c0_387 : Index := 0#32
  ![0, v1034.toNat, 0]
def k0_off202 (i : grid0.Coords) : Fin 3 → Nat :=
  let c1_388 : Index := 1#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1038 : Index := Scalar.indexCast v280
  let c0_389 : Index := 0#32
  ![1, v1038.toNat, 0]
def k0_off203 (i : grid0.Coords) : Fin 3 → Nat :=
  let c2_390 : Index := 2#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1042 : Index := Scalar.indexCast v280
  let c0_391 : Index := 0#32
  ![2, v1042.toNat, 0]
def k0_off204 (i : grid0.Coords) : Fin 3 → Nat :=
  let c3_392 : Index := 3#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1046 : Index := Scalar.indexCast v280
  let c0_393 : Index := 0#32
  ![3, v1046.toNat, 0]
def k0_off205 (i : grid0.Coords) : Fin 3 → Nat :=
  let c4_394 : Index := 4#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1050 : Index := Scalar.indexCast v280
  let c0_395 : Index := 0#32
  ![4, v1050.toNat, 0]
def k0_off206 (i : grid0.Coords) : Fin 3 → Nat :=
  let c5_396 : Index := 5#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1054 : Index := Scalar.indexCast v280
  let c0_397 : Index := 0#32
  ![5, v1054.toNat, 0]
def k0_off207 (i : grid0.Coords) : Fin 3 → Nat :=
  let c6_398 : Index := 6#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1058 : Index := Scalar.indexCast v280
  let c0_399 : Index := 0#32
  ![6, v1058.toNat, 0]
def k0_off208 (i : grid0.Coords) : Fin 3 → Nat :=
  let c7_400 : Index := 7#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1062 : Index := Scalar.indexCast v280
  let c0_401 : Index := 0#32
  ![7, v1062.toNat, 0]
def k0_off209 (i : grid0.Coords) : Fin 3 → Nat :=
  let c8 : Index := 8#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1066 : Index := Scalar.indexCast v280
  let c0_402 : Index := 0#32
  ![8, v1066.toNat, 0]
def k0_off210 (i : grid0.Coords) : Fin 3 → Nat :=
  let c9 : Index := 9#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1070 : Index := Scalar.indexCast v280
  let c0_403 : Index := 0#32
  ![9, v1070.toNat, 0]
def k0_off211 (i : grid0.Coords) : Fin 3 → Nat :=
  let c10 : Index := 10#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1074 : Index := Scalar.indexCast v280
  let c0_404 : Index := 0#32
  ![10, v1074.toNat, 0]
def k0_off212 (i : grid0.Coords) : Fin 3 → Nat :=
  let c11 : Index := 11#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1078 : Index := Scalar.indexCast v280
  let c0_405 : Index := 0#32
  ![11, v1078.toNat, 0]
def k0_off213 (i : grid0.Coords) : Fin 3 → Nat :=
  let c12 : Index := 12#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1082 : Index := Scalar.indexCast v280
  let c0_406 : Index := 0#32
  ![12, v1082.toNat, 0]
def k0_off214 (i : grid0.Coords) : Fin 3 → Nat :=
  let c13 : Index := 13#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1086 : Index := Scalar.indexCast v280
  let c0_407 : Index := 0#32
  ![13, v1086.toNat, 0]
def k0_off215 (i : grid0.Coords) : Fin 3 → Nat :=
  let c14 : Index := 14#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1090 : Index := Scalar.indexCast v280
  let c0_408 : Index := 0#32
  ![14, v1090.toNat, 0]
def k0_off216 (i : grid0.Coords) : Fin 3 → Nat :=
  let c15 : Index := 15#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1094 : Index := Scalar.indexCast v280
  let c0_409 : Index := 0#32
  ![15, v1094.toNat, 0]
def k0_off217 (i : grid0.Coords) : Fin 3 → Nat :=
  let c16 : Index := 16#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1098 : Index := Scalar.indexCast v280
  let c0_410 : Index := 0#32
  ![16, v1098.toNat, 0]
def k0_off218 (i : grid0.Coords) : Fin 3 → Nat :=
  let c17 : Index := 17#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1102 : Index := Scalar.indexCast v280
  let c0_411 : Index := 0#32
  ![17, v1102.toNat, 0]
def k0_off219 (i : grid0.Coords) : Fin 3 → Nat :=
  let c18 : Index := 18#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1106 : Index := Scalar.indexCast v280
  let c0_412 : Index := 0#32
  ![18, v1106.toNat, 0]
def k0_off220 (i : grid0.Coords) : Fin 3 → Nat :=
  let c19 : Index := 19#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1110 : Index := Scalar.indexCast v280
  let c0_413 : Index := 0#32
  ![19, v1110.toNat, 0]
def k0_off221 (i : grid0.Coords) : Fin 3 → Nat :=
  let c20 : Index := 20#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1114 : Index := Scalar.indexCast v280
  let c0_414 : Index := 0#32
  ![20, v1114.toNat, 0]
def k0_off222 (i : grid0.Coords) : Fin 3 → Nat :=
  let c21 : Index := 21#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1118 : Index := Scalar.indexCast v280
  let c0_415 : Index := 0#32
  ![21, v1118.toNat, 0]
def k0_off223 (i : grid0.Coords) : Fin 3 → Nat :=
  let c22 : Index := 22#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1122 : Index := Scalar.indexCast v280
  let c0_416 : Index := 0#32
  ![22, v1122.toNat, 0]
def k0_off224 (i : grid0.Coords) : Fin 3 → Nat :=
  let c23 : Index := 23#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1126 : Index := Scalar.indexCast v280
  let c0_417 : Index := 0#32
  ![23, v1126.toNat, 0]
def k0_off225 (i : grid0.Coords) : Fin 3 → Nat :=
  let c24 : Index := 24#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1130 : Index := Scalar.indexCast v280
  let c0_418 : Index := 0#32
  ![24, v1130.toNat, 0]
def k0_off226 (i : grid0.Coords) : Fin 3 → Nat :=
  let c25 : Index := 25#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1134 : Index := Scalar.indexCast v280
  let c0_419 : Index := 0#32
  ![25, v1134.toNat, 0]
def k0_off227 (i : grid0.Coords) : Fin 3 → Nat :=
  let c26 : Index := 26#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1138 : Index := Scalar.indexCast v280
  let c0_420 : Index := 0#32
  ![26, v1138.toNat, 0]
def k0_off228 (i : grid0.Coords) : Fin 3 → Nat :=
  let c27 : Index := 27#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1142 : Index := Scalar.indexCast v280
  let c0_421 : Index := 0#32
  ![27, v1142.toNat, 0]
def k0_off229 (i : grid0.Coords) : Fin 3 → Nat :=
  let c28 : Index := 28#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1146 : Index := Scalar.indexCast v280
  let c0_422 : Index := 0#32
  ![28, v1146.toNat, 0]
def k0_off230 (i : grid0.Coords) : Fin 3 → Nat :=
  let c29 : Index := 29#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1150 : Index := Scalar.indexCast v280
  let c0_423 : Index := 0#32
  ![29, v1150.toNat, 0]
def k0_off231 (i : grid0.Coords) : Fin 3 → Nat :=
  let c30 : Index := 30#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1154 : Index := Scalar.indexCast v280
  let c0_424 : Index := 0#32
  ![30, v1154.toNat, 0]
def k0_off232 (i : grid0.Coords) : Fin 3 → Nat :=
  let c31 : Index := 31#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1158 : Index := Scalar.indexCast v280
  let c0_425 : Index := 0#32
  ![31, v1158.toNat, 0]
def k0_off233 (i : grid0.Coords) : Fin 3 → Nat :=
  let c0_667 : Index := 0#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1915 : Index := Scalar.indexCast v280
  let c128 : Index := 128#32
  ![0, v1915.toNat, 128]
def k0_off234 (i : grid0.Coords) : Fin 3 → Nat :=
  let c1_668 : Index := 1#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1919 : Index := Scalar.indexCast v280
  let c128_669 : Index := 128#32
  ![1, v1919.toNat, 128]
def k0_off235 (i : grid0.Coords) : Fin 3 → Nat :=
  let c2_670 : Index := 2#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1923 : Index := Scalar.indexCast v280
  let c128_671 : Index := 128#32
  ![2, v1923.toNat, 128]
def k0_off236 (i : grid0.Coords) : Fin 3 → Nat :=
  let c3_672 : Index := 3#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1927 : Index := Scalar.indexCast v280
  let c128_673 : Index := 128#32
  ![3, v1927.toNat, 128]
def k0_off237 (i : grid0.Coords) : Fin 3 → Nat :=
  let c4_674 : Index := 4#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1931 : Index := Scalar.indexCast v280
  let c128_675 : Index := 128#32
  ![4, v1931.toNat, 128]
def k0_off238 (i : grid0.Coords) : Fin 3 → Nat :=
  let c5_676 : Index := 5#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1935 : Index := Scalar.indexCast v280
  let c128_677 : Index := 128#32
  ![5, v1935.toNat, 128]
def k0_off239 (i : grid0.Coords) : Fin 3 → Nat :=
  let c6_678 : Index := 6#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1939 : Index := Scalar.indexCast v280
  let c128_679 : Index := 128#32
  ![6, v1939.toNat, 128]
def k0_off240 (i : grid0.Coords) : Fin 3 → Nat :=
  let c7_680 : Index := 7#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1943 : Index := Scalar.indexCast v280
  let c128_681 : Index := 128#32
  ![7, v1943.toNat, 128]
def k0_off241 (i : grid0.Coords) : Fin 3 → Nat :=
  let c8_682 : Index := 8#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1947 : Index := Scalar.indexCast v280
  let c128_683 : Index := 128#32
  ![8, v1947.toNat, 128]
def k0_off242 (i : grid0.Coords) : Fin 3 → Nat :=
  let c9_684 : Index := 9#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1951 : Index := Scalar.indexCast v280
  let c128_685 : Index := 128#32
  ![9, v1951.toNat, 128]
def k0_off243 (i : grid0.Coords) : Fin 3 → Nat :=
  let c10_686 : Index := 10#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1955 : Index := Scalar.indexCast v280
  let c128_687 : Index := 128#32
  ![10, v1955.toNat, 128]
def k0_off244 (i : grid0.Coords) : Fin 3 → Nat :=
  let c11_688 : Index := 11#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1959 : Index := Scalar.indexCast v280
  let c128_689 : Index := 128#32
  ![11, v1959.toNat, 128]
def k0_off245 (i : grid0.Coords) : Fin 3 → Nat :=
  let c12_690 : Index := 12#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1963 : Index := Scalar.indexCast v280
  let c128_691 : Index := 128#32
  ![12, v1963.toNat, 128]
def k0_off246 (i : grid0.Coords) : Fin 3 → Nat :=
  let c13_692 : Index := 13#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1967 : Index := Scalar.indexCast v280
  let c128_693 : Index := 128#32
  ![13, v1967.toNat, 128]
def k0_off247 (i : grid0.Coords) : Fin 3 → Nat :=
  let c14_694 : Index := 14#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1971 : Index := Scalar.indexCast v280
  let c128_695 : Index := 128#32
  ![14, v1971.toNat, 128]
def k0_off248 (i : grid0.Coords) : Fin 3 → Nat :=
  let c15_696 : Index := 15#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1975 : Index := Scalar.indexCast v280
  let c128_697 : Index := 128#32
  ![15, v1975.toNat, 128]
def k0_off249 (i : grid0.Coords) : Fin 3 → Nat :=
  let c16_698 : Index := 16#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1979 : Index := Scalar.indexCast v280
  let c128_699 : Index := 128#32
  ![16, v1979.toNat, 128]
def k0_off250 (i : grid0.Coords) : Fin 3 → Nat :=
  let c17_700 : Index := 17#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1983 : Index := Scalar.indexCast v280
  let c128_701 : Index := 128#32
  ![17, v1983.toNat, 128]
def k0_off251 (i : grid0.Coords) : Fin 3 → Nat :=
  let c18_702 : Index := 18#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1987 : Index := Scalar.indexCast v280
  let c128_703 : Index := 128#32
  ![18, v1987.toNat, 128]
def k0_off252 (i : grid0.Coords) : Fin 3 → Nat :=
  let c19_704 : Index := 19#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1991 : Index := Scalar.indexCast v280
  let c128_705 : Index := 128#32
  ![19, v1991.toNat, 128]
def k0_off253 (i : grid0.Coords) : Fin 3 → Nat :=
  let c20_706 : Index := 20#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1995 : Index := Scalar.indexCast v280
  let c128_707 : Index := 128#32
  ![20, v1995.toNat, 128]
def k0_off254 (i : grid0.Coords) : Fin 3 → Nat :=
  let c21_708 : Index := 21#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v1999 : Index := Scalar.indexCast v280
  let c128_709 : Index := 128#32
  ![21, v1999.toNat, 128]
def k0_off255 (i : grid0.Coords) : Fin 3 → Nat :=
  let c22_710 : Index := 22#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v2003 : Index := Scalar.indexCast v280
  let c128_711 : Index := 128#32
  ![22, v2003.toNat, 128]
def k0_off256 (i : grid0.Coords) : Fin 3 → Nat :=
  let c23_712 : Index := 23#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v2007 : Index := Scalar.indexCast v280
  let c128_713 : Index := 128#32
  ![23, v2007.toNat, 128]
def k0_off257 (i : grid0.Coords) : Fin 3 → Nat :=
  let c24_714 : Index := 24#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v2011 : Index := Scalar.indexCast v280
  let c128_715 : Index := 128#32
  ![24, v2011.toNat, 128]
def k0_off258 (i : grid0.Coords) : Fin 3 → Nat :=
  let c25_716 : Index := 25#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v2015 : Index := Scalar.indexCast v280
  let c128_717 : Index := 128#32
  ![25, v2015.toNat, 128]
def k0_off259 (i : grid0.Coords) : Fin 3 → Nat :=
  let c26_718 : Index := 26#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v2019 : Index := Scalar.indexCast v280
  let c128_719 : Index := 128#32
  ![26, v2019.toNat, 128]
def k0_off260 (i : grid0.Coords) : Fin 3 → Nat :=
  let c27_720 : Index := 27#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v2023 : Index := Scalar.indexCast v280
  let c128_721 : Index := 128#32
  ![27, v2023.toNat, 128]
def k0_off261 (i : grid0.Coords) : Fin 3 → Nat :=
  let c28_722 : Index := 28#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v2027 : Index := Scalar.indexCast v280
  let c128_723 : Index := 128#32
  ![28, v2027.toNat, 128]
def k0_off262 (i : grid0.Coords) : Fin 3 → Nat :=
  let c29_724 : Index := 29#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v2031 : Index := Scalar.indexCast v280
  let c128_725 : Index := 128#32
  ![29, v2031.toNat, 128]
def k0_off263 (i : grid0.Coords) : Fin 3 → Nat :=
  let c30_726 : Index := 30#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v2035 : Index := Scalar.indexCast v280
  let c128_727 : Index := 128#32
  ![30, v2035.toNat, 128]
def k0_off264 (i : grid0.Coords) : Fin 3 → Nat :=
  let c31_728 : Index := 31#32
  let arg1 : BitVec 32 := BitVec.ofNat 32 (i 1).val
  let c1_i32_150 : BitVec 32 := 1#32
  let v277 : BitVec 32 := Scalar.subi arg1 c1_i32_150
  let c0_i32_151 : BitVec 32 := 0#32
  let v278 : BitVec 32 := Scalar.maxsi v277 c0_i32_151
  let c8_i32 : BitVec 32 := 8#32
  let v279 : BitVec 32 := Scalar.muli v278 c8_i32
  let v280 : BitVec 32 := v279
  let v2039 : Index := Scalar.indexCast v280
  let c128_729 : Index := 128#32
  ![31, v2039.toNat, 128]
def k0_mult21 (i : grid0.Coords) : BitVec 32 :=
  let arg1 : BitVec 32 := BitVec.ofNat 32 (i 1).val
  let c8_i32_730 : BitVec 32 := 8#32
  let v2043 : BitVec 32 := Scalar.muli arg1 c8_i32_730
  v2043
def k0_off265 (i : grid0.Coords) : Fin 3 → Nat :=
  let c0_972 : Index := 0#32
  let arg1 : BitVec 32 := BitVec.ofNat 32 (i 1).val
  let c8_i32_730 : BitVec 32 := 8#32
  let v2043 : BitVec 32 := Scalar.muli arg1 c8_i32_730
  let v2044 : BitVec 32 := v2043
  let v2798 : Index := Scalar.indexCast v2044
  let c0_973 : Index := 0#32
  ![0, v2798.toNat, 0]
def k0_off266 (i : grid0.Coords) : Fin 3 → Nat :=
  let c1_974 : Index := 1#32
  let arg1 : BitVec 32 := BitVec.ofNat 32 (i 1).val
  let c8_i32_730 : BitVec 32 := 8#32
  let v2043 : BitVec 32 := Scalar.muli arg1 c8_i32_730
  let v2044 : BitVec 32 := v2043
  let v2802 : Index := Scalar.indexCast v2044
  let c0_975 : Index := 0#32
  ![1, v2802.toNat, 0]
def k0_off267 (i : grid0.Coords) : Fin 3 → Nat :=
  let c2_976 : Index := 2#32
  let arg1 : BitVec 32 := BitVec.ofNat 32 (i 1).val
  let c8_i32_730 : BitVec 32 := 8#32
  let v2043 : BitVec 32 := Scalar.muli arg1 c8_i32_730
  let v2044 : BitVec 32 := v2043
  let v2806 : Index := Scalar.indexCast v2044
  let c0_977 : Index := 0#32
  ![2, v2806.toNat, 0]
def k0_off268 (i : grid0.Coords) : Fin 3 → Nat :=
  let c3_978 : Index := 3#32
  let arg1 : BitVec 32 := BitVec.ofNat 32 (i 1).val
  let c8_i32_730 : BitVec 32 := 8#32
  let v2043 : BitVec 32 := Scalar.muli arg1 c8_i32_730
  let v2044 : BitVec 32 := v2043
  let v2810 : Index := Scalar.indexCast v2044
  let c0_979 : Index := 0#32
  ![3, v2810.toNat, 0]
def k0_off269 (i : grid0.Coords) : Fin 3 → Nat :=
  let c4_980 : Index := 4#32
  let arg1 : BitVec 32 := BitVec.ofNat 32 (i 1).val
  let c8_i32_730 : BitVec 32 := 8#32
  let v2043 : BitVec 32 := Scalar.muli arg1 c8_i32_730
  let v2044 : BitVec 32 := v2043
  let v2814 : Index := Scalar.indexCast v2044
  let c0_981 : Index := 0#32
  ![4, v2814.toNat, 0]
def k0_off270 (i : grid0.Coords) : Fin 3 → Nat :=
  let c5_982 : Index := 5#32
  let arg1 : BitVec 32 := BitVec.ofNat 32 (i 1).val
  let c8_i32_730 : BitVec 32 := 8#32
  let v2043 : BitVec 32 := Scalar.muli arg1 c8_i32_730
  let v2044 : BitVec 32 := v2043
  let v2818 : Index := Scalar.indexCast v2044
  let c0_983 : Index := 0#32
  ![5, v2818.toNat, 0]
def k0_off271 (i : grid0.Coords) : Fin 3 → Nat :=
  let c6_984 : Index := 6#32
  let arg1 : BitVec 32 := BitVec.ofNat 32 (i 1).val
  let c8_i32_730 : BitVec 32 := 8#32
  let v2043 : BitVec 32 := Scalar.muli arg1 c8_i32_730
  let v2044 : BitVec 32 := v2043
  let v2822 : Index := Scalar.indexCast v2044
  let c0_985 : Index := 0#32
  ![6, v2822.toNat, 0]
def k0_off272 (i : grid0.Coords) : Fin 3 → Nat :=
  let c7_986 : Index := 7#32
  let arg1 : BitVec 32 := BitVec.ofNat 32 (i 1).val
  let c8_i32_730 : BitVec 32 := 8#32
  let v2043 : BitVec 32 := Scalar.muli arg1 c8_i32_730
  let v2044 : BitVec 32 := v2043
  let v2826 : Index := Scalar.indexCast v2044
  let c0_987 : Index := 0#32
  ![7, v2826.toNat, 0]
def k0_off273 (i : grid0.Coords) : Fin 3 → Nat :=
  let c8_988 : Index := 8#32
  let arg1 : BitVec 32 := BitVec.ofNat 32 (i 1).val
  let c8_i32_730 : BitVec 32 := 8#32
  let v2043 : BitVec 32 := Scalar.muli arg1 c8_i32_730
  let v2044 : BitVec 32 := v2043
  let v2830 : Index := Scalar.indexCast v2044
  let c0_989 : Index := 0#32
  ![8, v2830.toNat, 0]
def k0_off274 (i : grid0.Coords) : Fin 3 → Nat :=
  let c9_990 : Index := 9#32
  let arg1 : BitVec 32 := BitVec.ofNat 32 (i 1).val
  let c8_i32_730 : BitVec 32 := 8#32
  let v2043 : BitVec 32 := Scalar.muli arg1 c8_i32_730
  let v2044 : BitVec 32 := v2043
  let v2834 : Index := Scalar.indexCast v2044
  let c0_991 : Index := 0#32
  ![9, v2834.toNat, 0]
def k0_off275 (i : grid0.Coords) : Fin 3 → Nat :=
  let c10_992 : Index := 10#32
  let arg1 : BitVec 32 := BitVec.ofNat 32 (i 1).val
  let c8_i32_730 : BitVec 32 := 8#32
  let v2043 : BitVec 32 := Scalar.muli arg1 c8_i32_730
  let v2044 : BitVec 32 := v2043
  let v2838 : Index := Scalar.indexCast v2044
  let c0_993 : Index := 0#32
  ![10, v2838.toNat, 0]
def k0_off276 (i : grid0.Coords) : Fin 3 → Nat :=
  let c11_994 : Index := 11#32
  let arg1 : BitVec 32 := BitVec.ofNat 32 (i 1).val
  let c8_i32_730 : BitVec 32 := 8#32
  let v2043 : BitVec 32 := Scalar.muli arg1 c8_i32_730
  let v2044 : BitVec 32 := v2043
  let v2842 : Index := Scalar.indexCast v2044
  let c0_995 : Index := 0#32
  ![11, v2842.toNat, 0]
def k0_off277 (i : grid0.Coords) : Fin 3 → Nat :=
  let c12_996 : Index := 12#32
  let arg1 : BitVec 32 := BitVec.ofNat 32 (i 1).val
  let c8_i32_730 : BitVec 32 := 8#32
  let v2043 : BitVec 32 := Scalar.muli arg1 c8_i32_730
  let v2044 : BitVec 32 := v2043
  let v2846 : Index := Scalar.indexCast v2044
  let c0_997 : Index := 0#32
  ![12, v2846.toNat, 0]
def k0_off278 (i : grid0.Coords) : Fin 3 → Nat :=
  let c13_998 : Index := 13#32
  let arg1 : BitVec 32 := BitVec.ofNat 32 (i 1).val
  let c8_i32_730 : BitVec 32 := 8#32
  let v2043 : BitVec 32 := Scalar.muli arg1 c8_i32_730
  let v2044 : BitVec 32 := v2043
  let v2850 : Index := Scalar.indexCast v2044
  let c0_999 : Index := 0#32
  ![13, v2850.toNat, 0]
def k0_off279 (i : grid0.Coords) : Fin 3 → Nat :=
  let c14_1000 : Index := 14#32
  let arg1 : BitVec 32 := BitVec.ofNat 32 (i 1).val
  let c8_i32_730 : BitVec 32 := 8#32
  let v2043 : BitVec 32 := Scalar.muli arg1 c8_i32_730
  let v2044 : BitVec 32 := v2043
  let v2854 : Index := Scalar.indexCast v2044
  let c0_1001 : Index := 0#32
  ![14, v2854.toNat, 0]
def k0_off280 (i : grid0.Coords) : Fin 3 → Nat :=
  let c15_1002 : Index := 15#32
  let arg1 : BitVec 32 := BitVec.ofNat 32 (i 1).val
  let c8_i32_730 : BitVec 32 := 8#32
  let v2043 : BitVec 32 := Scalar.muli arg1 c8_i32_730
  let v2044 : BitVec 32 := v2043
  let v2858 : Index := Scalar.indexCast v2044
  let c0_1003 : Index := 0#32
  ![15, v2858.toNat, 0]
def k0_off281 (i : grid0.Coords) : Fin 3 → Nat :=
  let c16_1004 : Index := 16#32
  let arg1 : BitVec 32 := BitVec.ofNat 32 (i 1).val
  let c8_i32_730 : BitVec 32 := 8#32
  let v2043 : BitVec 32 := Scalar.muli arg1 c8_i32_730
  let v2044 : BitVec 32 := v2043
  let v2862 : Index := Scalar.indexCast v2044
  let c0_1005 : Index := 0#32
  ![16, v2862.toNat, 0]
def k0_off282 (i : grid0.Coords) : Fin 3 → Nat :=
  let c17_1006 : Index := 17#32
  let arg1 : BitVec 32 := BitVec.ofNat 32 (i 1).val
  let c8_i32_730 : BitVec 32 := 8#32
  let v2043 : BitVec 32 := Scalar.muli arg1 c8_i32_730
  let v2044 : BitVec 32 := v2043
  let v2866 : Index := Scalar.indexCast v2044
  let c0_1007 : Index := 0#32
  ![17, v2866.toNat, 0]
def k0_off283 (i : grid0.Coords) : Fin 3 → Nat :=
  let c18_1008 : Index := 18#32
  let arg1 : BitVec 32 := BitVec.ofNat 32 (i 1).val
  let c8_i32_730 : BitVec 32 := 8#32
  let v2043 : BitVec 32 := Scalar.muli arg1 c8_i32_730
  let v2044 : BitVec 32 := v2043
  let v2870 : Index := Scalar.indexCast v2044
  let c0_1009 : Index := 0#32
  ![18, v2870.toNat, 0]
def k0_off284 (i : grid0.Coords) : Fin 3 → Nat :=
  let c19_1010 : Index := 19#32
  let arg1 : BitVec 32 := BitVec.ofNat 32 (i 1).val
  let c8_i32_730 : BitVec 32 := 8#32
  let v2043 : BitVec 32 := Scalar.muli arg1 c8_i32_730
  let v2044 : BitVec 32 := v2043
  let v2874 : Index := Scalar.indexCast v2044
  let c0_1011 : Index := 0#32
  ![19, v2874.toNat, 0]
def k0_off285 (i : grid0.Coords) : Fin 3 → Nat :=
  let c20_1012 : Index := 20#32
  let arg1 : BitVec 32 := BitVec.ofNat 32 (i 1).val
  let c8_i32_730 : BitVec 32 := 8#32
  let v2043 : BitVec 32 := Scalar.muli arg1 c8_i32_730
  let v2044 : BitVec 32 := v2043
  let v2878 : Index := Scalar.indexCast v2044
  let c0_1013 : Index := 0#32
  ![20, v2878.toNat, 0]
def k0_off286 (i : grid0.Coords) : Fin 3 → Nat :=
  let c21_1014 : Index := 21#32
  let arg1 : BitVec 32 := BitVec.ofNat 32 (i 1).val
  let c8_i32_730 : BitVec 32 := 8#32
  let v2043 : BitVec 32 := Scalar.muli arg1 c8_i32_730
  let v2044 : BitVec 32 := v2043
  let v2882 : Index := Scalar.indexCast v2044
  let c0_1015 : Index := 0#32
  ![21, v2882.toNat, 0]
def k0_off287 (i : grid0.Coords) : Fin 3 → Nat :=
  let c22_1016 : Index := 22#32
  let arg1 : BitVec 32 := BitVec.ofNat 32 (i 1).val
  let c8_i32_730 : BitVec 32 := 8#32
  let v2043 : BitVec 32 := Scalar.muli arg1 c8_i32_730
  let v2044 : BitVec 32 := v2043
  let v2886 : Index := Scalar.indexCast v2044
  let c0_1017 : Index := 0#32
  ![22, v2886.toNat, 0]
def k0_off288 (i : grid0.Coords) : Fin 3 → Nat :=
  let c23_1018 : Index := 23#32
  let arg1 : BitVec 32 := BitVec.ofNat 32 (i 1).val
  let c8_i32_730 : BitVec 32 := 8#32
  let v2043 : BitVec 32 := Scalar.muli arg1 c8_i32_730
  let v2044 : BitVec 32 := v2043
  let v2890 : Index := Scalar.indexCast v2044
  let c0_1019 : Index := 0#32
  ![23, v2890.toNat, 0]
def k0_off289 (i : grid0.Coords) : Fin 3 → Nat :=
  let c24_1020 : Index := 24#32
  let arg1 : BitVec 32 := BitVec.ofNat 32 (i 1).val
  let c8_i32_730 : BitVec 32 := 8#32
  let v2043 : BitVec 32 := Scalar.muli arg1 c8_i32_730
  let v2044 : BitVec 32 := v2043
  let v2894 : Index := Scalar.indexCast v2044
  let c0_1021 : Index := 0#32
  ![24, v2894.toNat, 0]
def k0_off290 (i : grid0.Coords) : Fin 3 → Nat :=
  let c25_1022 : Index := 25#32
  let arg1 : BitVec 32 := BitVec.ofNat 32 (i 1).val
  let c8_i32_730 : BitVec 32 := 8#32
  let v2043 : BitVec 32 := Scalar.muli arg1 c8_i32_730
  let v2044 : BitVec 32 := v2043
  let v2898 : Index := Scalar.indexCast v2044
  let c0_1023 : Index := 0#32
  ![25, v2898.toNat, 0]
def k0_off291 (i : grid0.Coords) : Fin 3 → Nat :=
  let c26_1024 : Index := 26#32
  let arg1 : BitVec 32 := BitVec.ofNat 32 (i 1).val
  let c8_i32_730 : BitVec 32 := 8#32
  let v2043 : BitVec 32 := Scalar.muli arg1 c8_i32_730
  let v2044 : BitVec 32 := v2043
  let v2902 : Index := Scalar.indexCast v2044
  let c0_1025 : Index := 0#32
  ![26, v2902.toNat, 0]
def k0_off292 (i : grid0.Coords) : Fin 3 → Nat :=
  let c27_1026 : Index := 27#32
  let arg1 : BitVec 32 := BitVec.ofNat 32 (i 1).val
  let c8_i32_730 : BitVec 32 := 8#32
  let v2043 : BitVec 32 := Scalar.muli arg1 c8_i32_730
  let v2044 : BitVec 32 := v2043
  let v2906 : Index := Scalar.indexCast v2044
  let c0_1027 : Index := 0#32
  ![27, v2906.toNat, 0]
def k0_off293 (i : grid0.Coords) : Fin 3 → Nat :=
  let c28_1028 : Index := 28#32
  let arg1 : BitVec 32 := BitVec.ofNat 32 (i 1).val
  let c8_i32_730 : BitVec 32 := 8#32
  let v2043 : BitVec 32 := Scalar.muli arg1 c8_i32_730
  let v2044 : BitVec 32 := v2043
  let v2910 : Index := Scalar.indexCast v2044
  let c0_1029 : Index := 0#32
  ![28, v2910.toNat, 0]
def k0_off294 (i : grid0.Coords) : Fin 3 → Nat :=
  let c29_1030 : Index := 29#32
  let arg1 : BitVec 32 := BitVec.ofNat 32 (i 1).val
  let c8_i32_730 : BitVec 32 := 8#32
  let v2043 : BitVec 32 := Scalar.muli arg1 c8_i32_730
  let v2044 : BitVec 32 := v2043
  let v2914 : Index := Scalar.indexCast v2044
  let c0_1031 : Index := 0#32
  ![29, v2914.toNat, 0]
def k0_off295 (i : grid0.Coords) : Fin 3 → Nat :=
  let c30_1032 : Index := 30#32
  let arg1 : BitVec 32 := BitVec.ofNat 32 (i 1).val
  let c8_i32_730 : BitVec 32 := 8#32
  let v2043 : BitVec 32 := Scalar.muli arg1 c8_i32_730
  let v2044 : BitVec 32 := v2043
  let v2918 : Index := Scalar.indexCast v2044
  let c0_1033 : Index := 0#32
  ![30, v2918.toNat, 0]
def k0_off296 (i : grid0.Coords) : Fin 3 → Nat :=
  let c31_1034 : Index := 31#32
  let arg1 : BitVec 32 := BitVec.ofNat 32 (i 1).val
  let c8_i32_730 : BitVec 32 := 8#32
  let v2043 : BitVec 32 := Scalar.muli arg1 c8_i32_730
  let v2044 : BitVec 32 := v2043
  let v2922 : Index := Scalar.indexCast v2044
  let c0_1035 : Index := 0#32
  ![31, v2922.toNat, 0]
def k0_off297 (i : grid0.Coords) : Fin 3 → Nat :=
  let c0_1277 : Index := 0#32
  let arg1 : BitVec 32 := BitVec.ofNat 32 (i 1).val
  let c8_i32_730 : BitVec 32 := 8#32
  let v2043 : BitVec 32 := Scalar.muli arg1 c8_i32_730
  let v2044 : BitVec 32 := v2043
  let v3679 : Index := Scalar.indexCast v2044
  let c128_1278 : Index := 128#32
  ![0, v3679.toNat, 128]
def k0_off298 (i : grid0.Coords) : Fin 3 → Nat :=
  let c1_1279 : Index := 1#32
  let arg1 : BitVec 32 := BitVec.ofNat 32 (i 1).val
  let c8_i32_730 : BitVec 32 := 8#32
  let v2043 : BitVec 32 := Scalar.muli arg1 c8_i32_730
  let v2044 : BitVec 32 := v2043
  let v3683 : Index := Scalar.indexCast v2044
  let c128_1280 : Index := 128#32
  ![1, v3683.toNat, 128]
def k0_off299 (i : grid0.Coords) : Fin 3 → Nat :=
  let c2_1281 : Index := 2#32
  let arg1 : BitVec 32 := BitVec.ofNat 32 (i 1).val
  let c8_i32_730 : BitVec 32 := 8#32
  let v2043 : BitVec 32 := Scalar.muli arg1 c8_i32_730
  let v2044 : BitVec 32 := v2043
  let v3687 : Index := Scalar.indexCast v2044
  let c128_1282 : Index := 128#32
  ![2, v3687.toNat, 128]
def k0_off300 (i : grid0.Coords) : Fin 3 → Nat :=
  let c3_1283 : Index := 3#32
  let arg1 : BitVec 32 := BitVec.ofNat 32 (i 1).val
  let c8_i32_730 : BitVec 32 := 8#32
  let v2043 : BitVec 32 := Scalar.muli arg1 c8_i32_730
  let v2044 : BitVec 32 := v2043
  let v3691 : Index := Scalar.indexCast v2044
  let c128_1284 : Index := 128#32
  ![3, v3691.toNat, 128]
def k0_off301 (i : grid0.Coords) : Fin 3 → Nat :=
  let c4_1285 : Index := 4#32
  let arg1 : BitVec 32 := BitVec.ofNat 32 (i 1).val
  let c8_i32_730 : BitVec 32 := 8#32
  let v2043 : BitVec 32 := Scalar.muli arg1 c8_i32_730
  let v2044 : BitVec 32 := v2043
  let v3695 : Index := Scalar.indexCast v2044
  let c128_1286 : Index := 128#32
  ![4, v3695.toNat, 128]
def k0_off302 (i : grid0.Coords) : Fin 3 → Nat :=
  let c5_1287 : Index := 5#32
  let arg1 : BitVec 32 := BitVec.ofNat 32 (i 1).val
  let c8_i32_730 : BitVec 32 := 8#32
  let v2043 : BitVec 32 := Scalar.muli arg1 c8_i32_730
  let v2044 : BitVec 32 := v2043
  let v3699 : Index := Scalar.indexCast v2044
  let c128_1288 : Index := 128#32
  ![5, v3699.toNat, 128]
def k0_off303 (i : grid0.Coords) : Fin 3 → Nat :=
  let c6_1289 : Index := 6#32
  let arg1 : BitVec 32 := BitVec.ofNat 32 (i 1).val
  let c8_i32_730 : BitVec 32 := 8#32
  let v2043 : BitVec 32 := Scalar.muli arg1 c8_i32_730
  let v2044 : BitVec 32 := v2043
  let v3703 : Index := Scalar.indexCast v2044
  let c128_1290 : Index := 128#32
  ![6, v3703.toNat, 128]
def k0_off304 (i : grid0.Coords) : Fin 3 → Nat :=
  let c7_1291 : Index := 7#32
  let arg1 : BitVec 32 := BitVec.ofNat 32 (i 1).val
  let c8_i32_730 : BitVec 32 := 8#32
  let v2043 : BitVec 32 := Scalar.muli arg1 c8_i32_730
  let v2044 : BitVec 32 := v2043
  let v3707 : Index := Scalar.indexCast v2044
  let c128_1292 : Index := 128#32
  ![7, v3707.toNat, 128]
def k0_off305 (i : grid0.Coords) : Fin 3 → Nat :=
  let c8_1293 : Index := 8#32
  let arg1 : BitVec 32 := BitVec.ofNat 32 (i 1).val
  let c8_i32_730 : BitVec 32 := 8#32
  let v2043 : BitVec 32 := Scalar.muli arg1 c8_i32_730
  let v2044 : BitVec 32 := v2043
  let v3711 : Index := Scalar.indexCast v2044
  let c128_1294 : Index := 128#32
  ![8, v3711.toNat, 128]
def k0_off306 (i : grid0.Coords) : Fin 3 → Nat :=
  let c9_1295 : Index := 9#32
  let arg1 : BitVec 32 := BitVec.ofNat 32 (i 1).val
  let c8_i32_730 : BitVec 32 := 8#32
  let v2043 : BitVec 32 := Scalar.muli arg1 c8_i32_730
  let v2044 : BitVec 32 := v2043
  let v3715 : Index := Scalar.indexCast v2044
  let c128_1296 : Index := 128#32
  ![9, v3715.toNat, 128]
def k0_off307 (i : grid0.Coords) : Fin 3 → Nat :=
  let c10_1297 : Index := 10#32
  let arg1 : BitVec 32 := BitVec.ofNat 32 (i 1).val
  let c8_i32_730 : BitVec 32 := 8#32
  let v2043 : BitVec 32 := Scalar.muli arg1 c8_i32_730
  let v2044 : BitVec 32 := v2043
  let v3719 : Index := Scalar.indexCast v2044
  let c128_1298 : Index := 128#32
  ![10, v3719.toNat, 128]
def k0_off308 (i : grid0.Coords) : Fin 3 → Nat :=
  let c11_1299 : Index := 11#32
  let arg1 : BitVec 32 := BitVec.ofNat 32 (i 1).val
  let c8_i32_730 : BitVec 32 := 8#32
  let v2043 : BitVec 32 := Scalar.muli arg1 c8_i32_730
  let v2044 : BitVec 32 := v2043
  let v3723 : Index := Scalar.indexCast v2044
  let c128_1300 : Index := 128#32
  ![11, v3723.toNat, 128]
def k0_off309 (i : grid0.Coords) : Fin 3 → Nat :=
  let c12_1301 : Index := 12#32
  let arg1 : BitVec 32 := BitVec.ofNat 32 (i 1).val
  let c8_i32_730 : BitVec 32 := 8#32
  let v2043 : BitVec 32 := Scalar.muli arg1 c8_i32_730
  let v2044 : BitVec 32 := v2043
  let v3727 : Index := Scalar.indexCast v2044
  let c128_1302 : Index := 128#32
  ![12, v3727.toNat, 128]
def k0_off310 (i : grid0.Coords) : Fin 3 → Nat :=
  let c13_1303 : Index := 13#32
  let arg1 : BitVec 32 := BitVec.ofNat 32 (i 1).val
  let c8_i32_730 : BitVec 32 := 8#32
  let v2043 : BitVec 32 := Scalar.muli arg1 c8_i32_730
  let v2044 : BitVec 32 := v2043
  let v3731 : Index := Scalar.indexCast v2044
  let c128_1304 : Index := 128#32
  ![13, v3731.toNat, 128]
def k0_off311 (i : grid0.Coords) : Fin 3 → Nat :=
  let c14_1305 : Index := 14#32
  let arg1 : BitVec 32 := BitVec.ofNat 32 (i 1).val
  let c8_i32_730 : BitVec 32 := 8#32
  let v2043 : BitVec 32 := Scalar.muli arg1 c8_i32_730
  let v2044 : BitVec 32 := v2043
  let v3735 : Index := Scalar.indexCast v2044
  let c128_1306 : Index := 128#32
  ![14, v3735.toNat, 128]
def k0_off312 (i : grid0.Coords) : Fin 3 → Nat :=
  let c15_1307 : Index := 15#32
  let arg1 : BitVec 32 := BitVec.ofNat 32 (i 1).val
  let c8_i32_730 : BitVec 32 := 8#32
  let v2043 : BitVec 32 := Scalar.muli arg1 c8_i32_730
  let v2044 : BitVec 32 := v2043
  let v3739 : Index := Scalar.indexCast v2044
  let c128_1308 : Index := 128#32
  ![15, v3739.toNat, 128]
def k0_off313 (i : grid0.Coords) : Fin 3 → Nat :=
  let c16_1309 : Index := 16#32
  let arg1 : BitVec 32 := BitVec.ofNat 32 (i 1).val
  let c8_i32_730 : BitVec 32 := 8#32
  let v2043 : BitVec 32 := Scalar.muli arg1 c8_i32_730
  let v2044 : BitVec 32 := v2043
  let v3743 : Index := Scalar.indexCast v2044
  let c128_1310 : Index := 128#32
  ![16, v3743.toNat, 128]
def k0_off314 (i : grid0.Coords) : Fin 3 → Nat :=
  let c17_1311 : Index := 17#32
  let arg1 : BitVec 32 := BitVec.ofNat 32 (i 1).val
  let c8_i32_730 : BitVec 32 := 8#32
  let v2043 : BitVec 32 := Scalar.muli arg1 c8_i32_730
  let v2044 : BitVec 32 := v2043
  let v3747 : Index := Scalar.indexCast v2044
  let c128_1312 : Index := 128#32
  ![17, v3747.toNat, 128]
def k0_off315 (i : grid0.Coords) : Fin 3 → Nat :=
  let c18_1313 : Index := 18#32
  let arg1 : BitVec 32 := BitVec.ofNat 32 (i 1).val
  let c8_i32_730 : BitVec 32 := 8#32
  let v2043 : BitVec 32 := Scalar.muli arg1 c8_i32_730
  let v2044 : BitVec 32 := v2043
  let v3751 : Index := Scalar.indexCast v2044
  let c128_1314 : Index := 128#32
  ![18, v3751.toNat, 128]
def k0_off316 (i : grid0.Coords) : Fin 3 → Nat :=
  let c19_1315 : Index := 19#32
  let arg1 : BitVec 32 := BitVec.ofNat 32 (i 1).val
  let c8_i32_730 : BitVec 32 := 8#32
  let v2043 : BitVec 32 := Scalar.muli arg1 c8_i32_730
  let v2044 : BitVec 32 := v2043
  let v3755 : Index := Scalar.indexCast v2044
  let c128_1316 : Index := 128#32
  ![19, v3755.toNat, 128]
def k0_off317 (i : grid0.Coords) : Fin 3 → Nat :=
  let c20_1317 : Index := 20#32
  let arg1 : BitVec 32 := BitVec.ofNat 32 (i 1).val
  let c8_i32_730 : BitVec 32 := 8#32
  let v2043 : BitVec 32 := Scalar.muli arg1 c8_i32_730
  let v2044 : BitVec 32 := v2043
  let v3759 : Index := Scalar.indexCast v2044
  let c128_1318 : Index := 128#32
  ![20, v3759.toNat, 128]
def k0_off318 (i : grid0.Coords) : Fin 3 → Nat :=
  let c21_1319 : Index := 21#32
  let arg1 : BitVec 32 := BitVec.ofNat 32 (i 1).val
  let c8_i32_730 : BitVec 32 := 8#32
  let v2043 : BitVec 32 := Scalar.muli arg1 c8_i32_730
  let v2044 : BitVec 32 := v2043
  let v3763 : Index := Scalar.indexCast v2044
  let c128_1320 : Index := 128#32
  ![21, v3763.toNat, 128]
def k0_off319 (i : grid0.Coords) : Fin 3 → Nat :=
  let c22_1321 : Index := 22#32
  let arg1 : BitVec 32 := BitVec.ofNat 32 (i 1).val
  let c8_i32_730 : BitVec 32 := 8#32
  let v2043 : BitVec 32 := Scalar.muli arg1 c8_i32_730
  let v2044 : BitVec 32 := v2043
  let v3767 : Index := Scalar.indexCast v2044
  let c128_1322 : Index := 128#32
  ![22, v3767.toNat, 128]
def k0_off320 (i : grid0.Coords) : Fin 3 → Nat :=
  let c23_1323 : Index := 23#32
  let arg1 : BitVec 32 := BitVec.ofNat 32 (i 1).val
  let c8_i32_730 : BitVec 32 := 8#32
  let v2043 : BitVec 32 := Scalar.muli arg1 c8_i32_730
  let v2044 : BitVec 32 := v2043
  let v3771 : Index := Scalar.indexCast v2044
  let c128_1324 : Index := 128#32
  ![23, v3771.toNat, 128]
def k0_off321 (i : grid0.Coords) : Fin 3 → Nat :=
  let c24_1325 : Index := 24#32
  let arg1 : BitVec 32 := BitVec.ofNat 32 (i 1).val
  let c8_i32_730 : BitVec 32 := 8#32
  let v2043 : BitVec 32 := Scalar.muli arg1 c8_i32_730
  let v2044 : BitVec 32 := v2043
  let v3775 : Index := Scalar.indexCast v2044
  let c128_1326 : Index := 128#32
  ![24, v3775.toNat, 128]
def k0_off322 (i : grid0.Coords) : Fin 3 → Nat :=
  let c25_1327 : Index := 25#32
  let arg1 : BitVec 32 := BitVec.ofNat 32 (i 1).val
  let c8_i32_730 : BitVec 32 := 8#32
  let v2043 : BitVec 32 := Scalar.muli arg1 c8_i32_730
  let v2044 : BitVec 32 := v2043
  let v3779 : Index := Scalar.indexCast v2044
  let c128_1328 : Index := 128#32
  ![25, v3779.toNat, 128]
def k0_off323 (i : grid0.Coords) : Fin 3 → Nat :=
  let c26_1329 : Index := 26#32
  let arg1 : BitVec 32 := BitVec.ofNat 32 (i 1).val
  let c8_i32_730 : BitVec 32 := 8#32
  let v2043 : BitVec 32 := Scalar.muli arg1 c8_i32_730
  let v2044 : BitVec 32 := v2043
  let v3783 : Index := Scalar.indexCast v2044
  let c128_1330 : Index := 128#32
  ![26, v3783.toNat, 128]
def k0_off324 (i : grid0.Coords) : Fin 3 → Nat :=
  let c27_1331 : Index := 27#32
  let arg1 : BitVec 32 := BitVec.ofNat 32 (i 1).val
  let c8_i32_730 : BitVec 32 := 8#32
  let v2043 : BitVec 32 := Scalar.muli arg1 c8_i32_730
  let v2044 : BitVec 32 := v2043
  let v3787 : Index := Scalar.indexCast v2044
  let c128_1332 : Index := 128#32
  ![27, v3787.toNat, 128]
def k0_off325 (i : grid0.Coords) : Fin 3 → Nat :=
  let c28_1333 : Index := 28#32
  let arg1 : BitVec 32 := BitVec.ofNat 32 (i 1).val
  let c8_i32_730 : BitVec 32 := 8#32
  let v2043 : BitVec 32 := Scalar.muli arg1 c8_i32_730
  let v2044 : BitVec 32 := v2043
  let v3791 : Index := Scalar.indexCast v2044
  let c128_1334 : Index := 128#32
  ![28, v3791.toNat, 128]
def k0_off326 (i : grid0.Coords) : Fin 3 → Nat :=
  let c29_1335 : Index := 29#32
  let arg1 : BitVec 32 := BitVec.ofNat 32 (i 1).val
  let c8_i32_730 : BitVec 32 := 8#32
  let v2043 : BitVec 32 := Scalar.muli arg1 c8_i32_730
  let v2044 : BitVec 32 := v2043
  let v3795 : Index := Scalar.indexCast v2044
  let c128_1336 : Index := 128#32
  ![29, v3795.toNat, 128]
def k0_off327 (i : grid0.Coords) : Fin 3 → Nat :=
  let c30_1337 : Index := 30#32
  let arg1 : BitVec 32 := BitVec.ofNat 32 (i 1).val
  let c8_i32_730 : BitVec 32 := 8#32
  let v2043 : BitVec 32 := Scalar.muli arg1 c8_i32_730
  let v2044 : BitVec 32 := v2043
  let v3799 : Index := Scalar.indexCast v2044
  let c128_1338 : Index := 128#32
  ![30, v3799.toNat, 128]
def k0_off328 (i : grid0.Coords) : Fin 3 → Nat :=
  let c31_1339 : Index := 31#32
  let arg1 : BitVec 32 := BitVec.ofNat 32 (i 1).val
  let c8_i32_730 : BitVec 32 := 8#32
  let v2043 : BitVec 32 := Scalar.muli arg1 c8_i32_730
  let v2044 : BitVec 32 := v2043
  let v3803 : Index := Scalar.indexCast v2044
  let c128_1340 : Index := 128#32
  ![31, v3803.toNat, 128]
@[reducible] def k0_t3_loop (i : grid0.Coords) : Scf.Loop 32 :=
  let c0_i32_1562 : BitVec 32 := 0#32
  let arg1 : BitVec 32 := BitVec.ofNat 32 (i 1).val
  let c1_i32 : BitVec 32 := 1#32
  let v0 : BitVec 32 := Scalar.addi arg1 c1_i32
  let v4475 : BitVec 32 := Scalar.subi v0 c0_i32_1562
  let c1_i32_1563 : BitVec 32 := 1#32
  let v4477 : BitVec 32 := Scalar.divsi v4475 c1_i32_1563
  let v4478 : BitVec 32 := Scalar.muli v4477 c1_i32_1563
  let v4479 : BitVec 32 := Scalar.addi c0_i32_1562 v4478
  let c1_i32_1564 : BitVec 32 := 1#32
  ⟨c0_i32_1562, v4479, c1_i32_1564⟩
def k0_mult22 (i : grid0.Coords) (k0_t3 : Fin (k0_t3_loop i).trips) : BitVec 32 :=
  let c0_i32_1562 : BitVec 32 := 0#32
  let c1_i32_1564 : BitVec 32 := 1#32
  let arg21 : BitVec 32 := Scf.iv c0_i32_1562 c1_i32_1564 k0_t3
  let c256_i32_1733 : BitVec 32 := 256#32
  let v4764 : BitVec 32 := Scalar.muli arg21 c256_i32_1733
  v4764
def k0_off329 (i : grid0.Coords) (k0_t3 : Fin (k0_t3_loop i).trips) : Fin 2 → Nat :=
  let c0_i32_1562 : BitVec 32 := 0#32
  let c1_i32_1564 : BitVec 32 := 1#32
  let arg21 : BitVec 32 := Scf.iv c0_i32_1562 c1_i32_1564 k0_t3
  let c256_i32_1733 : BitVec 32 := 256#32
  let v4764 : BitVec 32 := Scalar.muli arg21 c256_i32_1733
  let v4765 : BitVec 32 := v4764
  let v4766 : Index := Scalar.indexCast v4765
  let c0_1734 : Index := 0#32
  ![v4766.toNat, 0]
def k0_mult23 (i : grid0.Coords) (k0_t3 : Fin (k0_t3_loop i).trips) : BitVec 32 :=
  let c0_i32_1562 : BitVec 32 := 0#32
  let c1_i32_1564 : BitVec 32 := 1#32
  let arg21 : BitVec 32 := Scf.iv c0_i32_1562 c1_i32_1564 k0_t3
  let c256_i32_1737 : BitVec 32 := 256#32
  let v4773 : BitVec 32 := Scalar.muli arg21 c256_i32_1737
  v4773
@[reducible] def k0_t4_loop (i : grid0.Coords) : Scf.Loop 32 :=
  let c0_i32_1562 : BitVec 32 := 0#32
  let arg1 : BitVec 32 := BitVec.ofNat 32 (i 1).val
  let c1_i32 : BitVec 32 := 1#32
  let v0 : BitVec 32 := Scalar.addi arg1 c1_i32
  let v4475 : BitVec 32 := Scalar.subi v0 c0_i32_1562
  let c1_i32_1563 : BitVec 32 := 1#32
  let v4477 : BitVec 32 := Scalar.divsi v4475 c1_i32_1563
  let v4478 : BitVec 32 := Scalar.muli v4477 c1_i32_1563
  let v4479 : BitVec 32 := Scalar.addi c0_i32_1562 v4478
  let v4476 : BitVec 32 := Scalar.addi c0_i32_1562 v4475
  let c1_i32_1565 : BitVec 32 := 1#32
  ⟨v4479, v4476, c1_i32_1565⟩
def k0_mult24 (i : grid0.Coords) (k0_t4 : Fin (k0_t4_loop i).trips) : BitVec 32 :=
  let c0_i32_1562 : BitVec 32 := 0#32
  let arg1 : BitVec 32 := BitVec.ofNat 32 (i 1).val
  let c1_i32 : BitVec 32 := 1#32
  let v0 : BitVec 32 := Scalar.addi arg1 c1_i32
  let v4475 : BitVec 32 := Scalar.subi v0 c0_i32_1562
  let c1_i32_1563 : BitVec 32 := 1#32
  let v4477 : BitVec 32 := Scalar.divsi v4475 c1_i32_1563
  let v4478 : BitVec 32 := Scalar.muli v4477 c1_i32_1563
  let v4479 : BitVec 32 := Scalar.addi c0_i32_1562 v4478
  let c1_i32_1565 : BitVec 32 := 1#32
  let arg21 : BitVec 32 := Scf.iv v4479 c1_i32_1565 k0_t4
  let c256_i32_1733 : BitVec 32 := 256#32
  let v4764 : BitVec 32 := Scalar.muli arg21 c256_i32_1733
  v4764
def k0_off330 (i : grid0.Coords) (k0_t4 : Fin (k0_t4_loop i).trips) : Fin 2 → Nat :=
  let c0_i32_1562 : BitVec 32 := 0#32
  let arg1 : BitVec 32 := BitVec.ofNat 32 (i 1).val
  let c1_i32 : BitVec 32 := 1#32
  let v0 : BitVec 32 := Scalar.addi arg1 c1_i32
  let v4475 : BitVec 32 := Scalar.subi v0 c0_i32_1562
  let c1_i32_1563 : BitVec 32 := 1#32
  let v4477 : BitVec 32 := Scalar.divsi v4475 c1_i32_1563
  let v4478 : BitVec 32 := Scalar.muli v4477 c1_i32_1563
  let v4479 : BitVec 32 := Scalar.addi c0_i32_1562 v4478
  let c1_i32_1565 : BitVec 32 := 1#32
  let arg21 : BitVec 32 := Scf.iv v4479 c1_i32_1565 k0_t4
  let c256_i32_1733 : BitVec 32 := 256#32
  let v4764 : BitVec 32 := Scalar.muli arg21 c256_i32_1733
  let v4765 : BitVec 32 := v4764
  let v4766 : Index := Scalar.indexCast v4765
  let c0_1734 : Index := 0#32
  ![v4766.toNat, 0]
def k0_mult25 (i : grid0.Coords) (k0_t4 : Fin (k0_t4_loop i).trips) : BitVec 32 :=
  let c0_i32_1562 : BitVec 32 := 0#32
  let arg1 : BitVec 32 := BitVec.ofNat 32 (i 1).val
  let c1_i32 : BitVec 32 := 1#32
  let v0 : BitVec 32 := Scalar.addi arg1 c1_i32
  let v4475 : BitVec 32 := Scalar.subi v0 c0_i32_1562
  let c1_i32_1563 : BitVec 32 := 1#32
  let v4477 : BitVec 32 := Scalar.divsi v4475 c1_i32_1563
  let v4478 : BitVec 32 := Scalar.muli v4477 c1_i32_1563
  let v4479 : BitVec 32 := Scalar.addi c0_i32_1562 v4478
  let c1_i32_1565 : BitVec 32 := 1#32
  let arg21 : BitVec 32 := Scf.iv v4479 c1_i32_1565 k0_t4
  let c256_i32_1737 : BitVec 32 := 256#32
  let v4773 : BitVec 32 := Scalar.muli arg21 c256_i32_1737
  v4773
@[reducible] def k0_t5_loop : Scf.Loop 32 :=
  let c0_i32_1735 : BitVec 32 := 0#32
  let c12_i32 : BitVec 32 := 12#32
  let v4774 : BitVec 32 := Scalar.addi c0_i32_1735 c12_i32
  let c1_i32_1736 : BitVec 32 := 1#32
  ⟨c0_i32_1735, v4774, c1_i32_1736⟩
@[reducible] def k0_t6_loop (i : grid0.Coords) : Scf.Loop 32 :=
  let c0_i32_1740 : BitVec 32 := 0#32
  let arg1 : BitVec 32 := BitVec.ofNat 32 (i 1).val
  let c1_i32 : BitVec 32 := 1#32
  let v0 : BitVec 32 := Scalar.addi arg1 c1_i32
  let v4777 : BitVec 32 := Scalar.subi v0 c0_i32_1740
  let c1_i32_1741 : BitVec 32 := 1#32
  let v4779 : BitVec 32 := Scalar.divsi v4777 c1_i32_1741
  let v4780 : BitVec 32 := Scalar.muli v4779 c1_i32_1741
  let v4781 : BitVec 32 := Scalar.addi c0_i32_1740 v4780
  let c1_i32_1742 : BitVec 32 := 1#32
  ⟨c0_i32_1740, v4781, c1_i32_1742⟩
def k0_mult26 (i : grid0.Coords) (k0_t6 : Fin (k0_t6_loop i).trips) : BitVec 32 :=
  let c0_i32_1740 : BitVec 32 := 0#32
  let c1_i32_1742 : BitVec 32 := 1#32
  let arg21 : BitVec 32 := Scf.iv c0_i32_1740 c1_i32_1742 k0_t6
  let c256_i32_1749 : BitVec 32 := 256#32
  let v4797 : BitVec 32 := Scalar.muli arg21 c256_i32_1749
  v4797
def k0_off331 (i : grid0.Coords) (k0_t6 : Fin (k0_t6_loop i).trips) : Fin 2 → Nat :=
  let c0_i32_1740 : BitVec 32 := 0#32
  let c1_i32_1742 : BitVec 32 := 1#32
  let arg21 : BitVec 32 := Scf.iv c0_i32_1740 c1_i32_1742 k0_t6
  let c256_i32_1749 : BitVec 32 := 256#32
  let v4797 : BitVec 32 := Scalar.muli arg21 c256_i32_1749
  let v4798 : BitVec 32 := v4797
  let v4799 : Index := Scalar.indexCast v4798
  let c0_1750 : Index := 0#32
  ![v4799.toNat, 0]
def k0_mult27 (i : grid0.Coords) (k0_t6 : Fin (k0_t6_loop i).trips) : BitVec 32 :=
  let c0_i32_1740 : BitVec 32 := 0#32
  let c1_i32_1742 : BitVec 32 := 1#32
  let arg21 : BitVec 32 := Scf.iv c0_i32_1740 c1_i32_1742 k0_t6
  let c256_i32_1755 : BitVec 32 := 256#32
  let v4821 : BitVec 32 := Scalar.muli arg21 c256_i32_1755
  v4821
@[reducible] def k0_t7_loop (i : grid0.Coords) : Scf.Loop 32 :=
  let c0_i32_1740 : BitVec 32 := 0#32
  let arg1 : BitVec 32 := BitVec.ofNat 32 (i 1).val
  let c1_i32 : BitVec 32 := 1#32
  let v0 : BitVec 32 := Scalar.addi arg1 c1_i32
  let v4777 : BitVec 32 := Scalar.subi v0 c0_i32_1740
  let c1_i32_1741 : BitVec 32 := 1#32
  let v4779 : BitVec 32 := Scalar.divsi v4777 c1_i32_1741
  let v4780 : BitVec 32 := Scalar.muli v4779 c1_i32_1741
  let v4781 : BitVec 32 := Scalar.addi c0_i32_1740 v4780
  let v4778 : BitVec 32 := Scalar.addi c0_i32_1740 v4777
  let c1_i32_1743 : BitVec 32 := 1#32
  ⟨v4781, v4778, c1_i32_1743⟩
def k0_mult28 (i : grid0.Coords) (k0_t7 : Fin (k0_t7_loop i).trips) : BitVec 32 :=
  let c0_i32_1740 : BitVec 32 := 0#32
  let arg1 : BitVec 32 := BitVec.ofNat 32 (i 1).val
  let c1_i32 : BitVec 32 := 1#32
  let v0 : BitVec 32 := Scalar.addi arg1 c1_i32
  let v4777 : BitVec 32 := Scalar.subi v0 c0_i32_1740
  let c1_i32_1741 : BitVec 32 := 1#32
  let v4779 : BitVec 32 := Scalar.divsi v4777 c1_i32_1741
  let v4780 : BitVec 32 := Scalar.muli v4779 c1_i32_1741
  let v4781 : BitVec 32 := Scalar.addi c0_i32_1740 v4780
  let c1_i32_1743 : BitVec 32 := 1#32
  let arg21 : BitVec 32 := Scf.iv v4781 c1_i32_1743 k0_t7
  let c256_i32_1749 : BitVec 32 := 256#32
  let v4797 : BitVec 32 := Scalar.muli arg21 c256_i32_1749
  v4797
def k0_off332 (i : grid0.Coords) (k0_t7 : Fin (k0_t7_loop i).trips) : Fin 2 → Nat :=
  let c0_i32_1740 : BitVec 32 := 0#32
  let arg1 : BitVec 32 := BitVec.ofNat 32 (i 1).val
  let c1_i32 : BitVec 32 := 1#32
  let v0 : BitVec 32 := Scalar.addi arg1 c1_i32
  let v4777 : BitVec 32 := Scalar.subi v0 c0_i32_1740
  let c1_i32_1741 : BitVec 32 := 1#32
  let v4779 : BitVec 32 := Scalar.divsi v4777 c1_i32_1741
  let v4780 : BitVec 32 := Scalar.muli v4779 c1_i32_1741
  let v4781 : BitVec 32 := Scalar.addi c0_i32_1740 v4780
  let c1_i32_1743 : BitVec 32 := 1#32
  let arg21 : BitVec 32 := Scf.iv v4781 c1_i32_1743 k0_t7
  let c256_i32_1749 : BitVec 32 := 256#32
  let v4797 : BitVec 32 := Scalar.muli arg21 c256_i32_1749
  let v4798 : BitVec 32 := v4797
  let v4799 : Index := Scalar.indexCast v4798
  let c0_1750 : Index := 0#32
  ![v4799.toNat, 0]
def k0_mult29 (i : grid0.Coords) (k0_t7 : Fin (k0_t7_loop i).trips) : BitVec 32 :=
  let c0_i32_1740 : BitVec 32 := 0#32
  let arg1 : BitVec 32 := BitVec.ofNat 32 (i 1).val
  let c1_i32 : BitVec 32 := 1#32
  let v0 : BitVec 32 := Scalar.addi arg1 c1_i32
  let v4777 : BitVec 32 := Scalar.subi v0 c0_i32_1740
  let c1_i32_1741 : BitVec 32 := 1#32
  let v4779 : BitVec 32 := Scalar.divsi v4777 c1_i32_1741
  let v4780 : BitVec 32 := Scalar.muli v4779 c1_i32_1741
  let v4781 : BitVec 32 := Scalar.addi c0_i32_1740 v4780
  let c1_i32_1743 : BitVec 32 := 1#32
  let arg21 : BitVec 32 := Scf.iv v4781 c1_i32_1743 k0_t7
  let c256_i32_1755 : BitVec 32 := 256#32
  let v4821 : BitVec 32 := Scalar.muli arg21 c256_i32_1755
  v4821
@[reducible] def k0_t8_loop : Scf.Loop 32 :=
  let c0_i32_1734 : BitVec 32 := 0#32
  let c32_i32_1735 : BitVec 32 := 32#32
  let v4765 : BitVec 32 := Scalar.addi c0_i32_1734 c32_i32_1735
  let c1_i32_1736 : BitVec 32 := 1#32
  ⟨c0_i32_1734, v4765, c1_i32_1736⟩
@[reducible] def k0_t9_loop (i : grid0.Coords) : Scf.Loop 32 :=
  let c0_i32_1777 : BitVec 32 := 0#32
  let arg1 : BitVec 32 := BitVec.ofNat 32 (i 1).val
  let c1_i32 : BitVec 32 := 1#32
  let v0 : BitVec 32 := Scalar.addi arg1 c1_i32
  let v4841 : BitVec 32 := Scalar.subi v0 c0_i32_1777
  let c1_i32_1778 : BitVec 32 := 1#32
  let v4843 : BitVec 32 := Scalar.divsi v4841 c1_i32_1778
  let v4844 : BitVec 32 := Scalar.muli v4843 c1_i32_1778
  let v4845 : BitVec 32 := Scalar.addi c0_i32_1777 v4844
  let c1_i32_1779 : BitVec 32 := 1#32
  ⟨c0_i32_1777, v4845, c1_i32_1779⟩
def k0_mult30 (i : grid0.Coords) (k0_t9 : Fin (k0_t9_loop i).trips) : BitVec 32 :=
  let c0_i32_1777 : BitVec 32 := 0#32
  let c1_i32_1779 : BitVec 32 := 1#32
  let arg23 : BitVec 32 := Scf.iv c0_i32_1777 c1_i32_1779 k0_t9
  let c256_i32_1783 : BitVec 32 := 256#32
  let v4853 : BitVec 32 := Scalar.muli arg23 c256_i32_1783
  v4853
def k0_off333 (i : grid0.Coords) (k0_t9 : Fin (k0_t9_loop i).trips) : Fin 2 → Nat :=
  let c0_i32_1777 : BitVec 32 := 0#32
  let c1_i32_1779 : BitVec 32 := 1#32
  let arg23 : BitVec 32 := Scf.iv c0_i32_1777 c1_i32_1779 k0_t9
  let c256_i32_1783 : BitVec 32 := 256#32
  let v4853 : BitVec 32 := Scalar.muli arg23 c256_i32_1783
  let v4854 : BitVec 32 := v4853
  let v4855 : Index := Scalar.indexCast v4854
  let c0_1784 : Index := 0#32
  ![v4855.toNat, 0]
@[reducible] def k0_t10_loop (i : grid0.Coords) : Scf.Loop 32 :=
  let c0_i32_1777 : BitVec 32 := 0#32
  let arg1 : BitVec 32 := BitVec.ofNat 32 (i 1).val
  let c1_i32 : BitVec 32 := 1#32
  let v0 : BitVec 32 := Scalar.addi arg1 c1_i32
  let v4841 : BitVec 32 := Scalar.subi v0 c0_i32_1777
  let c1_i32_1778 : BitVec 32 := 1#32
  let v4843 : BitVec 32 := Scalar.divsi v4841 c1_i32_1778
  let v4844 : BitVec 32 := Scalar.muli v4843 c1_i32_1778
  let v4845 : BitVec 32 := Scalar.addi c0_i32_1777 v4844
  let v4842 : BitVec 32 := Scalar.addi c0_i32_1777 v4841
  let c1_i32_1780 : BitVec 32 := 1#32
  ⟨v4845, v4842, c1_i32_1780⟩
def k0_mult31 (i : grid0.Coords) (k0_t10 : Fin (k0_t10_loop i).trips) : BitVec 32 :=
  let c0_i32_1777 : BitVec 32 := 0#32
  let arg1 : BitVec 32 := BitVec.ofNat 32 (i 1).val
  let c1_i32 : BitVec 32 := 1#32
  let v0 : BitVec 32 := Scalar.addi arg1 c1_i32
  let v4841 : BitVec 32 := Scalar.subi v0 c0_i32_1777
  let c1_i32_1778 : BitVec 32 := 1#32
  let v4843 : BitVec 32 := Scalar.divsi v4841 c1_i32_1778
  let v4844 : BitVec 32 := Scalar.muli v4843 c1_i32_1778
  let v4845 : BitVec 32 := Scalar.addi c0_i32_1777 v4844
  let c1_i32_1780 : BitVec 32 := 1#32
  let arg23 : BitVec 32 := Scf.iv v4845 c1_i32_1780 k0_t10
  let c256_i32_1783 : BitVec 32 := 256#32
  let v4853 : BitVec 32 := Scalar.muli arg23 c256_i32_1783
  v4853
def k0_off334 (i : grid0.Coords) (k0_t10 : Fin (k0_t10_loop i).trips) : Fin 2 → Nat :=
  let c0_i32_1777 : BitVec 32 := 0#32
  let arg1 : BitVec 32 := BitVec.ofNat 32 (i 1).val
  let c1_i32 : BitVec 32 := 1#32
  let v0 : BitVec 32 := Scalar.addi arg1 c1_i32
  let v4841 : BitVec 32 := Scalar.subi v0 c0_i32_1777
  let c1_i32_1778 : BitVec 32 := 1#32
  let v4843 : BitVec 32 := Scalar.divsi v4841 c1_i32_1778
  let v4844 : BitVec 32 := Scalar.muli v4843 c1_i32_1778
  let v4845 : BitVec 32 := Scalar.addi c0_i32_1777 v4844
  let c1_i32_1780 : BitVec 32 := 1#32
  let arg23 : BitVec 32 := Scf.iv v4845 c1_i32_1780 k0_t10
  let c256_i32_1783 : BitVec 32 := 256#32
  let v4853 : BitVec 32 := Scalar.muli arg23 c256_i32_1783
  let v4854 : BitVec 32 := v4853
  let v4855 : Index := Scalar.indexCast v4854
  let c0_1784 : Index := 0#32
  ![v4855.toNat, 0]
@[reducible] def k0_t11_loop : Scf.Loop 32 :=
  let c0_i32_1745 : BitVec 32 := 0#32
  let c30_i32 : BitVec 32 := 30#32
  let v4790 : BitVec 32 := Scalar.addi c0_i32_1745 c30_i32
  let c1_i32_1746 : BitVec 32 := 1#32
  ⟨c0_i32_1745, v4790, c1_i32_1746⟩
@[reducible] def k0_t12_loop (i : grid0.Coords) : Scf.Loop 32 :=
  let c0_i32_1775 : BitVec 32 := 0#32
  let arg1 : BitVec 32 := BitVec.ofNat 32 (i 1).val
  let c1_i32 : BitVec 32 := 1#32
  let v0 : BitVec 32 := Scalar.addi arg1 c1_i32
  let v4837 : BitVec 32 := Scalar.subi v0 c0_i32_1775
  let c1_i32_1776 : BitVec 32 := 1#32
  let v4839 : BitVec 32 := Scalar.divsi v4837 c1_i32_1776
  let v4840 : BitVec 32 := Scalar.muli v4839 c1_i32_1776
  let v4841 : BitVec 32 := Scalar.addi c0_i32_1775 v4840
  let c1_i32_1777 : BitVec 32 := 1#32
  ⟨c0_i32_1775, v4841, c1_i32_1777⟩
def k0_mult32 (i : grid0.Coords) (k0_t12 : Fin (k0_t12_loop i).trips) : BitVec 32 :=
  let c0_i32_1775 : BitVec 32 := 0#32
  let c1_i32_1777 : BitVec 32 := 1#32
  let arg23 : BitVec 32 := Scf.iv c0_i32_1775 c1_i32_1777 k0_t12
  let c256_i32_1781 : BitVec 32 := 256#32
  let v4849 : BitVec 32 := Scalar.muli arg23 c256_i32_1781
  v4849
def k0_off335 (i : grid0.Coords) (k0_t12 : Fin (k0_t12_loop i).trips) : Fin 2 → Nat :=
  let c0_i32_1775 : BitVec 32 := 0#32
  let c1_i32_1777 : BitVec 32 := 1#32
  let arg23 : BitVec 32 := Scf.iv c0_i32_1775 c1_i32_1777 k0_t12
  let c256_i32_1781 : BitVec 32 := 256#32
  let v4849 : BitVec 32 := Scalar.muli arg23 c256_i32_1781
  let v4850 : BitVec 32 := v4849
  let v4851 : Index := Scalar.indexCast v4850
  let c0_1782 : Index := 0#32
  ![v4851.toNat, 0]
@[reducible] def k0_t13_loop (i : grid0.Coords) : Scf.Loop 32 :=
  let c0_i32_1775 : BitVec 32 := 0#32
  let arg1 : BitVec 32 := BitVec.ofNat 32 (i 1).val
  let c1_i32 : BitVec 32 := 1#32
  let v0 : BitVec 32 := Scalar.addi arg1 c1_i32
  let v4837 : BitVec 32 := Scalar.subi v0 c0_i32_1775
  let c1_i32_1776 : BitVec 32 := 1#32
  let v4839 : BitVec 32 := Scalar.divsi v4837 c1_i32_1776
  let v4840 : BitVec 32 := Scalar.muli v4839 c1_i32_1776
  let v4841 : BitVec 32 := Scalar.addi c0_i32_1775 v4840
  let v4838 : BitVec 32 := Scalar.addi c0_i32_1775 v4837
  let c1_i32_1778 : BitVec 32 := 1#32
  ⟨v4841, v4838, c1_i32_1778⟩
def k0_mult33 (i : grid0.Coords) (k0_t13 : Fin (k0_t13_loop i).trips) : BitVec 32 :=
  let c0_i32_1775 : BitVec 32 := 0#32
  let arg1 : BitVec 32 := BitVec.ofNat 32 (i 1).val
  let c1_i32 : BitVec 32 := 1#32
  let v0 : BitVec 32 := Scalar.addi arg1 c1_i32
  let v4837 : BitVec 32 := Scalar.subi v0 c0_i32_1775
  let c1_i32_1776 : BitVec 32 := 1#32
  let v4839 : BitVec 32 := Scalar.divsi v4837 c1_i32_1776
  let v4840 : BitVec 32 := Scalar.muli v4839 c1_i32_1776
  let v4841 : BitVec 32 := Scalar.addi c0_i32_1775 v4840
  let c1_i32_1778 : BitVec 32 := 1#32
  let arg23 : BitVec 32 := Scf.iv v4841 c1_i32_1778 k0_t13
  let c256_i32_1781 : BitVec 32 := 256#32
  let v4849 : BitVec 32 := Scalar.muli arg23 c256_i32_1781
  v4849
def k0_off336 (i : grid0.Coords) (k0_t13 : Fin (k0_t13_loop i).trips) : Fin 2 → Nat :=
  let c0_i32_1775 : BitVec 32 := 0#32
  let arg1 : BitVec 32 := BitVec.ofNat 32 (i 1).val
  let c1_i32 : BitVec 32 := 1#32
  let v0 : BitVec 32 := Scalar.addi arg1 c1_i32
  let v4837 : BitVec 32 := Scalar.subi v0 c0_i32_1775
  let c1_i32_1776 : BitVec 32 := 1#32
  let v4839 : BitVec 32 := Scalar.divsi v4837 c1_i32_1776
  let v4840 : BitVec 32 := Scalar.muli v4839 c1_i32_1776
  let v4841 : BitVec 32 := Scalar.addi c0_i32_1775 v4840
  let c1_i32_1778 : BitVec 32 := 1#32
  let arg23 : BitVec 32 := Scf.iv v4841 c1_i32_1778 k0_t13
  let c256_i32_1781 : BitVec 32 := 256#32
  let v4849 : BitVec 32 := Scalar.muli arg23 c256_i32_1781
  let v4850 : BitVec 32 := v4849
  let v4851 : Index := Scalar.indexCast v4850
  let c0_1782 : Index := 0#32
  ![v4851.toNat, 0]
@[reducible] def k0_t14_loop (i : grid0.Coords) : Scf.Loop 32 :=
  let c0_i32_1750 : BitVec 32 := 0#32
  let arg1 : BitVec 32 := BitVec.ofNat 32 (i 1).val
  let c1_i32 : BitVec 32 := 1#32
  let v0 : BitVec 32 := Scalar.addi arg1 c1_i32
  let v4795 : BitVec 32 := Scalar.subi v0 c0_i32_1750
  let c1_i32_1751 : BitVec 32 := 1#32
  let v4797 : BitVec 32 := Scalar.divsi v4795 c1_i32_1751
  let v4798 : BitVec 32 := Scalar.muli v4797 c1_i32_1751
  let v4799 : BitVec 32 := Scalar.addi c0_i32_1750 v4798
  let c1_i32_1752 : BitVec 32 := 1#32
  ⟨c0_i32_1750, v4799, c1_i32_1752⟩
def k0_mult34 (i : grid0.Coords) (k0_t14 : Fin (k0_t14_loop i).trips) : BitVec 32 :=
  let c0_i32_1750 : BitVec 32 := 0#32
  let c1_i32_1752 : BitVec 32 := 1#32
  let arg21 : BitVec 32 := Scf.iv c0_i32_1750 c1_i32_1752 k0_t14
  let c256_i32_1772 : BitVec 32 := 256#32
  let v4830 : BitVec 32 := Scalar.muli arg21 c256_i32_1772
  v4830
def k0_off337 (i : grid0.Coords) (k0_t14 : Fin (k0_t14_loop i).trips) : Fin 2 → Nat :=
  let c0_i32_1750 : BitVec 32 := 0#32
  let c1_i32_1752 : BitVec 32 := 1#32
  let arg21 : BitVec 32 := Scf.iv c0_i32_1750 c1_i32_1752 k0_t14
  let c256_i32_1772 : BitVec 32 := 256#32
  let v4830 : BitVec 32 := Scalar.muli arg21 c256_i32_1772
  let v4831 : BitVec 32 := v4830
  let v4832 : Index := Scalar.indexCast v4831
  let c0_1773 : Index := 0#32
  ![v4832.toNat, 0]
@[reducible] def k0_t15_loop (i : grid0.Coords) : Scf.Loop 32 :=
  let c0_i32_1750 : BitVec 32 := 0#32
  let arg1 : BitVec 32 := BitVec.ofNat 32 (i 1).val
  let c1_i32 : BitVec 32 := 1#32
  let v0 : BitVec 32 := Scalar.addi arg1 c1_i32
  let v4795 : BitVec 32 := Scalar.subi v0 c0_i32_1750
  let c1_i32_1751 : BitVec 32 := 1#32
  let v4797 : BitVec 32 := Scalar.divsi v4795 c1_i32_1751
  let v4798 : BitVec 32 := Scalar.muli v4797 c1_i32_1751
  let v4799 : BitVec 32 := Scalar.addi c0_i32_1750 v4798
  let v4796 : BitVec 32 := Scalar.addi c0_i32_1750 v4795
  let c1_i32_1753 : BitVec 32 := 1#32
  ⟨v4799, v4796, c1_i32_1753⟩
def k0_mult35 (i : grid0.Coords) (k0_t15 : Fin (k0_t15_loop i).trips) : BitVec 32 :=
  let c0_i32_1750 : BitVec 32 := 0#32
  let arg1 : BitVec 32 := BitVec.ofNat 32 (i 1).val
  let c1_i32 : BitVec 32 := 1#32
  let v0 : BitVec 32 := Scalar.addi arg1 c1_i32
  let v4795 : BitVec 32 := Scalar.subi v0 c0_i32_1750
  let c1_i32_1751 : BitVec 32 := 1#32
  let v4797 : BitVec 32 := Scalar.divsi v4795 c1_i32_1751
  let v4798 : BitVec 32 := Scalar.muli v4797 c1_i32_1751
  let v4799 : BitVec 32 := Scalar.addi c0_i32_1750 v4798
  let c1_i32_1753 : BitVec 32 := 1#32
  let arg21 : BitVec 32 := Scf.iv v4799 c1_i32_1753 k0_t15
  let c256_i32_1772 : BitVec 32 := 256#32
  let v4830 : BitVec 32 := Scalar.muli arg21 c256_i32_1772
  v4830
def k0_off338 (i : grid0.Coords) (k0_t15 : Fin (k0_t15_loop i).trips) : Fin 2 → Nat :=
  let c0_i32_1750 : BitVec 32 := 0#32
  let arg1 : BitVec 32 := BitVec.ofNat 32 (i 1).val
  let c1_i32 : BitVec 32 := 1#32
  let v0 : BitVec 32 := Scalar.addi arg1 c1_i32
  let v4795 : BitVec 32 := Scalar.subi v0 c0_i32_1750
  let c1_i32_1751 : BitVec 32 := 1#32
  let v4797 : BitVec 32 := Scalar.divsi v4795 c1_i32_1751
  let v4798 : BitVec 32 := Scalar.muli v4797 c1_i32_1751
  let v4799 : BitVec 32 := Scalar.addi c0_i32_1750 v4798
  let c1_i32_1753 : BitVec 32 := 1#32
  let arg21 : BitVec 32 := Scf.iv v4799 c1_i32_1753 k0_t15
  let c256_i32_1772 : BitVec 32 := 256#32
  let v4830 : BitVec 32 := Scalar.muli arg21 c256_i32_1772
  let v4831 : BitVec 32 := v4830
  let v4832 : Index := Scalar.indexCast v4831
  let c0_1773 : Index := 0#32
  ![v4832.toNat, 0]
@[reducible] def k0_t16_loop (i : grid0.Coords) : Scf.Loop 32 :=
  let c0_i32_1757 : BitVec 32 := 0#32
  let arg1 : BitVec 32 := BitVec.ofNat 32 (i 1).val
  let c1_i32 : BitVec 32 := 1#32
  let v0 : BitVec 32 := Scalar.addi arg1 c1_i32
  let v4807 : BitVec 32 := Scalar.subi v0 c0_i32_1757
  let c1_i32_1758 : BitVec 32 := 1#32
  let v4809 : BitVec 32 := Scalar.divsi v4807 c1_i32_1758
  let v4810 : BitVec 32 := Scalar.muli v4809 c1_i32_1758
  let v4811 : BitVec 32 := Scalar.addi c0_i32_1757 v4810
  let c1_i32_1759 : BitVec 32 := 1#32
  ⟨c0_i32_1757, v4811, c1_i32_1759⟩
def k0_mult36 (i : grid0.Coords) (k0_t16 : Fin (k0_t16_loop i).trips) : BitVec 32 :=
  let c0_i32_1757 : BitVec 32 := 0#32
  let c1_i32_1759 : BitVec 32 := 1#32
  let arg21 : BitVec 32 := Scf.iv c0_i32_1757 c1_i32_1759 k0_t16
  let c256_i32_1772 : BitVec 32 := 256#32
  let v4830 : BitVec 32 := Scalar.muli arg21 c256_i32_1772
  v4830
def k0_off339 (i : grid0.Coords) (k0_t16 : Fin (k0_t16_loop i).trips) : Fin 2 → Nat :=
  let c0_i32_1757 : BitVec 32 := 0#32
  let c1_i32_1759 : BitVec 32 := 1#32
  let arg21 : BitVec 32 := Scf.iv c0_i32_1757 c1_i32_1759 k0_t16
  let c256_i32_1772 : BitVec 32 := 256#32
  let v4830 : BitVec 32 := Scalar.muli arg21 c256_i32_1772
  let v4831 : BitVec 32 := v4830
  let v4832 : Index := Scalar.indexCast v4831
  let c0_1773 : Index := 0#32
  ![v4832.toNat, 0]
@[reducible] def k0_t17_loop (i : grid0.Coords) : Scf.Loop 32 :=
  let c0_i32_1757 : BitVec 32 := 0#32
  let arg1 : BitVec 32 := BitVec.ofNat 32 (i 1).val
  let c1_i32 : BitVec 32 := 1#32
  let v0 : BitVec 32 := Scalar.addi arg1 c1_i32
  let v4807 : BitVec 32 := Scalar.subi v0 c0_i32_1757
  let c1_i32_1758 : BitVec 32 := 1#32
  let v4809 : BitVec 32 := Scalar.divsi v4807 c1_i32_1758
  let v4810 : BitVec 32 := Scalar.muli v4809 c1_i32_1758
  let v4811 : BitVec 32 := Scalar.addi c0_i32_1757 v4810
  let v4808 : BitVec 32 := Scalar.addi c0_i32_1757 v4807
  let c1_i32_1760 : BitVec 32 := 1#32
  ⟨v4811, v4808, c1_i32_1760⟩
def k0_mult37 (i : grid0.Coords) (k0_t17 : Fin (k0_t17_loop i).trips) : BitVec 32 :=
  let c0_i32_1757 : BitVec 32 := 0#32
  let arg1 : BitVec 32 := BitVec.ofNat 32 (i 1).val
  let c1_i32 : BitVec 32 := 1#32
  let v0 : BitVec 32 := Scalar.addi arg1 c1_i32
  let v4807 : BitVec 32 := Scalar.subi v0 c0_i32_1757
  let c1_i32_1758 : BitVec 32 := 1#32
  let v4809 : BitVec 32 := Scalar.divsi v4807 c1_i32_1758
  let v4810 : BitVec 32 := Scalar.muli v4809 c1_i32_1758
  let v4811 : BitVec 32 := Scalar.addi c0_i32_1757 v4810
  let c1_i32_1760 : BitVec 32 := 1#32
  let arg21 : BitVec 32 := Scf.iv v4811 c1_i32_1760 k0_t17
  let c256_i32_1772 : BitVec 32 := 256#32
  let v4830 : BitVec 32 := Scalar.muli arg21 c256_i32_1772
  v4830
def k0_off340 (i : grid0.Coords) (k0_t17 : Fin (k0_t17_loop i).trips) : Fin 2 → Nat :=
  let c0_i32_1757 : BitVec 32 := 0#32
  let arg1 : BitVec 32 := BitVec.ofNat 32 (i 1).val
  let c1_i32 : BitVec 32 := 1#32
  let v0 : BitVec 32 := Scalar.addi arg1 c1_i32
  let v4807 : BitVec 32 := Scalar.subi v0 c0_i32_1757
  let c1_i32_1758 : BitVec 32 := 1#32
  let v4809 : BitVec 32 := Scalar.divsi v4807 c1_i32_1758
  let v4810 : BitVec 32 := Scalar.muli v4809 c1_i32_1758
  let v4811 : BitVec 32 := Scalar.addi c0_i32_1757 v4810
  let c1_i32_1760 : BitVec 32 := 1#32
  let arg21 : BitVec 32 := Scf.iv v4811 c1_i32_1760 k0_t17
  let c256_i32_1772 : BitVec 32 := 256#32
  let v4830 : BitVec 32 := Scalar.muli arg21 c256_i32_1772
  let v4831 : BitVec 32 := v4830
  let v4832 : Index := Scalar.indexCast v4831
  let c0_1773 : Index := 0#32
  ![v4832.toNat, 0]
@[reducible] def k0_t18_loop : Scf.Loop 32 :=
  let c0_i32_1764 : BitVec 32 := 0#32
  let c12_i32 : BitVec 32 := 12#32
  let v4820 : BitVec 32 := Scalar.addi c0_i32_1764 c12_i32
  let c1_i32_1765 : BitVec 32 := 1#32
  ⟨c0_i32_1764, v4820, c1_i32_1765⟩
@[reducible] def k0_t19_loop (i : grid0.Coords) : Scf.Loop 32 :=
  let c0_i32_1774 : BitVec 32 := 0#32
  let arg1 : BitVec 32 := BitVec.ofNat 32 (i 1).val
  let c1_i32 : BitVec 32 := 1#32
  let v0 : BitVec 32 := Scalar.addi arg1 c1_i32
  let v4835 : BitVec 32 := Scalar.subi v0 c0_i32_1774
  let c1_i32_1775 : BitVec 32 := 1#32
  let v4837 : BitVec 32 := Scalar.divsi v4835 c1_i32_1775
  let v4838 : BitVec 32 := Scalar.muli v4837 c1_i32_1775
  let v4839 : BitVec 32 := Scalar.addi c0_i32_1774 v4838
  let c1_i32_1776 : BitVec 32 := 1#32
  ⟨c0_i32_1774, v4839, c1_i32_1776⟩
def k0_mult38 (i : grid0.Coords) (k0_t19 : Fin (k0_t19_loop i).trips) : BitVec 32 :=
  let c0_i32_1774 : BitVec 32 := 0#32
  let c1_i32_1776 : BitVec 32 := 1#32
  let arg23 : BitVec 32 := Scf.iv c0_i32_1774 c1_i32_1776 k0_t19
  let c256_i32_1779 : BitVec 32 := 256#32
  let v4846 : BitVec 32 := Scalar.muli arg23 c256_i32_1779
  v4846
def k0_off341 (i : grid0.Coords) (k0_t19 : Fin (k0_t19_loop i).trips) : Fin 2 → Nat :=
  let c0_i32_1774 : BitVec 32 := 0#32
  let c1_i32_1776 : BitVec 32 := 1#32
  let arg23 : BitVec 32 := Scf.iv c0_i32_1774 c1_i32_1776 k0_t19
  let c256_i32_1779 : BitVec 32 := 256#32
  let v4846 : BitVec 32 := Scalar.muli arg23 c256_i32_1779
  let v4847 : BitVec 32 := v4846
  let v4848 : Index := Scalar.indexCast v4847
  let c0_1780 : Index := 0#32
  ![v4848.toNat, 0]
@[reducible] def k0_t20_loop (i : grid0.Coords) : Scf.Loop 32 :=
  let c0_i32_1774 : BitVec 32 := 0#32
  let arg1 : BitVec 32 := BitVec.ofNat 32 (i 1).val
  let c1_i32 : BitVec 32 := 1#32
  let v0 : BitVec 32 := Scalar.addi arg1 c1_i32
  let v4835 : BitVec 32 := Scalar.subi v0 c0_i32_1774
  let c1_i32_1775 : BitVec 32 := 1#32
  let v4837 : BitVec 32 := Scalar.divsi v4835 c1_i32_1775
  let v4838 : BitVec 32 := Scalar.muli v4837 c1_i32_1775
  let v4839 : BitVec 32 := Scalar.addi c0_i32_1774 v4838
  let v4836 : BitVec 32 := Scalar.addi c0_i32_1774 v4835
  let c1_i32_1777 : BitVec 32 := 1#32
  ⟨v4839, v4836, c1_i32_1777⟩
def k0_mult39 (i : grid0.Coords) (k0_t20 : Fin (k0_t20_loop i).trips) : BitVec 32 :=
  let c0_i32_1774 : BitVec 32 := 0#32
  let arg1 : BitVec 32 := BitVec.ofNat 32 (i 1).val
  let c1_i32 : BitVec 32 := 1#32
  let v0 : BitVec 32 := Scalar.addi arg1 c1_i32
  let v4835 : BitVec 32 := Scalar.subi v0 c0_i32_1774
  let c1_i32_1775 : BitVec 32 := 1#32
  let v4837 : BitVec 32 := Scalar.divsi v4835 c1_i32_1775
  let v4838 : BitVec 32 := Scalar.muli v4837 c1_i32_1775
  let v4839 : BitVec 32 := Scalar.addi c0_i32_1774 v4838
  let c1_i32_1777 : BitVec 32 := 1#32
  let arg23 : BitVec 32 := Scf.iv v4839 c1_i32_1777 k0_t20
  let c256_i32_1779 : BitVec 32 := 256#32
  let v4846 : BitVec 32 := Scalar.muli arg23 c256_i32_1779
  v4846
def k0_off342 (i : grid0.Coords) (k0_t20 : Fin (k0_t20_loop i).trips) : Fin 2 → Nat :=
  let c0_i32_1774 : BitVec 32 := 0#32
  let arg1 : BitVec 32 := BitVec.ofNat 32 (i 1).val
  let c1_i32 : BitVec 32 := 1#32
  let v0 : BitVec 32 := Scalar.addi arg1 c1_i32
  let v4835 : BitVec 32 := Scalar.subi v0 c0_i32_1774
  let c1_i32_1775 : BitVec 32 := 1#32
  let v4837 : BitVec 32 := Scalar.divsi v4835 c1_i32_1775
  let v4838 : BitVec 32 := Scalar.muli v4837 c1_i32_1775
  let v4839 : BitVec 32 := Scalar.addi c0_i32_1774 v4838
  let c1_i32_1777 : BitVec 32 := 1#32
  let arg23 : BitVec 32 := Scf.iv v4839 c1_i32_1777 k0_t20
  let c256_i32_1779 : BitVec 32 := 256#32
  let v4846 : BitVec 32 := Scalar.muli arg23 c256_i32_1779
  let v4847 : BitVec 32 := v4846
  let v4848 : Index := Scalar.indexCast v4847
  let c0_1780 : Index := 0#32
  ![v4848.toNat, 0]
@[reducible] def k0_t21_loop (i : grid0.Coords) : Scf.Loop 32 :=
  let c0_i32_1768 : BitVec 32 := 0#32
  let arg1 : BitVec 32 := BitVec.ofNat 32 (i 1).val
  let c1_i32 : BitVec 32 := 1#32
  let v0 : BitVec 32 := Scalar.addi arg1 c1_i32
  let v4823 : BitVec 32 := Scalar.subi v0 c0_i32_1768
  let c1_i32_1769 : BitVec 32 := 1#32
  let v4825 : BitVec 32 := Scalar.divsi v4823 c1_i32_1769
  let v4826 : BitVec 32 := Scalar.muli v4825 c1_i32_1769
  let v4827 : BitVec 32 := Scalar.addi c0_i32_1768 v4826
  let c1_i32_1770 : BitVec 32 := 1#32
  ⟨c0_i32_1768, v4827, c1_i32_1770⟩
def k0_mult40 (i : grid0.Coords) (k0_t21 : Fin (k0_t21_loop i).trips) : BitVec 32 :=
  let c0_i32_1768 : BitVec 32 := 0#32
  let c1_i32_1770 : BitVec 32 := 1#32
  let arg21 : BitVec 32 := Scf.iv c0_i32_1768 c1_i32_1770 k0_t21
  let c256_i32_1772 : BitVec 32 := 256#32
  let v4830 : BitVec 32 := Scalar.muli arg21 c256_i32_1772
  v4830
def k0_off343 (i : grid0.Coords) (k0_t21 : Fin (k0_t21_loop i).trips) : Fin 2 → Nat :=
  let c0_i32_1768 : BitVec 32 := 0#32
  let c1_i32_1770 : BitVec 32 := 1#32
  let arg21 : BitVec 32 := Scf.iv c0_i32_1768 c1_i32_1770 k0_t21
  let c256_i32_1772 : BitVec 32 := 256#32
  let v4830 : BitVec 32 := Scalar.muli arg21 c256_i32_1772
  let v4831 : BitVec 32 := v4830
  let v4832 : Index := Scalar.indexCast v4831
  let c0_1773 : Index := 0#32
  ![v4832.toNat, 0]
def k0_mult41 (i : grid0.Coords) (k0_t21 : Fin (k0_t21_loop i).trips) : BitVec 32 :=
  let c0_i32_1768 : BitVec 32 := 0#32
  let c1_i32_1770 : BitVec 32 := 1#32
  let arg21 : BitVec 32 := Scf.iv c0_i32_1768 c1_i32_1770 k0_t21
  let c256_i32_1778 : BitVec 32 := 256#32
  let v4854 : BitVec 32 := Scalar.muli arg21 c256_i32_1778
  v4854
@[reducible] def k0_t22_loop (i : grid0.Coords) : Scf.Loop 32 :=
  let c0_i32_1768 : BitVec 32 := 0#32
  let arg1 : BitVec 32 := BitVec.ofNat 32 (i 1).val
  let c1_i32 : BitVec 32 := 1#32
  let v0 : BitVec 32 := Scalar.addi arg1 c1_i32
  let v4823 : BitVec 32 := Scalar.subi v0 c0_i32_1768
  let c1_i32_1769 : BitVec 32 := 1#32
  let v4825 : BitVec 32 := Scalar.divsi v4823 c1_i32_1769
  let v4826 : BitVec 32 := Scalar.muli v4825 c1_i32_1769
  let v4827 : BitVec 32 := Scalar.addi c0_i32_1768 v4826
  let v4824 : BitVec 32 := Scalar.addi c0_i32_1768 v4823
  let c1_i32_1771 : BitVec 32 := 1#32
  ⟨v4827, v4824, c1_i32_1771⟩
def k0_mult42 (i : grid0.Coords) (k0_t22 : Fin (k0_t22_loop i).trips) : BitVec 32 :=
  let c0_i32_1768 : BitVec 32 := 0#32
  let arg1 : BitVec 32 := BitVec.ofNat 32 (i 1).val
  let c1_i32 : BitVec 32 := 1#32
  let v0 : BitVec 32 := Scalar.addi arg1 c1_i32
  let v4823 : BitVec 32 := Scalar.subi v0 c0_i32_1768
  let c1_i32_1769 : BitVec 32 := 1#32
  let v4825 : BitVec 32 := Scalar.divsi v4823 c1_i32_1769
  let v4826 : BitVec 32 := Scalar.muli v4825 c1_i32_1769
  let v4827 : BitVec 32 := Scalar.addi c0_i32_1768 v4826
  let c1_i32_1771 : BitVec 32 := 1#32
  let arg21 : BitVec 32 := Scf.iv v4827 c1_i32_1771 k0_t22
  let c256_i32_1772 : BitVec 32 := 256#32
  let v4830 : BitVec 32 := Scalar.muli arg21 c256_i32_1772
  v4830
def k0_off344 (i : grid0.Coords) (k0_t22 : Fin (k0_t22_loop i).trips) : Fin 2 → Nat :=
  let c0_i32_1768 : BitVec 32 := 0#32
  let arg1 : BitVec 32 := BitVec.ofNat 32 (i 1).val
  let c1_i32 : BitVec 32 := 1#32
  let v0 : BitVec 32 := Scalar.addi arg1 c1_i32
  let v4823 : BitVec 32 := Scalar.subi v0 c0_i32_1768
  let c1_i32_1769 : BitVec 32 := 1#32
  let v4825 : BitVec 32 := Scalar.divsi v4823 c1_i32_1769
  let v4826 : BitVec 32 := Scalar.muli v4825 c1_i32_1769
  let v4827 : BitVec 32 := Scalar.addi c0_i32_1768 v4826
  let c1_i32_1771 : BitVec 32 := 1#32
  let arg21 : BitVec 32 := Scf.iv v4827 c1_i32_1771 k0_t22
  let c256_i32_1772 : BitVec 32 := 256#32
  let v4830 : BitVec 32 := Scalar.muli arg21 c256_i32_1772
  let v4831 : BitVec 32 := v4830
  let v4832 : Index := Scalar.indexCast v4831
  let c0_1773 : Index := 0#32
  ![v4832.toNat, 0]
def k0_mult43 (i : grid0.Coords) (k0_t22 : Fin (k0_t22_loop i).trips) : BitVec 32 :=
  let c0_i32_1768 : BitVec 32 := 0#32
  let arg1 : BitVec 32 := BitVec.ofNat 32 (i 1).val
  let c1_i32 : BitVec 32 := 1#32
  let v0 : BitVec 32 := Scalar.addi arg1 c1_i32
  let v4823 : BitVec 32 := Scalar.subi v0 c0_i32_1768
  let c1_i32_1769 : BitVec 32 := 1#32
  let v4825 : BitVec 32 := Scalar.divsi v4823 c1_i32_1769
  let v4826 : BitVec 32 := Scalar.muli v4825 c1_i32_1769
  let v4827 : BitVec 32 := Scalar.addi c0_i32_1768 v4826
  let c1_i32_1771 : BitVec 32 := 1#32
  let arg21 : BitVec 32 := Scf.iv v4827 c1_i32_1771 k0_t22
  let c256_i32_1778 : BitVec 32 := 256#32
  let v4854 : BitVec 32 := Scalar.muli arg21 c256_i32_1778
  v4854
def k0_mult44 : BitVec 32 :=
  let c0_i32_1618 : BitVec 32 := 0#32
  c0_i32_1618
def k0_mult45 : BitVec 32 :=
  let c0_i32_1626 : BitVec 32 := 0#32
  c0_i32_1626
def k0_mult46 : BitVec 32 :=
  let c0_i32_1634 : BitVec 32 := 0#32
  c0_i32_1634
def k0_mult47 : BitVec 32 :=
  let c0_i32_1642 : BitVec 32 := 0#32
  c0_i32_1642
@[reducible] def k0_t23_loop (i : grid0.Coords) : Scf.Loop 32 :=
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1660 : BitVec 32 := 1#32
  ⟨c0_i32_1658, v4660, c1_i32_1660⟩
def k0_mult48 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1734 : BitVec 32 := 1#32
  let v4765 : BitVec 32 := Scalar.addi v4764 c1_i32_1734
  let c256_i32_1735 : BitVec 32 := 256#32
  let v4766 : BitVec 32 := Scalar.muli v4765 c256_i32_1735
  v4766
def k0_off345 (i : grid0.Coords) (k0_t23 : Fin (k0_t23_loop i).trips) (c1_i32_1734 : BitVec 32) : Fin 2 → Nat :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let v4765 : BitVec 32 := Scalar.addi v4764 c1_i32_1734
  let c256_i32_1735 : BitVec 32 := 256#32
  let v4766 : BitVec 32 := Scalar.muli v4765 c256_i32_1735
  let v4767 : BitVec 32 := v4766
  let v4768 : Index := Scalar.indexCast v4767
  let c0_1736 : Index := 0#32
  ![v4768.toNat, 0]
def k0_mult49 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1734 : BitVec 32 := 1#32
  let v4765 : BitVec 32 := Scalar.addi v4764 c1_i32_1734
  let c256_i32_1743 : BitVec 32 := 256#32
  let v4775 : BitVec 32 := Scalar.muli v4765 c256_i32_1743
  v4775
def k0_off346 (i : grid0.Coords) (k0_t23 : Fin (k0_t23_loop i).trips) (c1_i32_1734 : BitVec 32) : Fin 2 → Nat :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let v4765 : BitVec 32 := Scalar.addi v4764 c1_i32_1734
  let c256_i32_1743 : BitVec 32 := 256#32
  let v4775 : BitVec 32 := Scalar.muli v4765 c256_i32_1743
  let v4776 : BitVec 32 := v4775
  let v4777 : Index := Scalar.indexCast v4776
  let c128_1744 : Index := 128#32
  ![v4777.toNat, 128]
def k0_mult50 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1734 : BitVec 32 := 1#32
  let v4765 : BitVec 32 := Scalar.addi v4764 c1_i32_1734
  let c256_i32_1751 : BitVec 32 := 256#32
  let v4784 : BitVec 32 := Scalar.muli v4765 c256_i32_1751
  v4784
def k0_off347 (i : grid0.Coords) (k0_t23 : Fin (k0_t23_loop i).trips) (c1_i32_1734 : BitVec 32) : Fin 2 → Nat :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let v4765 : BitVec 32 := Scalar.addi v4764 c1_i32_1734
  let c256_i32_1751 : BitVec 32 := 256#32
  let v4784 : BitVec 32 := Scalar.muli v4765 c256_i32_1751
  let v4785 : BitVec 32 := v4784
  let v4786 : Index := Scalar.indexCast v4785
  let c256_1752 : Index := 256#32
  ![v4786.toNat, 256]
def k0_mult51 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1734 : BitVec 32 := 1#32
  let v4765 : BitVec 32 := Scalar.addi v4764 c1_i32_1734
  let c256_i32_1759 : BitVec 32 := 256#32
  let v4793 : BitVec 32 := Scalar.muli v4765 c256_i32_1759
  v4793
def k0_off348 (i : grid0.Coords) (k0_t23 : Fin (k0_t23_loop i).trips) (c1_i32_1734 : BitVec 32) : Fin 2 → Nat :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let v4765 : BitVec 32 := Scalar.addi v4764 c1_i32_1734
  let c256_i32_1759 : BitVec 32 := 256#32
  let v4793 : BitVec 32 := Scalar.muli v4765 c256_i32_1759
  let v4794 : BitVec 32 := v4793
  let v4795 : Index := Scalar.indexCast v4794
  let c384_1760 : Index := 384#32
  ![v4795.toNat, 384]
def k0_mult52 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c256_i32_1767 : BitVec 32 := 256#32
  let v4802 : BitVec 32 := Scalar.muli v4764 c256_i32_1767
  v4802
def k0_off349 (i : grid0.Coords) (k0_t23 : Fin (k0_t23_loop i).trips) : Fin 2 → Nat :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c256_i32_1767 : BitVec 32 := 256#32
  let v4802 : BitVec 32 := Scalar.muli v4764 c256_i32_1767
  let v4803 : BitVec 32 := v4802
  let v4804 : Index := Scalar.indexCast v4803
  let c0_1768 : Index := 0#32
  ![v4804.toNat, 0]
def k0_mult53 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c256_i32_1782 : BitVec 32 := 256#32
  let v4822 : BitVec 32 := Scalar.muli v4764 c256_i32_1782
  v4822
def k0_off350 (i : grid0.Coords) (k0_t23 : Fin (k0_t23_loop i).trips) : Fin 2 → Nat :=
  let c0_1783 : Index := 0#32
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c256_i32_1782 : BitVec 32 := 256#32
  let v4822 : BitVec 32 := Scalar.muli v4764 c256_i32_1782
  let v4823 : BitVec 32 := v4822
  let v4824 : Index := Scalar.indexCast v4823
  ![0, v4824.toNat]
def k0_mult54 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c256_i32_1801 : BitVec 32 := 256#32
  let v4848 : BitVec 32 := Scalar.muli v4764 c256_i32_1801
  v4848
def k0_off351 (i : grid0.Coords) (k0_t23 : Fin (k0_t23_loop i).trips) : Fin 2 → Nat :=
  let c128_1802 : Index := 128#32
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c256_i32_1801 : BitVec 32 := 256#32
  let v4848 : BitVec 32 := Scalar.muli v4764 c256_i32_1801
  let v4849 : BitVec 32 := v4848
  let v4850 : Index := Scalar.indexCast v4849
  ![128, v4850.toNat]
def k0_mult55 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c256_i32_1820 : BitVec 32 := 256#32
  let v4874 : BitVec 32 := Scalar.muli v4764 c256_i32_1820
  v4874
def k0_off352 (i : grid0.Coords) (k0_t23 : Fin (k0_t23_loop i).trips) : Fin 2 → Nat :=
  let c256_1821 : Index := 256#32
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c256_i32_1820 : BitVec 32 := 256#32
  let v4874 : BitVec 32 := Scalar.muli v4764 c256_i32_1820
  let v4875 : BitVec 32 := v4874
  let v4876 : Index := Scalar.indexCast v4875
  ![256, v4876.toNat]
def k0_mult56 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c256_i32_1839 : BitVec 32 := 256#32
  let v4900 : BitVec 32 := Scalar.muli v4764 c256_i32_1839
  v4900
def k0_off353 (i : grid0.Coords) (k0_t23 : Fin (k0_t23_loop i).trips) : Fin 2 → Nat :=
  let c384_1840 : Index := 384#32
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c256_i32_1839 : BitVec 32 := 256#32
  let v4900 : BitVec 32 := Scalar.muli v4764 c256_i32_1839
  let v4901 : BitVec 32 := v4900
  let v4902 : Index := Scalar.indexCast v4901
  ![384, v4902.toNat]
def k0_mult57 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c2_i32_1845 : BitVec 32 := 2#32
  let v4910 : BitVec 32 := Scalar.addi v4764 c2_i32_1845
  let c256_i32_1846 : BitVec 32 := 256#32
  let v4911 : BitVec 32 := Scalar.muli v4910 c256_i32_1846
  v4911
def k0_mult58 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c2_i32_1845 : BitVec 32 := 2#32
  let v4910 : BitVec 32 := Scalar.addi v4764 c2_i32_1845
  let c256_i32_1854 : BitVec 32 := 256#32
  let v4920 : BitVec 32 := Scalar.muli v4910 c256_i32_1854
  v4920
def k0_mult59 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c2_i32_1845 : BitVec 32 := 2#32
  let v4910 : BitVec 32 := Scalar.addi v4764 c2_i32_1845
  let c256_i32_1862 : BitVec 32 := 256#32
  let v4929 : BitVec 32 := Scalar.muli v4910 c256_i32_1862
  v4929
def k0_mult60 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c2_i32_1845 : BitVec 32 := 2#32
  let v4910 : BitVec 32 := Scalar.addi v4764 c2_i32_1845
  let c256_i32_1870 : BitVec 32 := 256#32
  let v4938 : BitVec 32 := Scalar.muli v4910 c256_i32_1870
  v4938
def k0_mult61 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1878 : BitVec 32 := 1#32
  let v4947 : BitVec 32 := Scalar.addi v4764 c1_i32_1878
  let c256_i32_1879 : BitVec 32 := 256#32
  let v4948 : BitVec 32 := Scalar.muli v4947 c256_i32_1879
  v4948
def k0_off354 (i : grid0.Coords) (k0_t23 : Fin (k0_t23_loop i).trips) : Fin 2 → Nat :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1878 : BitVec 32 := 1#32
  let v4947 : BitVec 32 := Scalar.addi v4764 c1_i32_1878
  let c256_i32_1879 : BitVec 32 := 256#32
  let v4948 : BitVec 32 := Scalar.muli v4947 c256_i32_1879
  let v4949 : BitVec 32 := v4948
  let v4950 : Index := Scalar.indexCast v4949
  let c0_1880 : Index := 0#32
  ![v4950.toNat, 0]
def k0_mult62 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1878 : BitVec 32 := 1#32
  let v4947 : BitVec 32 := Scalar.addi v4764 c1_i32_1878
  let c256_i32_1894 : BitVec 32 := 256#32
  let v4968 : BitVec 32 := Scalar.muli v4947 c256_i32_1894
  v4968
def k0_off355 (i : grid0.Coords) (k0_t23 : Fin (k0_t23_loop i).trips) : Fin 2 → Nat :=
  let c0_1895 : Index := 0#32
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1878 : BitVec 32 := 1#32
  let v4947 : BitVec 32 := Scalar.addi v4764 c1_i32_1878
  let c256_i32_1894 : BitVec 32 := 256#32
  let v4968 : BitVec 32 := Scalar.muli v4947 c256_i32_1894
  let v4969 : BitVec 32 := v4968
  let v4970 : Index := Scalar.indexCast v4969
  ![0, v4970.toNat]
def k0_mult63 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1878 : BitVec 32 := 1#32
  let v4947 : BitVec 32 := Scalar.addi v4764 c1_i32_1878
  let c256_i32_1913 : BitVec 32 := 256#32
  let v4994 : BitVec 32 := Scalar.muli v4947 c256_i32_1913
  v4994
def k0_off356 (i : grid0.Coords) (k0_t23 : Fin (k0_t23_loop i).trips) : Fin 2 → Nat :=
  let c128_1914 : Index := 128#32
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1878 : BitVec 32 := 1#32
  let v4947 : BitVec 32 := Scalar.addi v4764 c1_i32_1878
  let c256_i32_1913 : BitVec 32 := 256#32
  let v4994 : BitVec 32 := Scalar.muli v4947 c256_i32_1913
  let v4995 : BitVec 32 := v4994
  let v4996 : Index := Scalar.indexCast v4995
  ![128, v4996.toNat]
def k0_mult64 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1878 : BitVec 32 := 1#32
  let v4947 : BitVec 32 := Scalar.addi v4764 c1_i32_1878
  let c256_i32_1932 : BitVec 32 := 256#32
  let v5020 : BitVec 32 := Scalar.muli v4947 c256_i32_1932
  v5020
def k0_off357 (i : grid0.Coords) (k0_t23 : Fin (k0_t23_loop i).trips) : Fin 2 → Nat :=
  let c256_1933 : Index := 256#32
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1878 : BitVec 32 := 1#32
  let v4947 : BitVec 32 := Scalar.addi v4764 c1_i32_1878
  let c256_i32_1932 : BitVec 32 := 256#32
  let v5020 : BitVec 32 := Scalar.muli v4947 c256_i32_1932
  let v5021 : BitVec 32 := v5020
  let v5022 : Index := Scalar.indexCast v5021
  ![256, v5022.toNat]
def k0_mult65 (i : grid0.Coords) (k0_t23 : Fin (k0_t23_loop i).trips) : BitVec 32 :=
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1878 : BitVec 32 := 1#32
  let v4947 : BitVec 32 := Scalar.addi v4764 c1_i32_1878
  let c256_i32_1951 : BitVec 32 := 256#32
  let v5046 : BitVec 32 := Scalar.muli v4947 c256_i32_1951
  v5046
def k0_off358 (i : grid0.Coords) (k0_t23 : Fin (k0_t23_loop i).trips) : Fin 2 → Nat :=
  let c384_1952 : Index := 384#32
  let c2_i32_1733 : BitVec 32 := 2#32
  let c0_i32_1658 : BitVec 32 := 0#32
  let c1_i32_1660 : BitVec 32 := 1#32
  let arg21 : BitVec 32 := Scf.iv c0_i32_1658 c1_i32_1660 k0_t23
  let v4764 : BitVec 32 := Scalar.muli c2_i32_1733 arg21
  let c1_i32_1878 : BitVec 32 := 1#32
  let v4947 : BitVec 32 := Scalar.addi v4764 c1_i32_1878
  let c256_i32_1951 : BitVec 32 := 256#32
  let v5046 : BitVec 32 := Scalar.muli v4947 c256_i32_1951
  let v5047 : BitVec 32 := v5046
  let v5048 : Index := Scalar.indexCast v5047
  ![384, v5048.toNat]
@[reducible] def k0_t24_loop (i : grid0.Coords) : Scf.Loop 32 :=
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let v4657 : BitVec 32 := Scalar.addi c0_i32_1658 v4656
  let c1_i32_1661 : BitVec 32 := 1#32
  ⟨v4660, v4657, c1_i32_1661⟩
def k0_mult66 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1734 : BitVec 32 := 1#32
  let v4765 : BitVec 32 := Scalar.addi v4764 c1_i32_1734
  let c256_i32_1735 : BitVec 32 := 256#32
  let v4766 : BitVec 32 := Scalar.muli v4765 c256_i32_1735
  v4766
def k0_off359 (i : grid0.Coords) (k0_t24 : Fin (k0_t24_loop i).trips) (c1_i32_1734 : BitVec 32) : Fin 2 → Nat :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let v4765 : BitVec 32 := Scalar.addi v4764 c1_i32_1734
  let c256_i32_1735 : BitVec 32 := 256#32
  let v4766 : BitVec 32 := Scalar.muli v4765 c256_i32_1735
  let v4767 : BitVec 32 := v4766
  let v4768 : Index := Scalar.indexCast v4767
  let c0_1736 : Index := 0#32
  ![v4768.toNat, 0]
def k0_mult67 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1734 : BitVec 32 := 1#32
  let v4765 : BitVec 32 := Scalar.addi v4764 c1_i32_1734
  let c256_i32_1743 : BitVec 32 := 256#32
  let v4775 : BitVec 32 := Scalar.muli v4765 c256_i32_1743
  v4775
def k0_off360 (i : grid0.Coords) (k0_t24 : Fin (k0_t24_loop i).trips) (c1_i32_1734 : BitVec 32) : Fin 2 → Nat :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let v4765 : BitVec 32 := Scalar.addi v4764 c1_i32_1734
  let c256_i32_1743 : BitVec 32 := 256#32
  let v4775 : BitVec 32 := Scalar.muli v4765 c256_i32_1743
  let v4776 : BitVec 32 := v4775
  let v4777 : Index := Scalar.indexCast v4776
  let c128_1744 : Index := 128#32
  ![v4777.toNat, 128]
def k0_mult68 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1734 : BitVec 32 := 1#32
  let v4765 : BitVec 32 := Scalar.addi v4764 c1_i32_1734
  let c256_i32_1751 : BitVec 32 := 256#32
  let v4784 : BitVec 32 := Scalar.muli v4765 c256_i32_1751
  v4784
def k0_off361 (i : grid0.Coords) (k0_t24 : Fin (k0_t24_loop i).trips) (c1_i32_1734 : BitVec 32) : Fin 2 → Nat :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let v4765 : BitVec 32 := Scalar.addi v4764 c1_i32_1734
  let c256_i32_1751 : BitVec 32 := 256#32
  let v4784 : BitVec 32 := Scalar.muli v4765 c256_i32_1751
  let v4785 : BitVec 32 := v4784
  let v4786 : Index := Scalar.indexCast v4785
  let c256_1752 : Index := 256#32
  ![v4786.toNat, 256]
def k0_mult69 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1734 : BitVec 32 := 1#32
  let v4765 : BitVec 32 := Scalar.addi v4764 c1_i32_1734
  let c256_i32_1759 : BitVec 32 := 256#32
  let v4793 : BitVec 32 := Scalar.muli v4765 c256_i32_1759
  v4793
def k0_off362 (i : grid0.Coords) (k0_t24 : Fin (k0_t24_loop i).trips) (c1_i32_1734 : BitVec 32) : Fin 2 → Nat :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let v4765 : BitVec 32 := Scalar.addi v4764 c1_i32_1734
  let c256_i32_1759 : BitVec 32 := 256#32
  let v4793 : BitVec 32 := Scalar.muli v4765 c256_i32_1759
  let v4794 : BitVec 32 := v4793
  let v4795 : Index := Scalar.indexCast v4794
  let c384_1760 : Index := 384#32
  ![v4795.toNat, 384]
def k0_mult70 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c256_i32_1767 : BitVec 32 := 256#32
  let v4802 : BitVec 32 := Scalar.muli v4764 c256_i32_1767
  v4802
def k0_off363 (i : grid0.Coords) (k0_t24 : Fin (k0_t24_loop i).trips) : Fin 2 → Nat :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c256_i32_1767 : BitVec 32 := 256#32
  let v4802 : BitVec 32 := Scalar.muli v4764 c256_i32_1767
  let v4803 : BitVec 32 := v4802
  let v4804 : Index := Scalar.indexCast v4803
  let c0_1768 : Index := 0#32
  ![v4804.toNat, 0]
def k0_mult71 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c256_i32_1782 : BitVec 32 := 256#32
  let v4822 : BitVec 32 := Scalar.muli v4764 c256_i32_1782
  v4822
def k0_off364 (i : grid0.Coords) (k0_t24 : Fin (k0_t24_loop i).trips) : Fin 2 → Nat :=
  let c0_1783 : Index := 0#32
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c256_i32_1782 : BitVec 32 := 256#32
  let v4822 : BitVec 32 := Scalar.muli v4764 c256_i32_1782
  let v4823 : BitVec 32 := v4822
  let v4824 : Index := Scalar.indexCast v4823
  ![0, v4824.toNat]
def k0_mult72 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c256_i32_1801 : BitVec 32 := 256#32
  let v4848 : BitVec 32 := Scalar.muli v4764 c256_i32_1801
  v4848
def k0_off365 (i : grid0.Coords) (k0_t24 : Fin (k0_t24_loop i).trips) : Fin 2 → Nat :=
  let c128_1802 : Index := 128#32
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c256_i32_1801 : BitVec 32 := 256#32
  let v4848 : BitVec 32 := Scalar.muli v4764 c256_i32_1801
  let v4849 : BitVec 32 := v4848
  let v4850 : Index := Scalar.indexCast v4849
  ![128, v4850.toNat]
def k0_mult73 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c256_i32_1820 : BitVec 32 := 256#32
  let v4874 : BitVec 32 := Scalar.muli v4764 c256_i32_1820
  v4874
def k0_off366 (i : grid0.Coords) (k0_t24 : Fin (k0_t24_loop i).trips) : Fin 2 → Nat :=
  let c256_1821 : Index := 256#32
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c256_i32_1820 : BitVec 32 := 256#32
  let v4874 : BitVec 32 := Scalar.muli v4764 c256_i32_1820
  let v4875 : BitVec 32 := v4874
  let v4876 : Index := Scalar.indexCast v4875
  ![256, v4876.toNat]
def k0_mult74 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c256_i32_1839 : BitVec 32 := 256#32
  let v4900 : BitVec 32 := Scalar.muli v4764 c256_i32_1839
  v4900
def k0_off367 (i : grid0.Coords) (k0_t24 : Fin (k0_t24_loop i).trips) : Fin 2 → Nat :=
  let c384_1840 : Index := 384#32
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c256_i32_1839 : BitVec 32 := 256#32
  let v4900 : BitVec 32 := Scalar.muli v4764 c256_i32_1839
  let v4901 : BitVec 32 := v4900
  let v4902 : Index := Scalar.indexCast v4901
  ![384, v4902.toNat]
def k0_mult75 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c2_i32_1845 : BitVec 32 := 2#32
  let v4910 : BitVec 32 := Scalar.addi v4764 c2_i32_1845
  let c256_i32_1846 : BitVec 32 := 256#32
  let v4911 : BitVec 32 := Scalar.muli v4910 c256_i32_1846
  v4911
def k0_mult76 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c2_i32_1845 : BitVec 32 := 2#32
  let v4910 : BitVec 32 := Scalar.addi v4764 c2_i32_1845
  let c256_i32_1854 : BitVec 32 := 256#32
  let v4920 : BitVec 32 := Scalar.muli v4910 c256_i32_1854
  v4920
def k0_mult77 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c2_i32_1845 : BitVec 32 := 2#32
  let v4910 : BitVec 32 := Scalar.addi v4764 c2_i32_1845
  let c256_i32_1862 : BitVec 32 := 256#32
  let v4929 : BitVec 32 := Scalar.muli v4910 c256_i32_1862
  v4929
def k0_mult78 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c2_i32_1845 : BitVec 32 := 2#32
  let v4910 : BitVec 32 := Scalar.addi v4764 c2_i32_1845
  let c256_i32_1870 : BitVec 32 := 256#32
  let v4938 : BitVec 32 := Scalar.muli v4910 c256_i32_1870
  v4938
def k0_mult79 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1878 : BitVec 32 := 1#32
  let v4947 : BitVec 32 := Scalar.addi v4764 c1_i32_1878
  let c256_i32_1879 : BitVec 32 := 256#32
  let v4948 : BitVec 32 := Scalar.muli v4947 c256_i32_1879
  v4948
def k0_off368 (i : grid0.Coords) (k0_t24 : Fin (k0_t24_loop i).trips) : Fin 2 → Nat :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1878 : BitVec 32 := 1#32
  let v4947 : BitVec 32 := Scalar.addi v4764 c1_i32_1878
  let c256_i32_1879 : BitVec 32 := 256#32
  let v4948 : BitVec 32 := Scalar.muli v4947 c256_i32_1879
  let v4949 : BitVec 32 := v4948
  let v4950 : Index := Scalar.indexCast v4949
  let c0_1880 : Index := 0#32
  ![v4950.toNat, 0]
def k0_mult80 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1878 : BitVec 32 := 1#32
  let v4947 : BitVec 32 := Scalar.addi v4764 c1_i32_1878
  let c256_i32_1894 : BitVec 32 := 256#32
  let v4968 : BitVec 32 := Scalar.muli v4947 c256_i32_1894
  v4968
def k0_off369 (i : grid0.Coords) (k0_t24 : Fin (k0_t24_loop i).trips) : Fin 2 → Nat :=
  let c0_1895 : Index := 0#32
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1878 : BitVec 32 := 1#32
  let v4947 : BitVec 32 := Scalar.addi v4764 c1_i32_1878
  let c256_i32_1894 : BitVec 32 := 256#32
  let v4968 : BitVec 32 := Scalar.muli v4947 c256_i32_1894
  let v4969 : BitVec 32 := v4968
  let v4970 : Index := Scalar.indexCast v4969
  ![0, v4970.toNat]
def k0_mult81 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1878 : BitVec 32 := 1#32
  let v4947 : BitVec 32 := Scalar.addi v4764 c1_i32_1878
  let c256_i32_1913 : BitVec 32 := 256#32
  let v4994 : BitVec 32 := Scalar.muli v4947 c256_i32_1913
  v4994
def k0_off370 (i : grid0.Coords) (k0_t24 : Fin (k0_t24_loop i).trips) : Fin 2 → Nat :=
  let c128_1914 : Index := 128#32
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1878 : BitVec 32 := 1#32
  let v4947 : BitVec 32 := Scalar.addi v4764 c1_i32_1878
  let c256_i32_1913 : BitVec 32 := 256#32
  let v4994 : BitVec 32 := Scalar.muli v4947 c256_i32_1913
  let v4995 : BitVec 32 := v4994
  let v4996 : Index := Scalar.indexCast v4995
  ![128, v4996.toNat]
def k0_mult82 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1878 : BitVec 32 := 1#32
  let v4947 : BitVec 32 := Scalar.addi v4764 c1_i32_1878
  let c256_i32_1932 : BitVec 32 := 256#32
  let v5020 : BitVec 32 := Scalar.muli v4947 c256_i32_1932
  v5020
def k0_off371 (i : grid0.Coords) (k0_t24 : Fin (k0_t24_loop i).trips) : Fin 2 → Nat :=
  let c256_1933 : Index := 256#32
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1878 : BitVec 32 := 1#32
  let v4947 : BitVec 32 := Scalar.addi v4764 c1_i32_1878
  let c256_i32_1932 : BitVec 32 := 256#32
  let v5020 : BitVec 32 := Scalar.muli v4947 c256_i32_1932
  let v5021 : BitVec 32 := v5020
  let v5022 : Index := Scalar.indexCast v5021
  ![256, v5022.toNat]
def k0_mult83 (i : grid0.Coords) (k0_t24 : Fin (k0_t24_loop i).trips) : BitVec 32 :=
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1878 : BitVec 32 := 1#32
  let v4947 : BitVec 32 := Scalar.addi v4764 c1_i32_1878
  let c256_i32_1951 : BitVec 32 := 256#32
  let v5046 : BitVec 32 := Scalar.muli v4947 c256_i32_1951
  v5046
def k0_off372 (i : grid0.Coords) (k0_t24 : Fin (k0_t24_loop i).trips) : Fin 2 → Nat :=
  let c384_1952 : Index := 384#32
  let c2_i32_1733 : BitVec 32 := 2#32
  let c0_i32_1658 : BitVec 32 := 0#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1651 : BitVec 32 := 0#32
  let v4640 : BitVec 1 := Scalar.cmpi .sgt v7 c0_i32_1651
  let v4641 : BitVec 32 := Scalar.extui v4640
  let c0_i32_1652 : BitVec 32 := 0#32
  let v4642 : BitVec 1 := Scalar.cmpi .slt v7 c0_i32_1652
  let v4643 : BitVec 32 := Scalar.extui v4642
  let v4644 : BitVec 32 := Scalar.subi v4641 v4643
  let c2_i32_1650 : BitVec 32 := 2#32
  let c0_i32_1653 : BitVec 32 := 0#32
  let v4645 : BitVec 1 := Scalar.cmpi .sgt c2_i32_1650 c0_i32_1653
  let v4646 : BitVec 32 := Scalar.extui v4645
  let c0_i32_1654 : BitVec 32 := 0#32
  let v4647 : BitVec 1 := Scalar.cmpi .slt c2_i32_1650 c0_i32_1654
  let v4648 : BitVec 32 := Scalar.extui v4647
  let v4649 : BitVec 32 := Scalar.subi v4646 v4648
  let v4650 : BitVec 1 := Scalar.cmpi .ne v4644 v4649
  let v4651 : BitVec 32 := Scalar.remsi v7 c2_i32_1650
  let c0_i32_1655 : BitVec 32 := 0#32
  let v4652 : BitVec 1 := Scalar.cmpi .ne v4651 c0_i32_1655
  let v4653 : BitVec 1 := Scalar.andi v4650 v4652
  let v4639 : BitVec 32 := Scalar.divsi v7 c2_i32_1650
  let c1_i32_1656 : BitVec 32 := 1#32
  let v4654 : BitVec 32 := Scalar.subi v4639 c1_i32_1656
  let v4655 : BitVec 32 := Scalar.select v4653 v4654 v4639
  let v4656 : BitVec 32 := Scalar.subi v4655 c0_i32_1658
  let c1_i32_1659 : BitVec 32 := 1#32
  let v4658 : BitVec 32 := Scalar.divsi v4656 c1_i32_1659
  let v4659 : BitVec 32 := Scalar.muli v4658 c1_i32_1659
  let v4660 : BitVec 32 := Scalar.addi c0_i32_1658 v4659
  let c1_i32_1661 : BitVec 32 := 1#32
  let arg21 : BitVec 32 := Scf.iv v4660 c1_i32_1661 k0_t24
  let v4764 : BitVec 32 := Scalar.muli c2_i32_1733 arg21
  let c1_i32_1878 : BitVec 32 := 1#32
  let v4947 : BitVec 32 := Scalar.addi v4764 c1_i32_1878
  let c256_i32_1951 : BitVec 32 := 256#32
  let v5046 : BitVec 32 := Scalar.muli v4947 c256_i32_1951
  let v5047 : BitVec 32 := v5046
  let v5048 : Index := Scalar.indexCast v5047
  ![384, v5048.toNat]
def k0_cond5 (i : grid0.Coords) : BitVec 1 :=
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c2_i32_1670 : BitVec 32 := 2#32
  let c0_i32_1671 : BitVec 32 := 0#32
  let v4679 : BitVec 1 := Scalar.cmpi .eq c2_i32_1670 c0_i32_1671
  let c1_i32_1672 : BitVec 32 := 1#32
  let v4680 : BitVec 32 := Scalar.select v4679 c1_i32_1672 c2_i32_1670
  let v4681 : BitVec 32 := Scalar.remsi v7 v4680
  let c0_i32_1674 : BitVec 32 := 0#32
  let v4683 : BitVec 1 := Scalar.cmpi .slt v4681 c0_i32_1674
  let c0_i32_1675 : BitVec 32 := 0#32
  let v4684 : BitVec 1 := Scalar.cmpi .slt v4680 c0_i32_1675
  let v4685 : BitVec 1 := Scalar.xori v4683 v4684
  let c0_i32_1673 : BitVec 32 := 0#32
  let v4682 : BitVec 1 := Scalar.cmpi .ne v4681 c0_i32_1673
  let v4686 : BitVec 1 := Scalar.andi v4685 v4682
  let v4687 : BitVec 32 := Scalar.addi v4681 v4680
  let v4688 : BitVec 32 := Scalar.select v4686 v4687 v4681
  let c1_i32_1676 : BitVec 32 := 1#32
  let v4689 : BitVec 1 := Scalar.cmpi .eq v4688 c1_i32_1676
  let v4690 : BitVec 32 := Scalar.extui v4689
  let c0_i32_1677 : BitVec 32 := 0#32
  let v4691 : BitVec 1 := Scalar.cmpi .ne v4690 c0_i32_1677
  v4691

def k0_mult84 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1734 : BitVec 32 := 256#32
  let v4765 : BitVec 32 := Scalar.muli v4764 c256_i32_1734
  v4765
def k0_off373 (i : grid0.Coords) (c1_i32_1733 : BitVec 32) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let v4764 : BitVec 32 := Scalar.addi v4678 c1_i32_1733
  let c256_i32_1734 : BitVec 32 := 256#32
  let v4765 : BitVec 32 := Scalar.muli v4764 c256_i32_1734
  let v4766 : BitVec 32 := v4765
  let v4767 : Index := Scalar.indexCast v4766
  let c0_1735 : Index := 0#32
  ![v4767.toNat, 0]
def k0_mult85 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1742 : BitVec 32 := 256#32
  let v4774 : BitVec 32 := Scalar.muli v4764 c256_i32_1742
  v4774
def k0_off374 (i : grid0.Coords) (c1_i32_1733 : BitVec 32) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let v4764 : BitVec 32 := Scalar.addi v4678 c1_i32_1733
  let c256_i32_1742 : BitVec 32 := 256#32
  let v4774 : BitVec 32 := Scalar.muli v4764 c256_i32_1742
  let v4775 : BitVec 32 := v4774
  let v4776 : Index := Scalar.indexCast v4775
  let c128_1743 : Index := 128#32
  ![v4776.toNat, 128]
def k0_mult86 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1750 : BitVec 32 := 256#32
  let v4783 : BitVec 32 := Scalar.muli v4764 c256_i32_1750
  v4783
def k0_off375 (i : grid0.Coords) (c1_i32_1733 : BitVec 32) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let v4764 : BitVec 32 := Scalar.addi v4678 c1_i32_1733
  let c256_i32_1750 : BitVec 32 := 256#32
  let v4783 : BitVec 32 := Scalar.muli v4764 c256_i32_1750
  let v4784 : BitVec 32 := v4783
  let v4785 : Index := Scalar.indexCast v4784
  let c256_1751 : Index := 256#32
  ![v4785.toNat, 256]
def k0_mult87 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1758 : BitVec 32 := 256#32
  let v4792 : BitVec 32 := Scalar.muli v4764 c256_i32_1758
  v4792
def k0_off376 (i : grid0.Coords) (c1_i32_1733 : BitVec 32) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let v4764 : BitVec 32 := Scalar.addi v4678 c1_i32_1733
  let c256_i32_1758 : BitVec 32 := 256#32
  let v4792 : BitVec 32 := Scalar.muli v4764 c256_i32_1758
  let v4793 : BitVec 32 := v4792
  let v4794 : Index := Scalar.indexCast v4793
  let c384_1759 : Index := 384#32
  ![v4794.toNat, 384]
def k0_mult88 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1766 : BitVec 32 := 256#32
  let v4801 : BitVec 32 := Scalar.muli v4678 c256_i32_1766
  v4801
def k0_off377 (i : grid0.Coords) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1766 : BitVec 32 := 256#32
  let v4801 : BitVec 32 := Scalar.muli v4678 c256_i32_1766
  let v4802 : BitVec 32 := v4801
  let v4803 : Index := Scalar.indexCast v4802
  let c0_1767 : Index := 0#32
  ![v4803.toNat, 0]
def k0_mult89 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1781 : BitVec 32 := 256#32
  let v4821 : BitVec 32 := Scalar.muli v4678 c256_i32_1781
  v4821
def k0_off378 (i : grid0.Coords) : Fin 2 → Nat :=
  let c0_1782 : Index := 0#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1781 : BitVec 32 := 256#32
  let v4821 : BitVec 32 := Scalar.muli v4678 c256_i32_1781
  let v4822 : BitVec 32 := v4821
  let v4823 : Index := Scalar.indexCast v4822
  ![0, v4823.toNat]
def k0_mult90 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1800 : BitVec 32 := 256#32
  let v4847 : BitVec 32 := Scalar.muli v4678 c256_i32_1800
  v4847
def k0_off379 (i : grid0.Coords) : Fin 2 → Nat :=
  let c128_1801 : Index := 128#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1800 : BitVec 32 := 256#32
  let v4847 : BitVec 32 := Scalar.muli v4678 c256_i32_1800
  let v4848 : BitVec 32 := v4847
  let v4849 : Index := Scalar.indexCast v4848
  ![128, v4849.toNat]
def k0_mult91 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1819 : BitVec 32 := 256#32
  let v4873 : BitVec 32 := Scalar.muli v4678 c256_i32_1819
  v4873
def k0_off380 (i : grid0.Coords) : Fin 2 → Nat :=
  let c256_1820 : Index := 256#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1819 : BitVec 32 := 256#32
  let v4873 : BitVec 32 := Scalar.muli v4678 c256_i32_1819
  let v4874 : BitVec 32 := v4873
  let v4875 : Index := Scalar.indexCast v4874
  ![256, v4875.toNat]
def k0_mult92 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1838 : BitVec 32 := 256#32
  let v4899 : BitVec 32 := Scalar.muli v4678 c256_i32_1838
  v4899
def k0_off381 (i : grid0.Coords) : Fin 2 → Nat :=
  let c384_1839 : Index := 384#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1838 : BitVec 32 := 256#32
  let v4899 : BitVec 32 := Scalar.muli v4678 c256_i32_1838
  let v4900 : BitVec 32 := v4899
  let v4901 : Index := Scalar.indexCast v4900
  ![384, v4901.toNat]
def k0_mult93 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c2_i32_1844 : BitVec 32 := 2#32
  let v4909 : BitVec 32 := Scalar.addi v4678 c2_i32_1844
  let c256_i32_1845 : BitVec 32 := 256#32
  let v4910 : BitVec 32 := Scalar.muli v4909 c256_i32_1845
  v4910
def k0_mult94 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c2_i32_1844 : BitVec 32 := 2#32
  let v4909 : BitVec 32 := Scalar.addi v4678 c2_i32_1844
  let c256_i32_1853 : BitVec 32 := 256#32
  let v4919 : BitVec 32 := Scalar.muli v4909 c256_i32_1853
  v4919
def k0_mult95 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c2_i32_1844 : BitVec 32 := 2#32
  let v4909 : BitVec 32 := Scalar.addi v4678 c2_i32_1844
  let c256_i32_1861 : BitVec 32 := 256#32
  let v4928 : BitVec 32 := Scalar.muli v4909 c256_i32_1861
  v4928
def k0_mult96 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c2_i32_1844 : BitVec 32 := 2#32
  let v4909 : BitVec 32 := Scalar.addi v4678 c2_i32_1844
  let c256_i32_1869 : BitVec 32 := 256#32
  let v4937 : BitVec 32 := Scalar.muli v4909 c256_i32_1869
  v4937
def k0_mult97 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1877 : BitVec 32 := 1#32
  let v4946 : BitVec 32 := Scalar.addi v4678 c1_i32_1877
  let c256_i32_1878 : BitVec 32 := 256#32
  let v4947 : BitVec 32 := Scalar.muli v4946 c256_i32_1878
  v4947
def k0_off382 (i : grid0.Coords) (c1_i32_1877 : BitVec 32) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let v4946 : BitVec 32 := Scalar.addi v4678 c1_i32_1877
  let c256_i32_1878 : BitVec 32 := 256#32
  let v4947 : BitVec 32 := Scalar.muli v4946 c256_i32_1878
  let v4948 : BitVec 32 := v4947
  let v4949 : Index := Scalar.indexCast v4948
  let c0_1879 : Index := 0#32
  ![v4949.toNat, 0]
def k0_mult98 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1877 : BitVec 32 := 1#32
  let v4946 : BitVec 32 := Scalar.addi v4678 c1_i32_1877
  let c256_i32_1897 : BitVec 32 := 256#32
  let v4970 : BitVec 32 := Scalar.muli v4946 c256_i32_1897
  v4970
def k0_off383 (i : grid0.Coords) (c1_i32_1877 : BitVec 32) : Fin 2 → Nat :=
  let c0_1898 : Index := 0#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let v4946 : BitVec 32 := Scalar.addi v4678 c1_i32_1877
  let c256_i32_1897 : BitVec 32 := 256#32
  let v4970 : BitVec 32 := Scalar.muli v4946 c256_i32_1897
  let v4971 : BitVec 32 := v4970
  let v4972 : Index := Scalar.indexCast v4971
  ![0, v4972.toNat]
def k0_mult99 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1877 : BitVec 32 := 1#32
  let v4946 : BitVec 32 := Scalar.addi v4678 c1_i32_1877
  let c256_i32_1920 : BitVec 32 := 256#32
  let v4999 : BitVec 32 := Scalar.muli v4946 c256_i32_1920
  v4999
def k0_off384 (i : grid0.Coords) (c1_i32_1877 : BitVec 32) : Fin 2 → Nat :=
  let c128_1921 : Index := 128#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let v4946 : BitVec 32 := Scalar.addi v4678 c1_i32_1877
  let c256_i32_1920 : BitVec 32 := 256#32
  let v4999 : BitVec 32 := Scalar.muli v4946 c256_i32_1920
  let v5000 : BitVec 32 := v4999
  let v5001 : Index := Scalar.indexCast v5000
  ![128, v5001.toNat]
def k0_mult100 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1877 : BitVec 32 := 1#32
  let v4946 : BitVec 32 := Scalar.addi v4678 c1_i32_1877
  let c256_i32_1943 : BitVec 32 := 256#32
  let v5028 : BitVec 32 := Scalar.muli v4946 c256_i32_1943
  v5028
def k0_off385 (i : grid0.Coords) (c1_i32_1877 : BitVec 32) : Fin 2 → Nat :=
  let c256_1944 : Index := 256#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let v4946 : BitVec 32 := Scalar.addi v4678 c1_i32_1877
  let c256_i32_1943 : BitVec 32 := 256#32
  let v5028 : BitVec 32 := Scalar.muli v4946 c256_i32_1943
  let v5029 : BitVec 32 := v5028
  let v5030 : Index := Scalar.indexCast v5029
  ![256, v5030.toNat]
def k0_mult101 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1877 : BitVec 32 := 1#32
  let v4946 : BitVec 32 := Scalar.addi v4678 c1_i32_1877
  let c256_i32_1966 : BitVec 32 := 256#32
  let v5057 : BitVec 32 := Scalar.muli v4946 c256_i32_1966
  v5057
def k0_off386 (i : grid0.Coords) (c1_i32_1877 : BitVec 32) : Fin 2 → Nat :=
  let c384_1967 : Index := 384#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let v4946 : BitVec 32 := Scalar.addi v4678 c1_i32_1877
  let c256_i32_1966 : BitVec 32 := 256#32
  let v5057 : BitVec 32 := Scalar.muli v4946 c256_i32_1966
  let v5058 : BitVec 32 := v5057
  let v5059 : Index := Scalar.indexCast v5058
  ![384, v5059.toNat]
def k0_mult102 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c2_i32_1972 : BitVec 32 := 2#32
  let v5067 : BitVec 32 := Scalar.addi v4678 c2_i32_1972
  let c256_i32_1973 : BitVec 32 := 256#32
  let v5068 : BitVec 32 := Scalar.muli v5067 c256_i32_1973
  v5068
def k0_mult103 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c2_i32_1972 : BitVec 32 := 2#32
  let v5067 : BitVec 32 := Scalar.addi v4678 c2_i32_1972
  let c256_i32_1992 : BitVec 32 := 256#32
  let v5091 : BitVec 32 := Scalar.muli v5067 c256_i32_1992
  v5091
def k0_mult104 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c2_i32_1972 : BitVec 32 := 2#32
  let v5067 : BitVec 32 := Scalar.addi v4678 c2_i32_1972
  let c256_i32_2015 : BitVec 32 := 256#32
  let v5120 : BitVec 32 := Scalar.muli v5067 c256_i32_2015
  v5120
def k0_mult105 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c2_i32_1972 : BitVec 32 := 2#32
  let v5067 : BitVec 32 := Scalar.addi v4678 c2_i32_1972
  let c256_i32_2038 : BitVec 32 := 256#32
  let v5149 : BitVec 32 := Scalar.muli v5067 c256_i32_2038
  v5149
def k0_mult106 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c2_i32_1972 : BitVec 32 := 2#32
  let v5067 : BitVec 32 := Scalar.addi v4678 c2_i32_1972
  let c256_i32_2061 : BitVec 32 := 256#32
  let v5178 : BitVec 32 := Scalar.muli v5067 c256_i32_2061
  v5178
def k0_cond6 (i : grid0.Coords) : BitVec 1 :=
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c2_i32_1678 : BitVec 32 := 2#32
  let c0_i32_1679 : BitVec 32 := 0#32
  let v4692 : BitVec 1 := Scalar.cmpi .eq c2_i32_1678 c0_i32_1679
  let c1_i32_1680 : BitVec 32 := 1#32
  let v4693 : BitVec 32 := Scalar.select v4692 c1_i32_1680 c2_i32_1678
  let v4694 : BitVec 32 := Scalar.remsi v7 v4693
  let c0_i32_1682 : BitVec 32 := 0#32
  let v4696 : BitVec 1 := Scalar.cmpi .slt v4694 c0_i32_1682
  let c0_i32_1683 : BitVec 32 := 0#32
  let v4697 : BitVec 1 := Scalar.cmpi .slt v4693 c0_i32_1683
  let v4698 : BitVec 1 := Scalar.xori v4696 v4697
  let c0_i32_1681 : BitVec 32 := 0#32
  let v4695 : BitVec 1 := Scalar.cmpi .ne v4694 c0_i32_1681
  let v4699 : BitVec 1 := Scalar.andi v4698 v4695
  let v4700 : BitVec 32 := Scalar.addi v4694 v4693
  let v4701 : BitVec 32 := Scalar.select v4699 v4700 v4694
  let c0_i32_1684 : BitVec 32 := 0#32
  let v4702 : BitVec 1 := Scalar.cmpi .eq v4701 c0_i32_1684
  let c1_i32_1685 : BitVec 32 := 1#32
  let v4703 : BitVec 1 := Scalar.cmpi .sge arg1 c1_i32_1685
  let v4704 : BitVec 1 := Scalar.andi v4702 v4703
  let v4705 : BitVec 32 := Scalar.extui v4704
  let c0_i32_1686 : BitVec 32 := 0#32
  let v4706 : BitVec 1 := Scalar.cmpi .ne v4705 c0_i32_1686
  v4706

def k0_mult107 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1734 : BitVec 32 := 256#32
  let v4765 : BitVec 32 := Scalar.muli v4764 c256_i32_1734
  v4765
def k0_off387 (i : grid0.Coords) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1734 : BitVec 32 := 256#32
  let v4765 : BitVec 32 := Scalar.muli v4764 c256_i32_1734
  let v4766 : BitVec 32 := v4765
  let v4767 : Index := Scalar.indexCast v4766
  let c0_1735 : Index := 0#32
  ![v4767.toNat, 0]
def k0_mult108 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1742 : BitVec 32 := 256#32
  let v4774 : BitVec 32 := Scalar.muli v4764 c256_i32_1742
  v4774
def k0_off388 (i : grid0.Coords) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1742 : BitVec 32 := 256#32
  let v4774 : BitVec 32 := Scalar.muli v4764 c256_i32_1742
  let v4775 : BitVec 32 := v4774
  let v4776 : Index := Scalar.indexCast v4775
  let c128_1743 : Index := 128#32
  ![v4776.toNat, 128]
def k0_mult109 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1750 : BitVec 32 := 256#32
  let v4783 : BitVec 32 := Scalar.muli v4764 c256_i32_1750
  v4783
def k0_off389 (i : grid0.Coords) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1750 : BitVec 32 := 256#32
  let v4783 : BitVec 32 := Scalar.muli v4764 c256_i32_1750
  let v4784 : BitVec 32 := v4783
  let v4785 : Index := Scalar.indexCast v4784
  let c256_1751 : Index := 256#32
  ![v4785.toNat, 256]
def k0_mult110 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1758 : BitVec 32 := 256#32
  let v4792 : BitVec 32 := Scalar.muli v4764 c256_i32_1758
  v4792
def k0_off390 (i : grid0.Coords) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1733 : BitVec 32 := 1#32
  let v4764 : BitVec 32 := Scalar.addi v4678 c1_i32_1733
  let c256_i32_1758 : BitVec 32 := 256#32
  let v4792 : BitVec 32 := Scalar.muli v4764 c256_i32_1758
  let v4793 : BitVec 32 := v4792
  let v4794 : Index := Scalar.indexCast v4793
  let c384_1759 : Index := 384#32
  ![v4794.toNat, 384]
def k0_mult111 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1766 : BitVec 32 := 256#32
  let v4801 : BitVec 32 := Scalar.muli v4678 c256_i32_1766
  v4801
def k0_off391 (i : grid0.Coords) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1766 : BitVec 32 := 256#32
  let v4801 : BitVec 32 := Scalar.muli v4678 c256_i32_1766
  let v4802 : BitVec 32 := v4801
  let v4803 : Index := Scalar.indexCast v4802
  let c0_1767 : Index := 0#32
  ![v4803.toNat, 0]
def k0_mult112 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1785 : BitVec 32 := 256#32
  let v4824 : BitVec 32 := Scalar.muli v4678 c256_i32_1785
  v4824
def k0_off392 (i : grid0.Coords) : Fin 2 → Nat :=
  let c0_1786 : Index := 0#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1785 : BitVec 32 := 256#32
  let v4824 : BitVec 32 := Scalar.muli v4678 c256_i32_1785
  let v4825 : BitVec 32 := v4824
  let v4826 : Index := Scalar.indexCast v4825
  ![0, v4826.toNat]
def k0_mult113 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1808 : BitVec 32 := 256#32
  let v4853 : BitVec 32 := Scalar.muli v4678 c256_i32_1808
  v4853
def k0_off393 (i : grid0.Coords) : Fin 2 → Nat :=
  let c128_1809 : Index := 128#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1808 : BitVec 32 := 256#32
  let v4853 : BitVec 32 := Scalar.muli v4678 c256_i32_1808
  let v4854 : BitVec 32 := v4853
  let v4855 : Index := Scalar.indexCast v4854
  ![128, v4855.toNat]
def k0_mult114 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1831 : BitVec 32 := 256#32
  let v4882 : BitVec 32 := Scalar.muli v4678 c256_i32_1831
  v4882
def k0_off394 (i : grid0.Coords) : Fin 2 → Nat :=
  let c256_1832 : Index := 256#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1831 : BitVec 32 := 256#32
  let v4882 : BitVec 32 := Scalar.muli v4678 c256_i32_1831
  let v4883 : BitVec 32 := v4882
  let v4884 : Index := Scalar.indexCast v4883
  ![256, v4884.toNat]
def k0_mult115 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1854 : BitVec 32 := 256#32
  let v4911 : BitVec 32 := Scalar.muli v4678 c256_i32_1854
  v4911
def k0_off395 (i : grid0.Coords) : Fin 2 → Nat :=
  let c384_1855 : Index := 384#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c256_i32_1854 : BitVec 32 := 256#32
  let v4911 : BitVec 32 := Scalar.muli v4678 c256_i32_1854
  let v4912 : BitVec 32 := v4911
  let v4913 : Index := Scalar.indexCast v4912
  ![384, v4913.toNat]
def k0_mult116 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1860 : BitVec 32 := 1#32
  let v4921 : BitVec 32 := Scalar.addi v4678 c1_i32_1860
  let c256_i32_1861 : BitVec 32 := 256#32
  let v4922 : BitVec 32 := Scalar.muli v4921 c256_i32_1861
  v4922
def k0_off396 (i : grid0.Coords) : Fin 2 → Nat :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1860 : BitVec 32 := 1#32
  let v4921 : BitVec 32 := Scalar.addi v4678 c1_i32_1860
  let c256_i32_1861 : BitVec 32 := 256#32
  let v4922 : BitVec 32 := Scalar.muli v4921 c256_i32_1861
  let v4923 : BitVec 32 := v4922
  let v4924 : Index := Scalar.indexCast v4923
  let c0_1862 : Index := 0#32
  ![v4924.toNat, 0]
def k0_mult117 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1860 : BitVec 32 := 1#32
  let v4921 : BitVec 32 := Scalar.addi v4678 c1_i32_1860
  let c256_i32_1880 : BitVec 32 := 256#32
  let v4945 : BitVec 32 := Scalar.muli v4921 c256_i32_1880
  v4945
def k0_off397 (i : grid0.Coords) : Fin 2 → Nat :=
  let c0_1881 : Index := 0#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1860 : BitVec 32 := 1#32
  let v4921 : BitVec 32 := Scalar.addi v4678 c1_i32_1860
  let c256_i32_1880 : BitVec 32 := 256#32
  let v4945 : BitVec 32 := Scalar.muli v4921 c256_i32_1880
  let v4946 : BitVec 32 := v4945
  let v4947 : Index := Scalar.indexCast v4946
  ![0, v4947.toNat]
def k0_mult118 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1860 : BitVec 32 := 1#32
  let v4921 : BitVec 32 := Scalar.addi v4678 c1_i32_1860
  let c256_i32_1903 : BitVec 32 := 256#32
  let v4974 : BitVec 32 := Scalar.muli v4921 c256_i32_1903
  v4974
def k0_off398 (i : grid0.Coords) : Fin 2 → Nat :=
  let c128_1904 : Index := 128#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1860 : BitVec 32 := 1#32
  let v4921 : BitVec 32 := Scalar.addi v4678 c1_i32_1860
  let c256_i32_1903 : BitVec 32 := 256#32
  let v4974 : BitVec 32 := Scalar.muli v4921 c256_i32_1903
  let v4975 : BitVec 32 := v4974
  let v4976 : Index := Scalar.indexCast v4975
  ![128, v4976.toNat]
def k0_mult119 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1860 : BitVec 32 := 1#32
  let v4921 : BitVec 32 := Scalar.addi v4678 c1_i32_1860
  let c256_i32_1926 : BitVec 32 := 256#32
  let v5003 : BitVec 32 := Scalar.muli v4921 c256_i32_1926
  v5003
def k0_off399 (i : grid0.Coords) : Fin 2 → Nat :=
  let c256_1927 : Index := 256#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1860 : BitVec 32 := 1#32
  let v4921 : BitVec 32 := Scalar.addi v4678 c1_i32_1860
  let c256_i32_1926 : BitVec 32 := 256#32
  let v5003 : BitVec 32 := Scalar.muli v4921 c256_i32_1926
  let v5004 : BitVec 32 := v5003
  let v5005 : Index := Scalar.indexCast v5004
  ![256, v5005.toNat]
def k0_mult120 (i : grid0.Coords) : BitVec 32 :=
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1860 : BitVec 32 := 1#32
  let v4921 : BitVec 32 := Scalar.addi v4678 c1_i32_1860
  let c256_i32_1949 : BitVec 32 := 256#32
  let v5032 : BitVec 32 := Scalar.muli v4921 c256_i32_1949
  v5032
def k0_off400 (i : grid0.Coords) : Fin 2 → Nat :=
  let c384_1950 : Index := 384#32
  let c2_i32_1669 : BitVec 32 := 2#32
  let arg1 : BitVec 32 := BitVec.ofNat 32 (i 1).val
  let c1_i32_2 : BitVec 32 := 1#32
  let v6 : BitVec 32 := Scalar.subi arg1 c1_i32_2
  let c0_i32_3 : BitVec 32 := 0#32
  let v7 : BitVec 32 := Scalar.maxsi v6 c0_i32_3
  let c0_i32_1663 : BitVec 32 := 0#32
  let v4662 : BitVec 1 := Scalar.cmpi .sgt v7 c0_i32_1663
  let v4663 : BitVec 32 := Scalar.extui v4662
  let c0_i32_1664 : BitVec 32 := 0#32
  let v4664 : BitVec 1 := Scalar.cmpi .slt v7 c0_i32_1664
  let v4665 : BitVec 32 := Scalar.extui v4664
  let v4666 : BitVec 32 := Scalar.subi v4663 v4665
  let c2_i32_1662 : BitVec 32 := 2#32
  let c0_i32_1665 : BitVec 32 := 0#32
  let v4667 : BitVec 1 := Scalar.cmpi .sgt c2_i32_1662 c0_i32_1665
  let v4668 : BitVec 32 := Scalar.extui v4667
  let c0_i32_1666 : BitVec 32 := 0#32
  let v4669 : BitVec 1 := Scalar.cmpi .slt c2_i32_1662 c0_i32_1666
  let v4670 : BitVec 32 := Scalar.extui v4669
  let v4671 : BitVec 32 := Scalar.subi v4668 v4670
  let v4672 : BitVec 1 := Scalar.cmpi .ne v4666 v4671
  let v4673 : BitVec 32 := Scalar.remsi v7 c2_i32_1662
  let c0_i32_1667 : BitVec 32 := 0#32
  let v4674 : BitVec 1 := Scalar.cmpi .ne v4673 c0_i32_1667
  let v4675 : BitVec 1 := Scalar.andi v4672 v4674
  let v4661 : BitVec 32 := Scalar.divsi v7 c2_i32_1662
  let c1_i32_1668 : BitVec 32 := 1#32
  let v4676 : BitVec 32 := Scalar.subi v4661 c1_i32_1668
  let v4677 : BitVec 32 := Scalar.select v4675 v4676 v4661
  let v4678 : BitVec 32 := Scalar.muli c2_i32_1669 v4677
  let c1_i32_1860 : BitVec 32 := 1#32
  let v4921 : BitVec 32 := Scalar.addi v4678 c1_i32_1860
  let c256_i32_1949 : BitVec 32 := 256#32
  let v5032 : BitVec 32 := Scalar.muli v4921 c256_i32_1949
  let v5033 : BitVec 32 := v5032
  let v5034 : Index := Scalar.indexCast v5033
  ![384, v5034.toNat]
def k0_cond7 (i : grid0.Coords) : BitVec 1 :=
  let arg1 : BitVec 32 := BitVec.ofNat 32 (i 1).val
  let c0_i32_1687 : BitVec 32 := 0#32
  let v4707 : BitVec 1 := Scalar.cmpi .eq arg1 c0_i32_1687
  let v4708 : BitVec 32 := Scalar.extui v4707
  let c0_i32_1688 : BitVec 32 := 0#32
  let v4709 : BitVec 1 := Scalar.cmpi .ne v4708 c0_i32_1688
  v4709

def k0_mult121 : BitVec 32 :=
  let c0_i32_1733 : BitVec 32 := 0#32
  c0_i32_1733
def k0_mult122 : BitVec 32 :=
  let c0_i32_1752 : BitVec 32 := 0#32
  c0_i32_1752
def k0_mult123 : BitVec 32 :=
  let c0_i32_1775 : BitVec 32 := 0#32
  c0_i32_1775
def k0_mult124 : BitVec 32 :=
  let c0_i32_1798 : BitVec 32 := 0#32
  c0_i32_1798
def k0_mult125 : BitVec 32 :=
  let c0_i32_1821 : BitVec 32 := 0#32
  c0_i32_1821
@[reducible] def k0_t25_loop (i : grid0.Coords) : Scf.Loop 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1750 : BitVec 32 := 1#32
  ⟨c0_i32_1748, v4784, c1_i32_1750⟩
def k0_mult126 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1898 : BitVec 32 := 256#32
  let v5012 : BitVec 32 := Scalar.muli arg21 c256_i32_1898
  v5012
def k0_off401 (i : grid0.Coords) (k0_t25 : Fin (k0_t25_loop i).trips) : Fin 2 → Nat :=
  let c0_i32_1748 : BitVec 32 := 0#32
  let c1_i32_1750 : BitVec 32 := 1#32
  let arg21 : BitVec 32 := Scf.iv c0_i32_1748 c1_i32_1750 k0_t25
  let c256_i32_1898 : BitVec 32 := 256#32
  let v5012 : BitVec 32 := Scalar.muli arg21 c256_i32_1898
  let v5013 : BitVec 32 := v5012
  let v5014 : Index := Scalar.indexCast v5013
  let c0_1899 : Index := 0#32
  ![v5014.toNat, 0]
def k0_mult127 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1903 : BitVec 32 := 256#32
  let v5018 : BitVec 32 := Scalar.muli arg21 c256_i32_1903
  v5018
def k0_off402 (i : grid0.Coords) (k0_t25 : Fin (k0_t25_loop i).trips) : Fin 2 → Nat :=
  let c0_i32_1748 : BitVec 32 := 0#32
  let c1_i32_1750 : BitVec 32 := 1#32
  let arg21 : BitVec 32 := Scf.iv c0_i32_1748 c1_i32_1750 k0_t25
  let c256_i32_1903 : BitVec 32 := 256#32
  let v5018 : BitVec 32 := Scalar.muli arg21 c256_i32_1903
  let v5019 : BitVec 32 := v5018
  let v5020 : Index := Scalar.indexCast v5019
  let c0_1904 : Index := 0#32
  ![v5020.toNat, 0]
def k0_mult128 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1918 : BitVec 32 := 256#32
  let v5048 : BitVec 32 := Scalar.muli arg21 c256_i32_1918
  v5048
def k0_off403 (i : grid0.Coords) (k0_t25 : Fin (k0_t25_loop i).trips) : Fin 2 → Nat :=
  let c0_1919 : Index := 0#32
  let c0_i32_1748 : BitVec 32 := 0#32
  let c1_i32_1750 : BitVec 32 := 1#32
  let arg21 : BitVec 32 := Scf.iv c0_i32_1748 c1_i32_1750 k0_t25
  let c256_i32_1918 : BitVec 32 := 256#32
  let v5048 : BitVec 32 := Scalar.muli arg21 c256_i32_1918
  let v5049 : BitVec 32 := v5048
  let v5050 : Index := Scalar.indexCast v5049
  ![0, v5050.toNat]
def k0_mult129 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1930 : BitVec 32 := 256#32
  let v5065 : BitVec 32 := Scalar.muli arg21 c256_i32_1930
  v5065
def k0_off404 (i : grid0.Coords) (k0_t25 : Fin (k0_t25_loop i).trips) : Fin 2 → Nat :=
  let c0_i32_1748 : BitVec 32 := 0#32
  let c1_i32_1750 : BitVec 32 := 1#32
  let arg21 : BitVec 32 := Scf.iv c0_i32_1748 c1_i32_1750 k0_t25
  let c256_i32_1930 : BitVec 32 := 256#32
  let v5065 : BitVec 32 := Scalar.muli arg21 c256_i32_1930
  let v5066 : BitVec 32 := v5065
  let v5067 : Index := Scalar.indexCast v5066
  let c128_1931 : Index := 128#32
  ![v5067.toNat, 128]
def k0_mult130 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1935 : BitVec 32 := 256#32
  let v5071 : BitVec 32 := Scalar.muli arg21 c256_i32_1935
  v5071
def k0_mult131 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1950 : BitVec 32 := 256#32
  let v5101 : BitVec 32 := Scalar.muli arg21 c256_i32_1950
  v5101
def k0_off405 (i : grid0.Coords) (k0_t25 : Fin (k0_t25_loop i).trips) : Fin 2 → Nat :=
  let c128_1951 : Index := 128#32
  let c0_i32_1748 : BitVec 32 := 0#32
  let c1_i32_1750 : BitVec 32 := 1#32
  let arg21 : BitVec 32 := Scf.iv c0_i32_1748 c1_i32_1750 k0_t25
  let c256_i32_1950 : BitVec 32 := 256#32
  let v5101 : BitVec 32 := Scalar.muli arg21 c256_i32_1950
  let v5102 : BitVec 32 := v5101
  let v5103 : Index := Scalar.indexCast v5102
  ![128, v5103.toNat]
def k0_mult132 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1962 : BitVec 32 := 256#32
  let v5118 : BitVec 32 := Scalar.muli arg21 c256_i32_1962
  v5118
def k0_off406 (i : grid0.Coords) (k0_t25 : Fin (k0_t25_loop i).trips) : Fin 2 → Nat :=
  let c0_i32_1748 : BitVec 32 := 0#32
  let c1_i32_1750 : BitVec 32 := 1#32
  let arg21 : BitVec 32 := Scf.iv c0_i32_1748 c1_i32_1750 k0_t25
  let c256_i32_1962 : BitVec 32 := 256#32
  let v5118 : BitVec 32 := Scalar.muli arg21 c256_i32_1962
  let v5119 : BitVec 32 := v5118
  let v5120 : Index := Scalar.indexCast v5119
  let c256_1963 : Index := 256#32
  ![v5120.toNat, 256]
def k0_mult133 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1967 : BitVec 32 := 256#32
  let v5124 : BitVec 32 := Scalar.muli arg21 c256_i32_1967
  v5124
def k0_mult134 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1982 : BitVec 32 := 256#32
  let v5154 : BitVec 32 := Scalar.muli arg21 c256_i32_1982
  v5154
def k0_off407 (i : grid0.Coords) (k0_t25 : Fin (k0_t25_loop i).trips) : Fin 2 → Nat :=
  let c256_1983 : Index := 256#32
  let c0_i32_1748 : BitVec 32 := 0#32
  let c1_i32_1750 : BitVec 32 := 1#32
  let arg21 : BitVec 32 := Scf.iv c0_i32_1748 c1_i32_1750 k0_t25
  let c256_i32_1982 : BitVec 32 := 256#32
  let v5154 : BitVec 32 := Scalar.muli arg21 c256_i32_1982
  let v5155 : BitVec 32 := v5154
  let v5156 : Index := Scalar.indexCast v5155
  ![256, v5156.toNat]
def k0_mult135 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1994 : BitVec 32 := 256#32
  let v5171 : BitVec 32 := Scalar.muli arg21 c256_i32_1994
  v5171
def k0_off408 (i : grid0.Coords) (k0_t25 : Fin (k0_t25_loop i).trips) : Fin 2 → Nat :=
  let c0_i32_1748 : BitVec 32 := 0#32
  let c1_i32_1750 : BitVec 32 := 1#32
  let arg21 : BitVec 32 := Scf.iv c0_i32_1748 c1_i32_1750 k0_t25
  let c256_i32_1994 : BitVec 32 := 256#32
  let v5171 : BitVec 32 := Scalar.muli arg21 c256_i32_1994
  let v5172 : BitVec 32 := v5171
  let v5173 : Index := Scalar.indexCast v5172
  let c384_1995 : Index := 384#32
  ![v5173.toNat, 384]
def k0_mult136 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_1999 : BitVec 32 := 256#32
  let v5177 : BitVec 32 := Scalar.muli arg21 c256_i32_1999
  v5177
def k0_mult137 (i : grid0.Coords) (k0_t25 : Fin (k0_t25_loop i).trips) : BitVec 32 :=
  let c0_i32_1748 : BitVec 32 := 0#32
  let c1_i32_1750 : BitVec 32 := 1#32
  let arg21 : BitVec 32 := Scf.iv c0_i32_1748 c1_i32_1750 k0_t25
  let c256_i32_2014 : BitVec 32 := 256#32
  let v5207 : BitVec 32 := Scalar.muli arg21 c256_i32_2014
  v5207
def k0_off409 (i : grid0.Coords) (k0_t25 : Fin (k0_t25_loop i).trips) : Fin 2 → Nat :=
  let c384_2015 : Index := 384#32
  let c0_i32_1748 : BitVec 32 := 0#32
  let c1_i32_1750 : BitVec 32 := 1#32
  let arg21 : BitVec 32 := Scf.iv c0_i32_1748 c1_i32_1750 k0_t25
  let c256_i32_2014 : BitVec 32 := 256#32
  let v5207 : BitVec 32 := Scalar.muli arg21 c256_i32_2014
  let v5208 : BitVec 32 := v5207
  let v5209 : Index := Scalar.indexCast v5208
  ![384, v5209.toNat]
@[reducible] def k0_t26_loop (i : grid0.Coords) : Scf.Loop 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let v4781 : BitVec 32 := Scalar.addi c0_i32_1748 v4780
  let c1_i32_1751 : BitVec 32 := 1#32
  ⟨v4784, v4781, c1_i32_1751⟩
def k0_mult138 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1898 : BitVec 32 := 256#32
  let v5012 : BitVec 32 := Scalar.muli arg21 c256_i32_1898
  v5012
def k0_off410 (i : grid0.Coords) (k0_t26 : Fin (k0_t26_loop i).trips) : Fin 2 → Nat :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1898 : BitVec 32 := 256#32
  let v5012 : BitVec 32 := Scalar.muli arg21 c256_i32_1898
  let v5013 : BitVec 32 := v5012
  let v5014 : Index := Scalar.indexCast v5013
  let c0_1899 : Index := 0#32
  ![v5014.toNat, 0]
def k0_mult139 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1903 : BitVec 32 := 256#32
  let v5018 : BitVec 32 := Scalar.muli arg21 c256_i32_1903
  v5018
def k0_off411 (i : grid0.Coords) (k0_t26 : Fin (k0_t26_loop i).trips) : Fin 2 → Nat :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1903 : BitVec 32 := 256#32
  let v5018 : BitVec 32 := Scalar.muli arg21 c256_i32_1903
  let v5019 : BitVec 32 := v5018
  let v5020 : Index := Scalar.indexCast v5019
  let c0_1904 : Index := 0#32
  ![v5020.toNat, 0]
def k0_mult140 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1918 : BitVec 32 := 256#32
  let v5048 : BitVec 32 := Scalar.muli arg21 c256_i32_1918
  v5048
def k0_off412 (i : grid0.Coords) (k0_t26 : Fin (k0_t26_loop i).trips) : Fin 2 → Nat :=
  let c0_1919 : Index := 0#32
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1918 : BitVec 32 := 256#32
  let v5048 : BitVec 32 := Scalar.muli arg21 c256_i32_1918
  let v5049 : BitVec 32 := v5048
  let v5050 : Index := Scalar.indexCast v5049
  ![0, v5050.toNat]
def k0_mult141 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1930 : BitVec 32 := 256#32
  let v5065 : BitVec 32 := Scalar.muli arg21 c256_i32_1930
  v5065
def k0_off413 (i : grid0.Coords) (k0_t26 : Fin (k0_t26_loop i).trips) : Fin 2 → Nat :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1930 : BitVec 32 := 256#32
  let v5065 : BitVec 32 := Scalar.muli arg21 c256_i32_1930
  let v5066 : BitVec 32 := v5065
  let v5067 : Index := Scalar.indexCast v5066
  let c128_1931 : Index := 128#32
  ![v5067.toNat, 128]
def k0_mult142 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1935 : BitVec 32 := 256#32
  let v5071 : BitVec 32 := Scalar.muli arg21 c256_i32_1935
  v5071
def k0_mult143 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1950 : BitVec 32 := 256#32
  let v5101 : BitVec 32 := Scalar.muli arg21 c256_i32_1950
  v5101
def k0_off414 (i : grid0.Coords) (k0_t26 : Fin (k0_t26_loop i).trips) : Fin 2 → Nat :=
  let c128_1951 : Index := 128#32
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1950 : BitVec 32 := 256#32
  let v5101 : BitVec 32 := Scalar.muli arg21 c256_i32_1950
  let v5102 : BitVec 32 := v5101
  let v5103 : Index := Scalar.indexCast v5102
  ![128, v5103.toNat]
def k0_mult144 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1962 : BitVec 32 := 256#32
  let v5118 : BitVec 32 := Scalar.muli arg21 c256_i32_1962
  v5118
def k0_off415 (i : grid0.Coords) (k0_t26 : Fin (k0_t26_loop i).trips) : Fin 2 → Nat :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1962 : BitVec 32 := 256#32
  let v5118 : BitVec 32 := Scalar.muli arg21 c256_i32_1962
  let v5119 : BitVec 32 := v5118
  let v5120 : Index := Scalar.indexCast v5119
  let c256_1963 : Index := 256#32
  ![v5120.toNat, 256]
def k0_mult145 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1967 : BitVec 32 := 256#32
  let v5124 : BitVec 32 := Scalar.muli arg21 c256_i32_1967
  v5124
def k0_mult146 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1982 : BitVec 32 := 256#32
  let v5154 : BitVec 32 := Scalar.muli arg21 c256_i32_1982
  v5154
def k0_off416 (i : grid0.Coords) (k0_t26 : Fin (k0_t26_loop i).trips) : Fin 2 → Nat :=
  let c256_1983 : Index := 256#32
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1982 : BitVec 32 := 256#32
  let v5154 : BitVec 32 := Scalar.muli arg21 c256_i32_1982
  let v5155 : BitVec 32 := v5154
  let v5156 : Index := Scalar.indexCast v5155
  ![256, v5156.toNat]
def k0_mult147 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1994 : BitVec 32 := 256#32
  let v5171 : BitVec 32 := Scalar.muli arg21 c256_i32_1994
  v5171
def k0_off417 (i : grid0.Coords) (k0_t26 : Fin (k0_t26_loop i).trips) : Fin 2 → Nat :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1994 : BitVec 32 := 256#32
  let v5171 : BitVec 32 := Scalar.muli arg21 c256_i32_1994
  let v5172 : BitVec 32 := v5171
  let v5173 : Index := Scalar.indexCast v5172
  let c384_1995 : Index := 384#32
  ![v5173.toNat, 384]
def k0_mult148 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_1999 : BitVec 32 := 256#32
  let v5177 : BitVec 32 := Scalar.muli arg21 c256_i32_1999
  v5177
def k0_mult149 (i : grid0.Coords) (k0_t26 : Fin (k0_t26_loop i).trips) : BitVec 32 :=
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_2014 : BitVec 32 := 256#32
  let v5207 : BitVec 32 := Scalar.muli arg21 c256_i32_2014
  v5207
def k0_off418 (i : grid0.Coords) (k0_t26 : Fin (k0_t26_loop i).trips) : Fin 2 → Nat :=
  let c384_2015 : Index := 384#32
  let c0_i32_1748 : BitVec 32 := 0#32
  let arg1 : BitVec 32 := BitVec.ofNat 32 (i 1).val
  let c1_i32_1746 : BitVec 32 := 1#32
  let v4779 : BitVec 32 := Scalar.subi arg1 c1_i32_1746
  let v4780 : BitVec 32 := Scalar.subi v4779 c0_i32_1748
  let c1_i32_1749 : BitVec 32 := 1#32
  let v4782 : BitVec 32 := Scalar.divsi v4780 c1_i32_1749
  let v4783 : BitVec 32 := Scalar.muli v4782 c1_i32_1749
  let v4784 : BitVec 32 := Scalar.addi c0_i32_1748 v4783
  let c1_i32_1751 : BitVec 32 := 1#32
  let arg21 : BitVec 32 := Scf.iv v4784 c1_i32_1751 k0_t26
  let c256_i32_2014 : BitVec 32 := 256#32
  let v5207 : BitVec 32 := Scalar.muli arg21 c256_i32_2014
  let v5208 : BitVec 32 := v5207
  let v5209 : Index := Scalar.indexCast v5208
  ![384, v5209.toNat]
def k0_cond9 (i : grid0.Coords) : BitVec 1 :=
  let arg1 : BitVec 32 := BitVec.ofNat 32 (i 1).val
  let c1_i32_1752 : BitVec 32 := 1#32
  let v4785 : BitVec 1 := Scalar.cmpi .sge arg1 c1_i32_1752
  let v4786 : BitVec 32 := Scalar.extui v4785
  let c0_i32_1753 : BitVec 32 := 0#32
  let v4787 : BitVec 1 := Scalar.cmpi .ne v4786 c0_i32_1753
  v4787

def k0_mult150 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_1899 : BitVec 32 := 256#32
  let v5013 : BitVec 32 := Scalar.muli v5012 c256_i32_1899
  v5013
def k0_off419 (i : grid0.Coords) : Fin 2 → Nat :=
  let arg1 : BitVec 32 := BitVec.ofNat 32 (i 1).val
  let c1_i32_1898 : BitVec 32 := 1#32
  let v5012 : BitVec 32 := Scalar.subi arg1 c1_i32_1898
  let c256_i32_1899 : BitVec 32 := 256#32
  let v5013 : BitVec 32 := Scalar.muli v5012 c256_i32_1899
  let v5014 : BitVec 32 := v5013
  let v5015 : Index := Scalar.indexCast v5014
  let c0_1900 : Index := 0#32
  ![v5015.toNat, 0]
def k0_mult151 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_1904 : BitVec 32 := 256#32
  let v5019 : BitVec 32 := Scalar.muli v5012 c256_i32_1904
  v5019
def k0_off420 (i : grid0.Coords) : Fin 2 → Nat :=
  let arg1 : BitVec 32 := BitVec.ofNat 32 (i 1).val
  let c1_i32_1898 : BitVec 32 := 1#32
  let v5012 : BitVec 32 := Scalar.subi arg1 c1_i32_1898
  let c256_i32_1904 : BitVec 32 := 256#32
  let v5019 : BitVec 32 := Scalar.muli v5012 c256_i32_1904
  let v5020 : BitVec 32 := v5019
  let v5021 : Index := Scalar.indexCast v5020
  let c0_1905 : Index := 0#32
  ![v5021.toNat, 0]
def k0_mult152 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_1923 : BitVec 32 := 256#32
  let v5052 : BitVec 32 := Scalar.muli v5012 c256_i32_1923
  v5052
def k0_off421 (i : grid0.Coords) : Fin 2 → Nat :=
  let c0_1924 : Index := 0#32
  let arg1 : BitVec 32 := BitVec.ofNat 32 (i 1).val
  let c1_i32_1898 : BitVec 32 := 1#32
  let v5012 : BitVec 32 := Scalar.subi arg1 c1_i32_1898
  let c256_i32_1923 : BitVec 32 := 256#32
  let v5052 : BitVec 32 := Scalar.muli v5012 c256_i32_1923
  let v5053 : BitVec 32 := v5052
  let v5054 : Index := Scalar.indexCast v5053
  ![0, v5054.toNat]
def k0_mult153 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_1935 : BitVec 32 := 256#32
  let v5069 : BitVec 32 := Scalar.muli v5012 c256_i32_1935
  v5069
def k0_off422 (i : grid0.Coords) : Fin 2 → Nat :=
  let arg1 : BitVec 32 := BitVec.ofNat 32 (i 1).val
  let c1_i32_1898 : BitVec 32 := 1#32
  let v5012 : BitVec 32 := Scalar.subi arg1 c1_i32_1898
  let c256_i32_1935 : BitVec 32 := 256#32
  let v5069 : BitVec 32 := Scalar.muli v5012 c256_i32_1935
  let v5070 : BitVec 32 := v5069
  let v5071 : Index := Scalar.indexCast v5070
  let c128_1936 : Index := 128#32
  ![v5071.toNat, 128]
def k0_mult154 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_1940 : BitVec 32 := 256#32
  let v5075 : BitVec 32 := Scalar.muli v5012 c256_i32_1940
  v5075
def k0_mult155 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_1959 : BitVec 32 := 256#32
  let v5108 : BitVec 32 := Scalar.muli v5012 c256_i32_1959
  v5108
def k0_off423 (i : grid0.Coords) : Fin 2 → Nat :=
  let c128_1960 : Index := 128#32
  let arg1 : BitVec 32 := BitVec.ofNat 32 (i 1).val
  let c1_i32_1898 : BitVec 32 := 1#32
  let v5012 : BitVec 32 := Scalar.subi arg1 c1_i32_1898
  let c256_i32_1959 : BitVec 32 := 256#32
  let v5108 : BitVec 32 := Scalar.muli v5012 c256_i32_1959
  let v5109 : BitVec 32 := v5108
  let v5110 : Index := Scalar.indexCast v5109
  ![128, v5110.toNat]
def k0_mult156 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_1971 : BitVec 32 := 256#32
  let v5125 : BitVec 32 := Scalar.muli v5012 c256_i32_1971
  v5125
def k0_off424 (i : grid0.Coords) : Fin 2 → Nat :=
  let arg1 : BitVec 32 := BitVec.ofNat 32 (i 1).val
  let c1_i32_1898 : BitVec 32 := 1#32
  let v5012 : BitVec 32 := Scalar.subi arg1 c1_i32_1898
  let c256_i32_1971 : BitVec 32 := 256#32
  let v5125 : BitVec 32 := Scalar.muli v5012 c256_i32_1971
  let v5126 : BitVec 32 := v5125
  let v5127 : Index := Scalar.indexCast v5126
  let c256_1972 : Index := 256#32
  ![v5127.toNat, 256]
def k0_mult157 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_1976 : BitVec 32 := 256#32
  let v5131 : BitVec 32 := Scalar.muli v5012 c256_i32_1976
  v5131
def k0_mult158 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_1995 : BitVec 32 := 256#32
  let v5164 : BitVec 32 := Scalar.muli v5012 c256_i32_1995
  v5164
def k0_off425 (i : grid0.Coords) : Fin 2 → Nat :=
  let c256_1996 : Index := 256#32
  let arg1 : BitVec 32 := BitVec.ofNat 32 (i 1).val
  let c1_i32_1898 : BitVec 32 := 1#32
  let v5012 : BitVec 32 := Scalar.subi arg1 c1_i32_1898
  let c256_i32_1995 : BitVec 32 := 256#32
  let v5164 : BitVec 32 := Scalar.muli v5012 c256_i32_1995
  let v5165 : BitVec 32 := v5164
  let v5166 : Index := Scalar.indexCast v5165
  ![256, v5166.toNat]
def k0_mult159 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_2007 : BitVec 32 := 256#32
  let v5181 : BitVec 32 := Scalar.muli v5012 c256_i32_2007
  v5181
def k0_off426 (i : grid0.Coords) : Fin 2 → Nat :=
  let arg1 : BitVec 32 := BitVec.ofNat 32 (i 1).val
  let c1_i32_1898 : BitVec 32 := 1#32
  let v5012 : BitVec 32 := Scalar.subi arg1 c1_i32_1898
  let c256_i32_2007 : BitVec 32 := 256#32
  let v5181 : BitVec 32 := Scalar.muli v5012 c256_i32_2007
  let v5182 : BitVec 32 := v5181
  let v5183 : Index := Scalar.indexCast v5182
  let c384_2008 : Index := 384#32
  ![v5183.toNat, 384]
def k0_mult160 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_2012 : BitVec 32 := 256#32
  let v5187 : BitVec 32 := Scalar.muli v5012 c256_i32_2012
  v5187
def k0_mult161 (i : grid0.Coords) : BitVec 32 :=
  let arg1 : BitVec 32 := BitVec.ofNat 32 (i 1).val
  let c1_i32_1898 : BitVec 32 := 1#32
  let v5012 : BitVec 32 := Scalar.subi arg1 c1_i32_1898
  let c256_i32_2031 : BitVec 32 := 256#32
  let v5220 : BitVec 32 := Scalar.muli v5012 c256_i32_2031
  v5220
def k0_off427 (i : grid0.Coords) : Fin 2 → Nat :=
  let c384_2032 : Index := 384#32
  let arg1 : BitVec 32 := BitVec.ofNat 32 (i 1).val
  let c1_i32_1898 : BitVec 32 := 1#32
  let v5012 : BitVec 32 := Scalar.subi arg1 c1_i32_1898
  let c256_i32_2031 : BitVec 32 := 256#32
  let v5220 : BitVec 32 := Scalar.muli v5012 c256_i32_2031
  let v5221 : BitVec 32 := v5220
  let v5222 : Index := Scalar.indexCast v5221
  ![384, v5222.toNat]
def k0_mult162 (i : grid0.Coords) : BitVec 32 :=
  let arg1 : BitVec 32 := BitVec.ofNat 32 (i 1).val
  let c256_i32_1754 : BitVec 32 := 256#32
  let v4788 : BitVec 32 := Scalar.muli arg1 c256_i32_1754
  v4788
def k0_off428 (i : grid0.Coords) : Fin 2 → Nat :=
  let arg1 : BitVec 32 := BitVec.ofNat 32 (i 1).val
  let c256_i32_1754 : BitVec 32 := 256#32
  let v4788 : BitVec 32 := Scalar.muli arg1 c256_i32_1754
  let v4789 : BitVec 32 := v4788
  let v4790 : Index := Scalar.indexCast v4789
  let c0_1755 : Index := 0#32
  ![v4790.toNat, 0]
def k0_mult163 (i : grid0.Coords) : BitVec 32 :=
  let arg1 : BitVec 32 := BitVec.ofNat 32 (i 1).val
  let c256_i32_1759 : BitVec 32 := 256#32
  let v4794 : BitVec 32 := Scalar.muli arg1 c256_i32_1759
  v4794
def k0_off429 (i : grid0.Coords) : Fin 2 → Nat :=
  let arg1 : BitVec 32 := BitVec.ofNat 32 (i 1).val
  let c256_i32_1759 : BitVec 32 := 256#32
  let v4794 : BitVec 32 := Scalar.muli arg1 c256_i32_1759
  let v4795 : BitVec 32 := v4794
  let v4796 : Index := Scalar.indexCast v4795
  let c0_1760 : Index := 0#32
  ![v4796.toNat, 0]
def k0_mult164 (i : grid0.Coords) : BitVec 32 :=
  let arg1 : BitVec 32 := BitVec.ofNat 32 (i 1).val
  let c256_i32_1778 : BitVec 32 := 256#32
  let v4827 : BitVec 32 := Scalar.muli arg1 c256_i32_1778
  v4827
def k0_off430 (i : grid0.Coords) : Fin 2 → Nat :=
  let c0_1779 : Index := 0#32
  let arg1 : BitVec 32 := BitVec.ofNat 32 (i 1).val
  let c256_i32_1778 : BitVec 32 := 256#32
  let v4827 : BitVec 32 := Scalar.muli arg1 c256_i32_1778
  let v4828 : BitVec 32 := v4827
  let v4829 : Index := Scalar.indexCast v4828
  ![0, v4829.toNat]
def k0_mult165 (i : grid0.Coords) : BitVec 32 :=
  let arg1 : BitVec 32 := BitVec.ofNat 32 (i 1).val
  let c256_i32_1790 : BitVec 32 := 256#32
  let v4844 : BitVec 32 := Scalar.muli arg1 c256_i32_1790
  v4844
def k0_off431 (i : grid0.Coords) : Fin 2 → Nat :=
  let arg1 : BitVec 32 := BitVec.ofNat 32 (i 1).val
  let c256_i32_1790 : BitVec 32 := 256#32
  let v4844 : BitVec 32 := Scalar.muli arg1 c256_i32_1790
  let v4845 : BitVec 32 := v4844
  let v4846 : Index := Scalar.indexCast v4845
  let c128_1791 : Index := 128#32
  ![v4846.toNat, 128]
def k0_mult166 (i : grid0.Coords) : BitVec 32 :=
  let arg1 : BitVec 32 := BitVec.ofNat 32 (i 1).val
  let c256_i32_1795 : BitVec 32 := 256#32
  let v4850 : BitVec 32 := Scalar.muli arg1 c256_i32_1795
  v4850
def k0_mult167 (i : grid0.Coords) : BitVec 32 :=
  let arg1 : BitVec 32 := BitVec.ofNat 32 (i 1).val
  let c256_i32_1814 : BitVec 32 := 256#32
  let v4883 : BitVec 32 := Scalar.muli arg1 c256_i32_1814
  v4883
def k0_off432 (i : grid0.Coords) : Fin 2 → Nat :=
  let c128_1815 : Index := 128#32
  let arg1 : BitVec 32 := BitVec.ofNat 32 (i 1).val
  let c256_i32_1814 : BitVec 32 := 256#32
  let v4883 : BitVec 32 := Scalar.muli arg1 c256_i32_1814
  let v4884 : BitVec 32 := v4883
  let v4885 : Index := Scalar.indexCast v4884
  ![128, v4885.toNat]
def k0_mult168 (i : grid0.Coords) : BitVec 32 :=
  let arg1 : BitVec 32 := BitVec.ofNat 32 (i 1).val
  let c256_i32_1826 : BitVec 32 := 256#32
  let v4900 : BitVec 32 := Scalar.muli arg1 c256_i32_1826
  v4900
def k0_off433 (i : grid0.Coords) : Fin 2 → Nat :=
  let arg1 : BitVec 32 := BitVec.ofNat 32 (i 1).val
  let c256_i32_1826 : BitVec 32 := 256#32
  let v4900 : BitVec 32 := Scalar.muli arg1 c256_i32_1826
  let v4901 : BitVec 32 := v4900
  let v4902 : Index := Scalar.indexCast v4901
  let c256_1827 : Index := 256#32
  ![v4902.toNat, 256]
def k0_mult169 (i : grid0.Coords) : BitVec 32 :=
  let arg1 : BitVec 32 := BitVec.ofNat 32 (i 1).val
  let c256_i32_1831 : BitVec 32 := 256#32
  let v4906 : BitVec 32 := Scalar.muli arg1 c256_i32_1831
  v4906
def k0_mult170 (i : grid0.Coords) : BitVec 32 :=
  let arg1 : BitVec 32 := BitVec.ofNat 32 (i 1).val
  let c256_i32_1850 : BitVec 32 := 256#32
  let v4939 : BitVec 32 := Scalar.muli arg1 c256_i32_1850
  v4939
def k0_off434 (i : grid0.Coords) : Fin 2 → Nat :=
  let c256_1851 : Index := 256#32
  let arg1 : BitVec 32 := BitVec.ofNat 32 (i 1).val
  let c256_i32_1850 : BitVec 32 := 256#32
  let v4939 : BitVec 32 := Scalar.muli arg1 c256_i32_1850
  let v4940 : BitVec 32 := v4939
  let v4941 : Index := Scalar.indexCast v4940
  ![256, v4941.toNat]
def k0_mult171 (i : grid0.Coords) : BitVec 32 :=
  let arg1 : BitVec 32 := BitVec.ofNat 32 (i 1).val
  let c256_i32_1862 : BitVec 32 := 256#32
  let v4956 : BitVec 32 := Scalar.muli arg1 c256_i32_1862
  v4956
def k0_off435 (i : grid0.Coords) : Fin 2 → Nat :=
  let arg1 : BitVec 32 := BitVec.ofNat 32 (i 1).val
  let c256_i32_1862 : BitVec 32 := 256#32
  let v4956 : BitVec 32 := Scalar.muli arg1 c256_i32_1862
  let v4957 : BitVec 32 := v4956
  let v4958 : Index := Scalar.indexCast v4957
  let c384_1863 : Index := 384#32
  ![v4958.toNat, 384]
def k0_mult172 (i : grid0.Coords) : BitVec 32 :=
  let arg1 : BitVec 32 := BitVec.ofNat 32 (i 1).val
  let c256_i32_1867 : BitVec 32 := 256#32
  let v4962 : BitVec 32 := Scalar.muli arg1 c256_i32_1867
  v4962
def k0_mult173 (i : grid0.Coords) : BitVec 32 :=
  let arg1 : BitVec 32 := BitVec.ofNat 32 (i 1).val
  let c256_i32_1886 : BitVec 32 := 256#32
  let v4995 : BitVec 32 := Scalar.muli arg1 c256_i32_1886
  v4995
def k0_off436 (i : grid0.Coords) : Fin 2 → Nat :=
  let c384_1887 : Index := 384#32
  let arg1 : BitVec 32 := BitVec.ofNat 32 (i 1).val
  let c256_i32_1886 : BitVec 32 := 256#32
  let v4995 : BitVec 32 := Scalar.muli arg1 c256_i32_1886
  let v4996 : BitVec 32 := v4995
  let v4997 : Index := Scalar.indexCast v4996
  ![384, v4997.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S4x2x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024x1024 : Shape := ⟨2, ![1024, 1024]⟩
abbrev S32768x512 : Shape := ⟨2, ![32768, 512]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 32
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S32768x1024, .f32⟩
  | .hbm, ⟨11, _⟩ => ⟨S1024x1024, .f32⟩
  | .hbm, ⟨12, _⟩ => ⟨S1024x1024, .bf16⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S512x1024, .bf16⟩
  | .hbm, ⟨18, _⟩ => ⟨S512x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024x2816, .f32⟩
  | .hbm, ⟨24, _⟩ => ⟨S1024x2816, .bf16⟩
  | .hbm, ⟨25, _⟩ => ⟨S1024x2816, .f32⟩
  | .hbm, ⟨26, _⟩ => ⟨S1024x2816, .bf16⟩
  | .hbm, ⟨27, _⟩ => ⟨S2816x1024, .f32⟩
  | .hbm, ⟨28, _⟩ => ⟨S2816x1024, .bf16⟩
  | .hbm, ⟨29, _⟩ => ⟨S1024, .f32⟩
  | .hbm, ⟨30, _⟩ => ⟨S1x1024, .f32⟩
  | .hbm, ⟨31, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S8x4096x2816 : Shape := ⟨3, ![8, 4096, 2816]⟩
abbrev S2816x1024 : Shape := ⟨2, ![2816, 1024]⟩
abbrev S32768x1024 : Shape := ⟨2, ![32768, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S8x4096x1024, .f32⟩
  | .hbm, ⟨11, _⟩ => ⟨S1024x1024, .f32⟩
  | .hbm, ⟨12, _⟩ => ⟨S8x4096x1024, .f32⟩
  | .hbm, ⟨13, _⟩ => ⟨S1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S1024x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S_, .f32⟩
  | .hbm, ⟨53, _⟩ => ⟨S8x4096x2816, .f32⟩
  | .hbm, ⟨54, _⟩ => ⟨S8x4096x2816, .f32⟩
  | .hbm, ⟨55, _⟩ => ⟨S_, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S1024x2816, .f32⟩
  | .hbm, ⟨60, _⟩ => ⟨S8x4096x2816, .f32⟩
  | .hbm, ⟨61, _⟩ => ⟨S8x4096x2816, .f32⟩
  | .hbm, ⟨62, _⟩ => ⟨S2816x1024, .f32⟩
  | .hbm, ⟨63, _⟩ => ⟨S8x4096x1024, .f32⟩
  | .hbm, ⟨64, _⟩ => ⟨S1024, .f32⟩
  | .hbm, ⟨65, _⟩ => ⟨S8x4096x1024, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S1x1x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S1x1024x3144 : Shape := ⟨3, ![1, 1024, 3144]⟩
abbrev S1x512 : Shape := ⟨2, ![1, 512]⟩
abbrev S1x4x128x128 : Shape := ⟨4, ![1, 4, 128, 128]⟩
abbrev S1x4x128 : Shape := ⟨3, ![1, 4, 128]⟩
abbrev S32768x1024 : Shape := ⟨2, ![32768, 1024]⟩
abbrev S1024x3144 : Shape := ⟨2, ![1024, 3144]⟩
abbrev S1024x3072 : Shape := ⟨2, ![1024, 3072]⟩
abbrev S1024x72 : Shape := ⟨2, ![1024, 72]⟩
abbrev S_ : Shape := ⟨0, ![]⟩
abbrev S1024x128 : Shape := ⟨2, ![1024, 128]⟩
abbrev S1024 : Shape := ⟨1, ![1024]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S32768x512 : Shape := ⟨2, ![32768, 512]⟩
abbrev S512x32768 : Shape := ⟨2, ![512, 32768]⟩
abbrev S8x32768x64 : Shape := ⟨3, ![8, 32768, 64]⟩
abbrev S32768x64 : Shape := ⟨2, ![32768, 64]⟩
abbrev S8x32768 : Shape := ⟨2, ![8, 32768]⟩
abbrev S512x1024 : Shape := ⟨2, ![512, 1024]⟩
abbrev S512x512 : Shape := ⟨2, ![512, 512]⟩
abbrev S8x512x64 : Shape := ⟨3, ![8, 512, 64]⟩
abbrev S512x64 : Shape := ⟨2, ![512, 64]⟩
abbrev S8x512 : Shape := ⟨2, ![8, 512]⟩
abbrev S512x1 : Shape := ⟨2, ![512, 1]⟩
abbrev S1024x512 : Shape := ⟨2, ![1024, 512]⟩
abbrev S128x512 : Shape := ⟨2, ![128, 512]⟩
abbrev S4x512 : Shape := ⟨2, ![4, 512]⟩
abbrev S1x512x64 : Shape := ⟨3, ![1, 512, 64]⟩
abbrev S512x128 : Shape := ⟨2, ![512, 128]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 33
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3144, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S32768x1024, .f32⟩
  | .hbm, ⟨8, _⟩ => ⟨S1024x3144, .f32⟩
  | .hbm, ⟨9, _⟩ => ⟨S1024x3072, .f32⟩
  | .hbm, ⟨10, _⟩ => ⟨S1024x3072, .bf16⟩
  | .hbm, ⟨11, _⟩ => ⟨S1024x72, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1024, .f32⟩
  | .hbm, ⟨17, _⟩ => ⟨S1x1024, .f32⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S4x128x128, .f32⟩
  | .hbm, ⟨23, _⟩ => ⟨S4x128, .f32⟩
  | .hbm, ⟨24, _⟩ => ⟨S128x4, .f32⟩
  | .hbm, ⟨25, _⟩ => ⟨S32768x512, .bf16⟩
  | .hbm, ⟨26, _⟩ => ⟨S32768x512, .bf16⟩
  | .hbm, ⟨27, _⟩ => ⟨S32768x512, .bf16⟩
  | .hbm, ⟨28, _⟩ => ⟨S512x32768, .bf16⟩
  | .hbm, ⟨29, _⟩ => ⟨S8x32768x64, .bf16⟩
  | .hbm, ⟨30, _⟩ => ⟨S32768x64, .bf16⟩
  | .hbm, ⟨31, _⟩ => ⟨S8x32768, .f32⟩
  | .hbm, ⟨32, _⟩ => ⟨S8x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x512, .f32⟩
  | .local _ .vmem, ⟨6, _⟩ => ⟨S1x512, .f32⟩
  | .local _ .vmem, ⟨7, _⟩ => ⟨S4x128x128, .f32⟩
  | .local _ .vmem, ⟨8, _⟩ => ⟨S128x4, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S8x512x64, .bf16⟩
  | .local _ .vmem, ⟨18, _⟩ => ⟨S8x512x64, .bf16⟩
  | .local _ .vmem, ⟨19, _⟩ => ⟨S512x64, .bf16⟩
  | .local _ .vmem, ⟨20, _⟩ => ⟨S512x64, .bf16⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev main_v16_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S8x4096x1024 : Shape := ⟨3, ![8, 4096, 1024]⟩
abbrev S1x1024 : Shape := ⟨2, ![1, 1024]⟩
abbrev S1x1024x3144 : Shape := ⟨3, ![1, 1024, 3144]⟩
abbrev S1x512 : Shape := ⟨2, ![1, 512]⟩
abbrev S1x4x128x128 : Shape := ⟨4, ![1, 4, 128, 128]⟩
abbrev S1x4x128 : Shape := ⟨3, ![1, 4, 128]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3144 : Shape := ⟨2, ![1024, 3144]⟩
abbrev S8x4096x3144 : Shape := ⟨3, ![8, 4096, 3144]⟩
abbrev S8x4096x512 : Shape := ⟨3, ![8, 4096, 512]⟩
abbrev S8x4096x64 : Shape := ⟨3, ![8, 4096, 64]⟩
abbrev S8x4096x8 : Shape := ⟨3, ![8, 4096, 8]⟩
abbrev S512 : Shape := ⟨1, ![512]⟩
abbrev S4x128x128 : Shape := ⟨3, ![4, 128, 128]⟩
abbrev S4x128 : Shape := ⟨2, ![4, 128]⟩
abbrev S1x1x512 : Shape := ⟨3, ![1, 1, 512]⟩
abbrev S8x32x128x4x128 : Shape := ⟨5, ![8, 32, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x8x32x128x128 : Shape := ⟨5, ![4, 8, 32, 128, 128]⟩
abbrev S128x4 : Shape := ⟨2, ![128, 4]⟩
abbrev S1x1x128x4x1 : Shape := ⟨5, ![1, 1, 128, 4, 1]⟩
abbrev S32768x512 : Shape := ⟨2, ![32768, 512]⟩
abbrev S32768x8x64 : Shape := ⟨3, ![32768, 8, 64]⟩
abbrev S8x32768x64 : Shape := ⟨3, ![8, 32768, 64]⟩
abbrev S32768x8 : Shape := ⟨2, ![32768, 8]⟩
abbrev S32768x4x128 : Shape := ⟨3, ![32768, 4, 128]⟩
abbrev S32768x4 : Shape := ⟨2, ![32768, 4]⟩
abbrev S4x32768 : Shape := ⟨2, ![4, 32768]⟩
abbrev S8x32768 : Shape := ⟨2, ![8, 32768]⟩
abbrev S512x32768 : Shape := ⟨2, ![512, 32768]⟩
abbrev S32768x64 : Shape := ⟨2, ![32768, 64]⟩

abbrev nBuf : Space → Nat
  | .hbm => 138
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x3144, .f32⟩
  | 3 => ⟨S1x512, .f32⟩
  | 4 => ⟨S1x512, .f32⟩
  | 5 => ⟨S1x4x128x128, .f32⟩
  | 6 => ⟨S1x4x128, .f32⟩
  | 7 => ⟨S1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S1024x3144, .f32⟩
  | 25 => ⟨S8x4096x3144, .f32⟩
  | 26 => ⟨S8x4096x512, .f32⟩
  | 27 => ⟨S8x4096x512, .f32⟩
  | 28 => ⟨S8x4096x512, .f32⟩
  | 29 => ⟨S8x4096x512, .f32⟩
  | 30 => ⟨S8x4096x512, .f32⟩
  | 31 => ⟨S8x4096x512, .f32⟩
  | 32 => ⟨S8x4096x64, .f32⟩
  | 33 => ⟨S8x4096x8, .f32⟩
  | 34 => ⟨S512, .f32⟩
  | 35 => ⟨S512, .f32⟩
  | 36 => ⟨S4x128x128, .f32⟩
  | 37 => ⟨S4x128, .f32⟩
  | 38 => ⟨S_, .f32⟩
  | 39 => ⟨S8x4096, .f32⟩
  | 40 => ⟨S8x4096x1, .f32⟩
  | 41 => ⟨S_, .f32⟩
  | 42 => ⟨S8x4096x1, .f32⟩
  | 43 => ⟨S8x4096x1, .f32⟩
  | 44 => ⟨S8x4096x512, .f32⟩
  | 45 => ⟨S8x4096x512, .f32⟩
  | 46 => ⟨S8x4096x512, .f32⟩
  | 47 => ⟨S_, .f32⟩
  | 48 => ⟨S8x4096, .f32⟩
  | 49 => ⟨S8x4096x1, .f32⟩
  | 50 => ⟨S_, .f32⟩
  | 51 => ⟨S8x4096x1, .f32⟩
  | 52 => ⟨S8x4096x1, .f32⟩
  | 53 => ⟨S8x4096x512, .f32⟩
  | 54 => ⟨S8x4096x512, .f32⟩
  | 55 => ⟨S_, .f32⟩
  | 56 => ⟨S8x4096x1, .f32⟩
  | 57 => ⟨S8x4096x1, .f32⟩
  | 58 => ⟨S8x4096x1, .f32⟩
  | 59 => ⟨S8x4096x512, .f32⟩
  | 60 => ⟨S8x4096x512, .f32⟩
  | 61 => ⟨S1x1x512, .f32⟩
  | 62 => ⟨S8x4096x512, .f32⟩
  | 63 => ⟨S8x4096x512, .f32⟩
  | 64 => ⟨S1x1x512, .f32⟩
  | 65 => ⟨S8x4096x512, .f32⟩
  | 66 => ⟨S8x4096x512, .f32⟩
  | 67 => ⟨S8x32x128x4x128, .f32⟩
  | 68 => ⟨S128, .i32⟩
  | 69 => ⟨S_, .i32⟩
  | 70 => ⟨S_, .i32⟩
  | 71 => ⟨S128, .i32⟩
  | 72 => ⟨S128, .i32⟩
  | 73 => ⟨S128, .i32⟩
  | 74 => ⟨S_, .i32⟩
  | 75 => ⟨S128, .i32⟩
  | 76 => ⟨S128, .i1⟩
  | 77 => ⟨S128, .i32⟩
  | 78 => ⟨S128, .i32⟩
  | 79 => ⟨S_, .i32⟩
  | 80 => ⟨S128, .i32⟩
  | 81 => ⟨S128, .i1⟩
  | 82 => ⟨S128, .i1⟩
  | 83 => ⟨S_, .i32⟩
  | 84 => ⟨S128, .i32⟩
  | 85 => ⟨S128, .i32⟩
  | 86 => ⟨S128, .i32⟩
  | 87 => ⟨S1x128, .i32⟩
  | 88 => ⟨S128x1, .i32⟩
  | 89 => ⟨S128x128, .i32⟩
  | 90 => ⟨S128x128, .i32⟩
  | 91 => ⟨S128x128, .i1⟩
  | 92 => ⟨S1x128x128, .i1⟩
  | 93 => ⟨S_, .f32⟩
  | 94 => ⟨S4x128x128, .f32⟩
  | 95 => ⟨S4x128x128, .i1⟩
  | 96 => ⟨S4x128x128, .f32⟩
  | 97 => ⟨S4x8x32x128x128, .f32⟩
  | 98 => ⟨S8x32x128x4x128, .f32⟩
  | 99 => ⟨S128x4, .f32⟩
  | 100 => ⟨S1x1x128x4x1, .f32⟩
  | 101 => ⟨S8x32x128x4x128, .f32⟩
  | 102 => ⟨S8x32x128x4x128, .f32⟩
  | 103 => ⟨S8x4096x512, .f32⟩
  | 104 => ⟨S8x4096x512, .f32⟩
  | 105 => ⟨S32768x512, .f32⟩
  | 106 => ⟨S_, .f32⟩
  | 107 => ⟨S32768x512, .f32⟩
  | 108 => ⟨S32768x512, .f32⟩
  | 109 => ⟨S32768x512, .f32⟩
  | 110 => ⟨S32768x512, .f32⟩
  | 111 => ⟨S32768x8x64, .f32⟩
  | 112 => ⟨S8x32768x64, .f32⟩
  | 113 => ⟨S_, .f32⟩
  | 114 => ⟨S8x32768x64, .f32⟩
  | 115 => ⟨S8x32768x64, .f32⟩
  | 116 => ⟨S32768x8, .f32⟩
  | 117 => ⟨S_, .f32⟩
  | 118 => ⟨S32768x8, .f32⟩
  | 119 => ⟨S32768x8, .f32⟩
  | 120 => ⟨S32768x4x128, .f32⟩
  | 121 => ⟨S32768x4x128, .f32⟩
  | 122 => ⟨S_, .f32⟩
  | 123 => ⟨S32768x4, .f32⟩
  | 124 => ⟨S4x32768, .f32⟩
  | 125 => ⟨S_, .i32⟩
  | 126 => ⟨S_, .f32⟩
  | 127 => ⟨S8x32768, .f32⟩
  | _ => ⟨S8x4096x1024, .f32⟩

abbrev hbmTy0_1 (i : Nat) : BufTy := match i % 128 with
  | 0 => ⟨S32768x512, .f32⟩
  | 1 => ⟨S32768x512, .bf16⟩
  | 2 => ⟨S32768x512, .bf16⟩
  | 3 => ⟨S32768x512, .bf16⟩
  | 4 => ⟨S512x32768, .f32⟩
  | 5 => ⟨S512x32768, .bf16⟩
  | 6 => ⟨S8x32768x64, .bf16⟩
  | 7 => ⟨S32768x64, .f32⟩
  | 8 => ⟨S32768x64, .bf16⟩
  | 9 => ⟨S8x32768, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_7 : Ref sig .tc := ⟨.hbm, 93, rfl⟩
abbrev main_v61 : Ref sig .tc := ⟨.hbm, 94, rfl⟩
abbrev main_call1_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_8 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_9 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_10 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_11 : Ref sig .tc := ⟨.hbm, 122, rfl⟩
abbrev main_v85 : Ref sig .tc := ⟨.hbm, 123, rfl⟩
abbrev main_v86 : Ref sig .tc := ⟨.hbm, 124, rfl⟩
abbrev main_c_12 : Ref sig .tc := ⟨.hbm, 125, rfl⟩
abbrev main_call2_v0 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩

abbrev nD : Nat := 1
abbrev τ : Topo := Topo.v7x

variable {F : FTy → Type} [FloatOps F]
-- ==== Proof.Calm.lean ====
/- Programs that only load from and store to given memrefs, and what such a program leaves behind: whoever owns the
   memrefs, at any contents, owns them again when it has run (`Calm.wp`). Nothing is said of the values: this is what a
   frame needs of a kernel's body, and no more. -/
module

public import Idealize.ShloMosaic.Lib.Pipeline
public import Idealize.ShloMosaic.Lib.Scf
public import Idealize.ShloMosaic.Lib.Memref
public import Idealize.ShloMosaic.Lib.Writes

@[expose] public section

noncomputable section

namespace Cert.Calm

open Idealize.ShloMosaic Idealize.ShloMosaic.TcCoe
open Idealize.SL Idealize.SL.Sem
open Idealize.SL.RA
open Idealize.SL.BI (sProp)
open scoped Idealize.SL.BI
open Idealize.SL.BI.BIBase Idealize.SL.BI.Laws Idealize.SL.ProofMode

variable {nD : Nat} {τ : Topo} {sig : RefSig} {Val : EltTy → Type} {Λ : Labels}

/-- A set of memrefs of a TensorCore. -/
abbrev Mems (sig : RefSig) := ∀ ⦃sp : Space⦄ ⦃s : Shape⦄ ⦃e : EltTy⦄, Memref sig .tc sp s e → Prop

/-- The memref is one of the set. -/
class On (S : Mems sig) {sp : Space} {s : Shape} {e : EltTy} (m : Memref sig .tc sp s e) : Prop where
  mem : S m

/-- Programs whose only effects are loads and stores through the memrefs of `S`. -/
inductive Calm (S : Mems sig) {α : Type} : Prog (TpuEff nD τ sig Val Λ .tc) α → Prop
  | ret (a : α) : Calm S (.ret a)
  | load {cs : CoreSpace} {s : Shape} {e : EltTy} {m : Memref sig .tc cs s e} {r : LoadRect s} {hl : m.view.LoadsAt r}
      {k : (r.shape.Idx → Val e) → Prog (TpuEff nD τ sig Val Λ .tc) α} (hm : On S m) (h : ∀ x, Calm S (k x)) :
      Calm S (.op (.load m r hl) k)
  | store {cs : CoreSpace} {s : Shape} {e : EltTy} {m : Memref sig .tc cs s e} {r : Rect s} {w : r.shape.Idx → Val e}
      {Mk : Finset r.shape.Idx} {hx : (m.access r).Stores Mk} {hs : Mk = Finset.univ ∨ ∀ a, r.stride a = 1}
      {k : PUnit → Prog (TpuEff nD τ sig Val Λ .tc) α} (hm : On S m) (h : ∀ x, Calm S (k x)) :
      Calm S (.op (.store m r w Mk hx hs) k)

variable {S : Mems sig} {α β : Type}

theorem Calm.bind {p : Prog (TpuEff nD τ sig Val Λ .tc) α} {k : α → Prog (TpuEff nD τ sig Val Λ .tc) β}
    (hp : Calm S p) (hk : ∀ a, Calm S (k a)) : Calm S (p >>= k) := by
  induction hp with
  | ret a => exact hk a
  | load hm _ ih => exact .load hm ih
  | store hm _ ih => exact .store hm ih

theorem Calm.pure (a : α) : Calm (nD := nD) (τ := τ) (Val := Val) (Λ := Λ) S (Pure.pure a) := .ret a

theorem Calm.lift_load {cs : CoreSpace} {s : Shape} {e : EltTy} {m : Memref sig .tc cs s e} {r : LoadRect s}
    {hl : m.view.LoadsAt r} [hm : On S m] :
    Calm (nD := nD) (τ := τ) (Val := Val) (Λ := Λ) S (Prog.lift (.load m r hl)) := .load hm fun _ => .ret _

theorem Calm.lift_store {cs : CoreSpace} {s : Shape} {e : EltTy} {m : Memref sig .tc cs s e} {r : Rect s}
    {w : r.shape.Idx → Val e} {Mk : Finset r.shape.Idx} {hx : (m.access r).Stores Mk}
    {hs : Mk = Finset.univ ∨ ∀ a, r.stride a = 1} [hm : On S m] :
    Calm (nD := nD) (τ := τ) (Λ := Λ) S (Prog.lift (.store m r w Mk hx hs)) := .store hm fun _ => .ret _

theorem Calm.smemLoad {s : Shape} {e : EltTy} {m : Memref sig .tc .smem s e} {r : Rect s} {h1 : r.shape.numel = 1}
    {hp : e.packing = 1} [hm : On S m] :
    Calm (nD := nD) (τ := τ) (Val := Val) (Λ := Λ) S (Idealize.ShloMosaic.smemLoad m r h1 hp) := .load hm fun _ => .ret _

theorem Calm.loop {w : Nat} {l : Scf.Loop w} {hok : l.OK} {init : α}
    {body : Fin l.trips → α → Prog (TpuEff nD τ sig Val Λ .tc) α} (h : ∀ k a, Calm S (body k a)) :
    Calm S (Scf.Loop.for l hok init body) := by
  unfold Scf.Loop.for
  rw [Scf.for_eq]
  generalize List.finRange _ = ks
  induction ks generalizing init with
  | nil => exact .ret _
  | cons k ks ih => exact (h k init).bind fun a => ih

theorem Calm.dite {c : Prop} [Decidable c] {p : c → Prog (TpuEff nD τ sig Val Λ .tc) α}
    {q : ¬ c → Prog (TpuEff nD τ sig Val Λ .tc) α} (hp : ∀ h, Calm S (p h)) (hq : ∀ h, Calm S (q h)) :
    Calm S (if h : c then p h else q h) := by
  split
  · exact hp _
  · exact hq _

theorem Calm.ite {c : Prop} [Decidable c] {p q : Prog (TpuEff nD τ sig Val Λ .tc) α} (hp : Calm S p) (hq : Calm S q) :
    Calm S (if c then p else q) := by
  split
  · exact hp
  · exact hq

/-! ## A program's parts

A printed part is a function of the grid point, the body's memrefs and the values it takes from the parts before. It is
calm if, at memrefs of the set, whatever the values, the program is. -/

/-- What it means of a function to programs that it is calm: of a program, `Calm`; of a function of a memref, that it is
    calm at each memref of the set; of any other function, that it is calm at each argument. -/
class Part (S : Mems sig) (α : Type 1) where
  calm : α → Prop

instance {γ : Type} : Part S (Prog (TpuEff nD τ sig Val Λ .tc) γ) := ⟨Calm S⟩

instance (priority := 900) partPi {γ : Type} {δ : γ → Type 1} [∀ a, Part S (δ a)] : Part S ((a : γ) → δ a) :=
  ⟨fun f => ∀ a, Part.calm S (f a)⟩

instance (priority := 900) partProp {γ : Prop} {δ : γ → Type 1} [∀ a, Part S (δ a)] : Part S ((a : γ) → δ a) :=
  ⟨fun f => ∀ a, Part.calm S (f a)⟩

instance partMem {sp : Space} {s : Shape} {e : EltTy} {δ : Memref sig .tc sp s e → Type 1} [∀ a, Part S (δ a)] :
    Part S ((a : Memref sig .tc sp s e) → δ a) :=
  ⟨fun f => ∀ a, [On S a] → Part.calm S (f a)⟩

/-! ## What a calm program leaves -/

section Wp

variable {Ix : Type} [DecidableEq Ix] {Name : Type} [DecidableEq Name] {U : Type} [URA U] {Lvl : Type}

local notation "𝕄" => MT nD τ sig Ix Val Name U Lvl

/-- The memref's elements are owned, at some contents. -/
def holds (c : Thread nD τ) {sp : Space} {sh : Shape} {e : EltTy} (m : Memref sig c.2.kind sp sh e) : sProp 𝕄 :=
  iprop(∃ f, m.view.loc c ↦[m.view.set]{fullShare} f)

variable [Preorder Lvl] {defs : Defs nD τ sig Val Λ} (𝒱 : Variants) (c : Dev nD)

/-- If `I` lends each memref of the set, at some contents, and takes it back at any, then from `I` a calm program runs to `I`. -/
theorem Calm.wp {bd : Option 𝒱.V} {E : Set Name} (I : sProp 𝕄)
    (hI : ∀ ⦃sp : Space⦄ ⦃s : Shape⦄ ⦃e : EltTy⦄ (m : Memref sig .tc sp s e), S m →
      I ⊢ iprop(holds (c.tc : Thread nD τ) m ∗ (holds (c.tc : Thread nD τ) m -∗ I)))
    {p : Prog (TpuEff nD τ sig Val Λ .tc) α} (hp : Calm S p) :
    I ⊢ wp frame (wpE defs 𝒱 (c.tc : Thread nD τ) bd) E p (fun _ => I) := by
  induction hp with
  | ret a =>
    rw [wp_ret]
    iintro H
    imodintro
    iexact H
  | load hm _ ih =>
    refine (hI _ hm.mem).trans ?_
    unfold holds
    iintro ⟨⟨%f, H⟩, HI⟩
    iapply (wp_load 𝒱 (c.tc : Thread nD τ) bd E (View.setOn_subset_set _ _)) $$ H
    iintro H
    iapply (ih _)
    iapply HI
    iexists f; iexact H
  | @store cs s e m r w Mk hx hs k hm _ ih =>
    refine (hI _ hm.mem).trans ?_
    unfold holds
    iintro ⟨⟨%f, H⟩, HI⟩
    iapply (wp_store 𝒱 (c.tc : Thread nD τ) bd E (m := m) (r := r) (S := m.view.set) (f := f)
      ((View.setOn_subset_set _ _).trans (View.set_slice_subset _ _))) $$ [H]
    · iexact H
    iintro H
    iapply (ih _)
    iapply HI
    iexists _; iexact H

end Wp

end Cert.Calm

end
-- ==== Proof.Leaves1.lean ====
/- The parts 1 to 49 of the body that call no other part: each only loads from and stores to the
   memrefs it is given. -/
module

public import proofs.«01_k».proof.Kernel
public import proofs.«01_k».proof.Proof.Calm

@[expose] public section

set_option maxRecDepth 16384
-- a part takes nineteen memrefs and the proof of each that it is whole: the size at which the search for what
-- calmness means of such a function gives up
set_option synthInstance.maxSize 1000000000000000000
set_option synthInstance.maxHeartbeats 400000

noncomputable section

namespace Cert.Calm.Dsa

open Cert.Kernel Idealize.ShloMosaic Idealize.SL.Sem

variable {F : FTy → Type} [BitOps F] [Cert.Kernel.Facts] {S : Mems sig}

theorem leaves1 :
  Part.calm S (k0_part1 (F := F)) ∧ Part.calm S (k0_part2 (F := F)) ∧ Part.calm S (k0_part3 (F := F)) ∧
    Part.calm S (k0_part4 (F := F)) ∧ Part.calm S (k0_part5 (F := F)) ∧ Part.calm S (k0_part6 (F := F)) ∧
    Part.calm S (k0_part7 (F := F)) ∧ Part.calm S (k0_part8 (F := F)) ∧ Part.calm S (k0_part9 (F := F)) ∧
    Part.calm S (k0_part10 (F := F)) ∧ Part.calm S (k0_part11 (F := F)) ∧ Part.calm S (k0_part12 (F := F)) ∧
    Part.calm S (k0_part13 (F := F)) ∧ Part.calm S (k0_part14 (F := F)) ∧ Part.calm S (k0_part15 (F := F)) ∧
    Part.calm S (k0_part16 (F := F)) ∧ Part.calm S (k0_part17 (F := F)) ∧ Part.calm S (k0_part18 (F := F)) ∧
    Part.calm S (k0_part19 (F := F)) ∧ Part.calm S (k0_part20 (F := F)) ∧ Part.calm S (k0_part21 (F := F)) ∧
    Part.calm S (k0_part22 (F := F)) ∧ Part.calm S (k0_part23 (F := F)) ∧ Part.calm S (k0_part24 (F := F)) ∧
    Part.calm S (k0_part25 (F := F)) ∧ Part.calm S (k0_part26 (F := F)) ∧ Part.calm S (k0_part27 (F := F)) ∧
    Part.calm S (k0_part28 (F := F)) ∧ Part.calm S (k0_part29 (F := F)) ∧ Part.calm S (k0_part30 (F := F)) ∧
    Part.calm S (k0_part31 (F := F)) ∧ Part.calm S (k0_part32 (F := F)) ∧ Part.calm S (k0_part33 (F := F)) ∧
    Part.calm S (k0_part34 (F := F)) ∧ Part.calm S (k0_part35 (F := F)) ∧ Part.calm S (k0_part36 (F := F)) ∧
    Part.calm S (k0_part37 (F := F)) ∧ Part.calm S (k0_part38 (F := F)) ∧ Part.calm S (k0_part39 (F := F)) ∧
    Part.calm S (k0_part40 (F := F)) ∧ Part.calm S (k0_part41 (F := F)) ∧ Part.calm S (k0_part42 (F := F)) ∧
    Part.calm S (k0_part43 (F := F)) ∧ Part.calm S (k0_part44 (F := F)) ∧ Part.calm S (k0_part45 (F := F)) ∧
    Part.calm S (k0_part46 (F := F)) ∧ Part.calm S (k0_part47 (F := F)) ∧ Part.calm S (k0_part48 (F := F)) ∧
    Part.calm S (k0_part49 (F := F)) := by
  and_intros <;>
  · simp only [Part.calm]
    intros
    delta k0_part1 k0_part2 k0_part3 k0_part4 k0_part5 k0_part6 k0_part7 k0_part8 k0_part9 k0_part10 k0_part11 k0_part12
      k0_part13 k0_part14 k0_part15 k0_part16 k0_part17 k0_part18 k0_part19 k0_part20 k0_part21 k0_part22 k0_part23
      k0_part24 k0_part25 k0_part26 k0_part27 k0_part28 k0_part29 k0_part30 k0_part31 k0_part32 k0_part33 k0_part34
      k0_part35 k0_part36 k0_part37 k0_part38 k0_part39 k0_part40 k0_part41 k0_part42 k0_part43 k0_part44 k0_part45
      k0_part46 k0_part47 k0_part48 k0_part49
    try extract_lets
    repeat' first
      | exact Calm.pure _
      | exact Calm.lift_load
      | exact Calm.lift_store
      | (refine Calm.bind Calm.smemLoad fun _ => ?_; try extract_lets)
      | (refine Calm.bind Calm.lift_load fun _ => ?_; try extract_lets)
      | (refine Calm.bind Calm.lift_store fun _ => ?_; try extract_lets)
      | (refine Calm.bind (Calm.loop fun _ _ => ?_) fun _ => ?_ <;> try extract_lets)
      | refine Calm.ite ?_ ?_
      | (refine Calm.dite (fun _ => ?_) (fun _ => ?_) <;> try extract_lets)

end Cert.Calm.Dsa

end
-- ==== Proof.Leaves2.lean ====
/- The parts 50 to 100 of the body that call no other part: each only loads from and stores to the
   memrefs it is given. -/
module

public import proofs.«01_k».proof.Kernel
public import proofs.«01_k».proof.Proof.Calm

@[expose] public section

set_option maxRecDepth 16384
-- a part takes nineteen memrefs and the proof of each that it is whole: the size at which the search for what
-- calmness means of such a function gives up
set_option synthInstance.maxSize 1000000000000000000
set_option synthInstance.maxHeartbeats 400000

noncomputable section

namespace Cert.Calm.Dsa

open Cert.Kernel Idealize.ShloMosaic Idealize.SL.Sem

variable {F : FTy → Type} [BitOps F] [Cert.Kernel.Facts] {S : Mems sig}

theorem leaves2 :
  Part.calm S (k0_part50 (F := F)) ∧ Part.calm S (k0_part51 (F := F)) ∧ Part.calm S (k0_part52 (F := F)) ∧
    Part.calm S (k0_part53 (F := F)) ∧ Part.calm S (k0_part54 (F := F)) ∧ Part.calm S (k0_part55 (F := F)) ∧
    Part.calm S (k0_part56 (F := F)) ∧ Part.calm S (k0_part57 (F := F)) ∧ Part.calm S (k0_part58 (F := F)) ∧
    Part.calm S (k0_part59 (F := F)) ∧ Part.calm S (k0_part60 (F := F)) ∧ Part.calm S (k0_part61 (F := F)) ∧
    Part.calm S (k0_part62 (F := F)) ∧ Part.calm S (k0_part63 (F := F)) ∧ Part.calm S (k0_part64 (F := F)) ∧
    Part.calm S (k0_part65 (F := F)) ∧ Part.calm S (k0_part66 (F := F)) ∧ Part.calm S (k0_part67 (F := F)) ∧
    Part.calm S (k0_part68 (F := F)) ∧ Part.calm S (k0_part69 (F := F)) ∧ Part.calm S (k0_part70 (F := F)) ∧
    Part.calm S (k0_part71 (F := F)) ∧ Part.calm S (k0_part72 (F := F)) ∧ Part.calm S (k0_part73 (F := F)) ∧
    Part.calm S (k0_part74 (F := F)) ∧ Part.calm S (k0_part75 (F := F)) ∧ Part.calm S (k0_part76 (F := F)) ∧
    Part.calm S (k0_part77 (F := F)) ∧ Part.calm S (k0_part78 (F := F)) ∧ Part.calm S (k0_part79 (F := F)) ∧
    Part.calm S (k0_part80 (F := F)) ∧ Part.calm S (k0_part81 (F := F)) ∧ Part.calm S (k0_part82 (F := F)) ∧
    Part.calm S (k0_part83 (F := F)) ∧ Part.calm S (k0_part84 (F := F)) ∧ Part.calm S (k0_part85 (F := F)) ∧
    Part.calm S (k0_part86 (F := F)) ∧ Part.calm S (k0_part89 (F := F)) ∧ Part.calm S (k0_part90 (F := F)) ∧
    Part.calm S (k0_part91 (F := F)) ∧ Part.calm S (k0_part92 (F := F)) ∧ Part.calm S (k0_part93 (F := F)) ∧
    Part.calm S (k0_part94 (F := F)) ∧ Part.calm S (k0_part95 (F := F)) ∧ Part.calm S (k0_part96 (F := F)) ∧
    Part.calm S (k0_part97 (F := F)) ∧ Part.calm S (k0_part98 (F := F)) ∧ Part.calm S (k0_part99 (F := F)) ∧
    Part.calm S (k0_part100 (F := F)) := by
  and_intros <;>
  · simp only [Part.calm]
    intros
    delta k0_part50 k0_part51 k0_part52 k0_part53 k0_part54 k0_part55 k0_part56 k0_part57 k0_part58 k0_part59 k0_part60
      k0_part61 k0_part62 k0_part63 k0_part64 k0_part65 k0_part66 k0_part67 k0_part68 k0_part69 k0_part70 k0_part71
      k0_part72 k0_part73 k0_part74 k0_part75 k0_part76 k0_part77 k0_part78 k0_part79 k0_part80 k0_part81 k0_part82
      k0_part83 k0_part84 k0_part85 k0_part86 k0_part89 k0_part90 k0_part91 k0_part92 k0_part93 k0_part94 k0_part95
      k0_part96 k0_part97 k0_part98 k0_part99 k0_part100
    try extract_lets
    repeat' first
      | exact Calm.pure _
      | exact Calm.lift_load
      | exact Calm.lift_store
      | (refine Calm.bind Calm.smemLoad fun _ => ?_; try extract_lets)
      | (refine Calm.bind Calm.lift_load fun _ => ?_; try extract_lets)
      | (refine Calm.bind Calm.lift_store fun _ => ?_; try extract_lets)
      | (refine Calm.bind (Calm.loop fun _ _ => ?_) fun _ => ?_ <;> try extract_lets)
      | refine Calm.ite ?_ ?_
      | (refine Calm.dite (fun _ => ?_) (fun _ => ?_) <;> try extract_lets)

end Cert.Calm.Dsa

end
-- ==== Proof.Leaves3.lean ====
/- The parts 101 to 149 of the body that call no other part: each only loads from and stores to the
   memrefs it is given. -/
module

public import proofs.«01_k».proof.Kernel
public import proofs.«01_k».proof.Proof.Calm

@[expose] public section

set_option maxRecDepth 16384
-- a part takes nineteen memrefs and the proof of each that it is whole: the size at which the search for what
-- calmness means of such a function gives up
set_option synthInstance.maxSize 1000000000000000000
set_option synthInstance.maxHeartbeats 400000

noncomputable section

namespace Cert.Calm.Dsa

open Cert.Kernel Idealize.ShloMosaic Idealize.SL.Sem

variable {F : FTy → Type} [BitOps F] [Cert.Kernel.Facts] {S : Mems sig}

theorem leaves3 :
  Part.calm S (k0_part101 (F := F)) ∧ Part.calm S (k0_part102 (F := F)) ∧ Part.calm S (k0_part103 (F := F)) ∧
    Part.calm S (k0_part104 (F := F)) ∧ Part.calm S (k0_part105 (F := F)) ∧ Part.calm S (k0_part106 (F := F)) ∧
    Part.calm S (k0_part107 (F := F)) ∧ Part.calm S (k0_part108 (F := F)) ∧ Part.calm S (k0_part109 (F := F)) ∧
    Part.calm S (k0_part110 (F := F)) ∧ Part.calm S (k0_part111 (F := F)) ∧ Part.calm S (k0_part112 (F := F)) ∧
    Part.calm S (k0_part113 (F := F)) ∧ Part.calm S (k0_part114 (F := F)) ∧ Part.calm S (k0_part115 (F := F)) ∧
    Part.calm S (k0_part116 (F := F)) ∧ Part.calm S (k0_part117 (F := F)) ∧ Part.calm S (k0_part118 (F := F)) ∧
    Part.calm S (k0_part119 (F := F)) ∧ Part.calm S (k0_part120 (F := F)) ∧ Part.calm S (k0_part121 (F := F)) ∧
    Part.calm S (k0_part122 (F := F)) ∧ Part.calm S (k0_part123 (F := F)) ∧ Part.calm S (k0_part124 (F := F)) ∧
    Part.calm S (k0_part125 (F := F)) ∧ Part.calm S (k0_part126 (F := F)) ∧ Part.calm S (k0_part127 (F := F)) ∧
    Part.calm S (k0_part128 (F := F)) ∧ Part.calm S (k0_part129 (F := F)) ∧ Part.calm S (k0_part130 (F := F)) ∧
    Part.calm S (k0_part131 (F := F)) ∧ Part.calm S (k0_part132 (F := F)) ∧ Part.calm S (k0_part133 (F := F)) ∧
    Part.calm S (k0_part134 (F := F)) ∧ Part.calm S (k0_part135 (F := F)) ∧ Part.calm S (k0_part136 (F := F)) ∧
    Part.calm S (k0_part137 (F := F)) ∧ Part.calm S (k0_part138 (F := F)) ∧ Part.calm S (k0_part139 (F := F)) ∧
    Part.calm S (k0_part140 (F := F)) ∧ Part.calm S (k0_part141 (F := F)) ∧ Part.calm S (k0_part142 (F := F)) ∧
    Part.calm S (k0_part143 (F := F)) ∧ Part.calm S (k0_part144 (F := F)) ∧ Part.calm S (k0_part145 (F := F)) ∧
    Part.calm S (k0_part146 (F := F)) ∧ Part.calm S (k0_part147 (F := F)) ∧ Part.calm S (k0_part148 (F := F)) ∧
    Part.calm S (k0_part149 (F := F)) := by
  and_intros <;>
  · simp only [Part.calm]
    intros
    delta k0_part101 k0_part102 k0_part103 k0_part104 k0_part105 k0_part106 k0_part107 k0_part108 k0_part109 k0_part110
      k0_part111 k0_part112 k0_part113 k0_part114 k0_part115 k0_part116 k0_part117 k0_part118 k0_part119 k0_part120
      k0_part121 k0_part122 k0_part123 k0_part124 k0_part125 k0_part126 k0_part127 k0_part128 k0_part129 k0_part130
      k0_part131 k0_part132 k0_part133 k0_part134 k0_part135 k0_part136 k0_part137 k0_part138 k0_part139 k0_part140
      k0_part141 k0_part142 k0_part143 k0_part144 k0_part145 k0_part146 k0_part147 k0_part148 k0_part149
    try extract_lets
    repeat' first
      | exact Calm.pure _
      | exact Calm.lift_load
      | exact Calm.lift_store
      | (refine Calm.bind Calm.smemLoad fun _ => ?_; try extract_lets)
      | (refine Calm.bind Calm.lift_load fun _ => ?_; try extract_lets)
      | (refine Calm.bind Calm.lift_store fun _ => ?_; try extract_lets)
      | (refine Calm.bind (Calm.loop fun _ _ => ?_) fun _ => ?_ <;> try extract_lets)
      | refine Calm.ite ?_ ?_
      | (refine Calm.dite (fun _ => ?_) (fun _ => ?_) <;> try extract_lets)

end Cert.Calm.Dsa

end
-- ==== Proof.Leaves4.lean ====
/- The parts 150 to 200 of the body that call no other part: each only loads from and stores to the
   memrefs it is given. -/
module

public import proofs.«01_k».proof.Kernel
public import proofs.«01_k».proof.Proof.Calm

@[expose] public section

set_option maxRecDepth 16384
-- a part takes nineteen memrefs and the proof of each that it is whole: the size at which the search for what
-- calmness means of such a function gives up
set_option synthInstance.maxSize 1000000000000000000
set_option synthInstance.maxHeartbeats 400000

noncomputable section

namespace Cert.Calm.Dsa

open Cert.Kernel Idealize.ShloMosaic Idealize.SL.Sem

variable {F : FTy → Type} [BitOps F] [Cert.Kernel.Facts] {S : Mems sig}

theorem leaves4 :
  Part.calm S (k0_part150 (F := F)) ∧ Part.calm S (k0_part151 (F := F)) ∧ Part.calm S (k0_part152 (F := F)) ∧
    Part.calm S (k0_part153 (F := F)) ∧ Part.calm S (k0_part154 (F := F)) ∧ Part.calm S (k0_part155 (F := F)) ∧
    Part.calm S (k0_part156 (F := F)) ∧ Part.calm S (k0_part157 (F := F)) ∧ Part.calm S (k0_part158 (F := F)) ∧
    Part.calm S (k0_part159 (F := F)) ∧ Part.calm S (k0_part160 (F := F)) ∧ Part.calm S (k0_part161 (F := F)) ∧
    Part.calm S (k0_part162 (F := F)) ∧ Part.calm S (k0_part163 (F := F)) ∧ Part.calm S (k0_part164 (F := F)) ∧
    Part.calm S (k0_part165 (F := F)) ∧ Part.calm S (k0_part166 (F := F)) ∧ Part.calm S (k0_part167 (F := F)) ∧
    Part.calm S (k0_part168 (F := F)) ∧ Part.calm S (k0_part169 (F := F)) ∧ Part.calm S (k0_part170 (F := F)) ∧
    Part.calm S (k0_part171 (F := F)) ∧ Part.calm S (k0_part172 (F := F)) ∧ Part.calm S (k0_part173 (F := F)) ∧
    Part.calm S (k0_part174 (F := F)) ∧ Part.calm S (k0_part177 (F := F)) ∧ Part.calm S (k0_part178 (F := F)) ∧
    Part.calm S (k0_part179 (F := F)) ∧ Part.calm S (k0_part180 (F := F)) ∧ Part.calm S (k0_part181 (F := F)) ∧
    Part.calm S (k0_part182 (F := F)) ∧ Part.calm S (k0_part183 (F := F)) ∧ Part.calm S (k0_part184 (F := F)) ∧
    Part.calm S (k0_part185 (F := F)) ∧ Part.calm S (k0_part186 (F := F)) ∧ Part.calm S (k0_part187 (F := F)) ∧
    Part.calm S (k0_part188 (F := F)) ∧ Part.calm S (k0_part189 (F := F)) ∧ Part.calm S (k0_part190 (F := F)) ∧
    Part.calm S (k0_part191 (F := F)) ∧ Part.calm S (k0_part192 (F := F)) ∧ Part.calm S (k0_part193 (F := F)) ∧
    Part.calm S (k0_part194 (F := F)) ∧ Part.calm S (k0_part195 (F := F)) ∧ Part.calm S (k0_part196 (F := F)) ∧
    Part.calm S (k0_part197 (F := F)) ∧ Part.calm S (k0_part198 (F := F)) ∧ Part.calm S (k0_part199 (F := F)) ∧
    Part.calm S (k0_part200 (F := F)) := by
  and_intros <;>
  · simp only [Part.calm]
    intros
    delta k0_part150 k0_part151 k0_part152 k0_part153 k0_part154 k0_part155 k0_part156 k0_part157 k0_part158 k0_part159
      k0_part160 k0_part161 k0_part162 k0_part163 k0_part164 k0_part165 k0_part166 k0_part167 k0_part168 k0_part169
      k0_part170 k0_part171 k0_part172 k0_part173 k0_part174 k0_part177 k0_part178 k0_part179 k0_part180 k0_part181
      k0_part182 k0_part183 k0_part184 k0_part185 k0_part186 k0_part187 k0_part188 k0_part189 k0_part190 k0_part191
      k0_part192 k0_part193 k0_part194 k0_part195 k0_part196 k0_part197 k0_part198 k0_part199 k0_part200
    try extract_lets
    repeat' first
      | exact Calm.pure _
      | exact Calm.lift_load
      | exact Calm.lift_store
      | (refine Calm.bind Calm.smemLoad fun _ => ?_; try extract_lets)
      | (refine Calm.bind Calm.lift_load fun _ => ?_; try extract_lets)
      | (refine Calm.bind Calm.lift_store fun _ => ?_; try extract_lets)
      | (refine Calm.bind (Calm.loop fun _ _ => ?_) fun _ => ?_ <;> try extract_lets)
      | refine Calm.ite ?_ ?_
      | (refine Calm.dite (fun _ => ?_) (fun _ => ?_) <;> try extract_lets)

end Cert.Calm.Dsa

end
-- ==== Proof.Leaves5.lean ====
/- The parts 201 to 249 of the body that call no other part: each only loads from and stores to the
   memrefs it is given. -/
module

public import proofs.«01_k».proof.Kernel
public import proofs.«01_k».proof.Proof.Calm

@[expose] public section

set_option maxRecDepth 16384
-- a part takes nineteen memrefs and the proof of each that it is whole: the size at which the search for what
-- calmness means of such a function gives up
set_option synthInstance.maxSize 1000000000000000000
set_option synthInstance.maxHeartbeats 400000

noncomputable section

namespace Cert.Calm.Dsa

open Cert.Kernel Idealize.ShloMosaic Idealize.SL.Sem

variable {F : FTy → Type} [BitOps F] [Cert.Kernel.Facts] {S : Mems sig}

theorem leaves5 :
  Part.calm S (k0_part201 (F := F)) ∧ Part.calm S (k0_part202 (F := F)) ∧ Part.calm S (k0_part203 (F := F)) ∧
    Part.calm S (k0_part204 (F := F)) ∧ Part.calm S (k0_part205 (F := F)) ∧ Part.calm S (k0_part206 (F := F)) ∧
    Part.calm S (k0_part207 (F := F)) ∧ Part.calm S (k0_part208 (F := F)) ∧ Part.calm S (k0_part209 (F := F)) ∧
    Part.calm S (k0_part210 (F := F)) ∧ Part.calm S (k0_part211 (F := F)) ∧ Part.calm S (k0_part212 (F := F)) ∧
    Part.calm S (k0_part213 (F := F)) ∧ Part.calm S (k0_part214 (F := F)) ∧ Part.calm S (k0_part215 (F := F)) ∧
    Part.calm S (k0_part216 (F := F)) ∧ Part.calm S (k0_part217 (F := F)) ∧ Part.calm S (k0_part218 (F := F)) ∧
    Part.calm S (k0_part219 (F := F)) ∧ Part.calm S (k0_part220 (F := F)) ∧ Part.calm S (k0_part221 (F := F)) ∧
    Part.calm S (k0_part222 (F := F)) ∧ Part.calm S (k0_part223 (F := F)) ∧ Part.calm S (k0_part224 (F := F)) ∧
    Part.calm S (k0_part225 (F := F)) ∧ Part.calm S (k0_part226 (F := F)) ∧ Part.calm S (k0_part227 (F := F)) ∧
    Part.calm S (k0_part228 (F := F)) ∧ Part.calm S (k0_part229 (F := F)) ∧ Part.calm S (k0_part230 (F := F)) ∧
    Part.calm S (k0_part231 (F := F)) ∧ Part.calm S (k0_part232 (F := F)) ∧ Part.calm S (k0_part233 (F := F)) ∧
    Part.calm S (k0_part234 (F := F)) ∧ Part.calm S (k0_part235 (F := F)) ∧ Part.calm S (k0_part236 (F := F)) ∧
    Part.calm S (k0_part237 (F := F)) ∧ Part.calm S (k0_part238 (F := F)) ∧ Part.calm S (k0_part239 (F := F)) ∧
    Part.calm S (k0_part240 (F := F)) ∧ Part.calm S (k0_part241 (F := F)) ∧ Part.calm S (k0_part242 (F := F)) ∧
    Part.calm S (k0_part243 (F := F)) ∧ Part.calm S (k0_part244 (F := F)) ∧ Part.calm S (k0_part245 (F := F)) ∧
    Part.calm S (k0_part246 (F := F)) ∧ Part.calm S (k0_part247 (F := F)) ∧ Part.calm S (k0_part248 (F := F)) ∧
    Part.calm S (k0_part249 (F := F)) := by
  and_intros <;>
  · simp only [Part.calm]
    intros
    delta k0_part201 k0_part202 k0_part203 k0_part204 k0_part205 k0_part206 k0_part207 k0_part208 k0_part209 k0_part210
      k0_part211 k0_part212 k0_part213 k0_part214 k0_part215 k0_part216 k0_part217 k0_part218 k0_part219 k0_part220
      k0_part221 k0_part222 k0_part223 k0_part224 k0_part225 k0_part226 k0_part227 k0_part228 k0_part229 k0_part230
      k0_part231 k0_part232 k0_part233 k0_part234 k0_part235 k0_part236 k0_part237 k0_part238 k0_part239 k0_part240
      k0_part241 k0_part242 k0_part243 k0_part244 k0_part245 k0_part246 k0_part247 k0_part248 k0_part249
    try extract_lets
    repeat' first
      | exact Calm.pure _
      | exact Calm.lift_load
      | exact Calm.lift_store
      | (refine Calm.bind Calm.smemLoad fun _ => ?_; try extract_lets)
      | (refine Calm.bind Calm.lift_load fun _ => ?_; try extract_lets)
      | (refine Calm.bind Calm.lift_store fun _ => ?_; try extract_lets)
      | (refine Calm.bind (Calm.loop fun _ _ => ?_) fun _ => ?_ <;> try extract_lets)
      | refine Calm.ite ?_ ?_
      | (refine Calm.dite (fun _ => ?_) (fun _ => ?_) <;> try extract_lets)

end Cert.Calm.Dsa

end
-- ==== Proof.Leaves6.lean ====
/- The parts 250 to 300 of the body that call no other part: each only loads from and stores to the
   memrefs it is given. -/
module

public import proofs.«01_k».proof.Kernel
public import proofs.«01_k».proof.Proof.Calm

@[expose] public section

set_option maxRecDepth 16384
-- a part takes nineteen memrefs and the proof of each that it is whole: the size at which the search for what
-- calmness means of such a function gives up
set_option synthInstance.maxSize 1000000000000000000
set_option synthInstance.maxHeartbeats 400000

noncomputable section

namespace Cert.Calm.Dsa

open Cert.Kernel Idealize.ShloMosaic Idealize.SL.Sem

variable {F : FTy → Type} [BitOps F] [Cert.Kernel.Facts] {S : Mems sig}

theorem leaves6 :
  Part.calm S (k0_part250 (F := F)) ∧ Part.calm S (k0_part251 (F := F)) ∧ Part.calm S (k0_part252 (F := F)) ∧
    Part.calm S (k0_part253 (F := F)) ∧ Part.calm S (k0_part254 (F := F)) ∧ Part.calm S (k0_part255 (F := F)) ∧
    Part.calm S (k0_part256 (F := F)) ∧ Part.calm S (k0_part257 (F := F)) ∧ Part.calm S (k0_part258 (F := F)) ∧
    Part.calm S (k0_part259 (F := F)) ∧ Part.calm S (k0_part260 (F := F)) ∧ Part.calm S (k0_part261 (F := F)) ∧
    Part.calm S (k0_part262 (F := F)) ∧ Part.calm S (k0_part263 (F := F)) ∧ Part.calm S (k0_part264 (F := F)) ∧
    Part.calm S (k0_part265 (F := F)) ∧ Part.calm S (k0_part266 (F := F)) ∧ Part.calm S (k0_part267 (F := F)) ∧
    Part.calm S (k0_part268 (F := F)) ∧ Part.calm S (k0_part269 (F := F)) ∧ Part.calm S (k0_part270 (F := F)) ∧
    Part.calm S (k0_part271 (F := F)) ∧ Part.calm S (k0_part272 (F := F)) ∧ Part.calm S (k0_part273 (F := F)) ∧
    Part.calm S (k0_part274 (F := F)) ∧ Part.calm S (k0_part275 (F := F)) ∧ Part.calm S (k0_part276 (F := F)) ∧
    Part.calm S (k0_part277 (F := F)) ∧ Part.calm S (k0_part278 (F := F)) ∧ Part.calm S (k0_part280 (F := F)) ∧
    Part.calm S (k0_part281 (F := F)) ∧ Part.calm S (k0_part282 (F := F)) ∧ Part.calm S (k0_part283 (F := F)) ∧
    Part.calm S (k0_part284 (F := F)) ∧ Part.calm S (k0_part285 (F := F)) ∧ Part.calm S (k0_part286 (F := F)) ∧
    Part.calm S (k0_part287 (F := F)) ∧ Part.calm S (k0_part288 (F := F)) ∧ Part.calm S (k0_part290 (F := F)) ∧
    Part.calm S (k0_part291 (F := F)) ∧ Part.calm S (k0_part292 (F := F)) ∧ Part.calm S (k0_part293 (F := F)) ∧
    Part.calm S (k0_part294 (F := F)) ∧ Part.calm S (k0_part295 (F := F)) ∧ Part.calm S (k0_part296 (F := F)) ∧
    Part.calm S (k0_part297 (F := F)) ∧ Part.calm S (k0_part298 (F := F)) ∧ Part.calm S (k0_part299 (F := F)) ∧
    Part.calm S (k0_part300 (F := F)) := by
  and_intros <;>
  · simp only [Part.calm]
    intros
    delta k0_part250 k0_part251 k0_part252 k0_part253 k0_part254 k0_part255 k0_part256 k0_part257 k0_part258 k0_part259
      k0_part260 k0_part261 k0_part262 k0_part263 k0_part264 k0_part265 k0_part266 k0_part267 k0_part268 k0_part269
      k0_part270 k0_part271 k0_part272 k0_part273 k0_part274 k0_part275 k0_part276 k0_part277 k0_part278 k0_part280
      k0_part281 k0_part282 k0_part283 k0_part284 k0_part285 k0_part286 k0_part287 k0_part288 k0_part290 k0_part291
      k0_part292 k0_part293 k0_part294 k0_part295 k0_part296 k0_part297 k0_part298 k0_part299 k0_part300
    try extract_lets
    repeat' first
      | exact Calm.pure _
      | exact Calm.lift_load
      | exact Calm.lift_store
      | (refine Calm.bind Calm.smemLoad fun _ => ?_; try extract_lets)
      | (refine Calm.bind Calm.lift_load fun _ => ?_; try extract_lets)
      | (refine Calm.bind Calm.lift_store fun _ => ?_; try extract_lets)
      | (refine Calm.bind (Calm.loop fun _ _ => ?_) fun _ => ?_ <;> try extract_lets)
      | refine Calm.ite ?_ ?_
      | (refine Calm.dite (fun _ => ?_) (fun _ => ?_) <;> try extract_lets)

end Cert.Calm.Dsa

end
-- ==== Proof.Leaves7.lean ====
/- The parts 301 to 349 of the body that call no other part: each only loads from and stores to the
   memrefs it is given. -/
module

public import proofs.«01_k».proof.Kernel
public import proofs.«01_k».proof.Proof.Calm

@[expose] public section

set_option maxRecDepth 16384
-- a part takes nineteen memrefs and the proof of each that it is whole: the size at which the search for what
-- calmness means of such a function gives up
set_option synthInstance.maxSize 1000000000000000000
set_option synthInstance.maxHeartbeats 400000

noncomputable section

namespace Cert.Calm.Dsa

open Cert.Kernel Idealize.ShloMosaic Idealize.SL.Sem

variable {F : FTy → Type} [BitOps F] [Cert.Kernel.Facts] {S : Mems sig}

theorem leaves7 :
  Part.calm S (k0_part301 (F := F)) ∧ Part.calm S (k0_part302 (F := F)) ∧ Part.calm S (k0_part303 (F := F)) ∧
    Part.calm S (k0_part304 (F := F)) ∧ Part.calm S (k0_part305 (F := F)) ∧ Part.calm S (k0_part306 (F := F)) ∧
    Part.calm S (k0_part307 (F := F)) ∧ Part.calm S (k0_part308 (F := F)) ∧ Part.calm S (k0_part309 (F := F)) ∧
    Part.calm S (k0_part310 (F := F)) ∧ Part.calm S (k0_part311 (F := F)) ∧ Part.calm S (k0_part312 (F := F)) ∧
    Part.calm S (k0_part313 (F := F)) ∧ Part.calm S (k0_part314 (F := F)) ∧ Part.calm S (k0_part315 (F := F)) ∧
    Part.calm S (k0_part316 (F := F)) ∧ Part.calm S (k0_part317 (F := F)) ∧ Part.calm S (k0_part318 (F := F)) ∧
    Part.calm S (k0_part319 (F := F)) ∧ Part.calm S (k0_part320 (F := F)) ∧ Part.calm S (k0_part321 (F := F)) ∧
    Part.calm S (k0_part322 (F := F)) ∧ Part.calm S (k0_part323 (F := F)) ∧ Part.calm S (k0_part324 (F := F)) ∧
    Part.calm S (k0_part325 (F := F)) ∧ Part.calm S (k0_part326 (F := F)) ∧ Part.calm S (k0_part327 (F := F)) ∧
    Part.calm S (k0_part328 (F := F)) ∧ Part.calm S (k0_part329 (F := F)) ∧ Part.calm S (k0_part330 (F := F)) ∧
    Part.calm S (k0_part331 (F := F)) ∧ Part.calm S (k0_part332 (F := F)) ∧ Part.calm S (k0_part333 (F := F)) ∧
    Part.calm S (k0_part334 (F := F)) ∧ Part.calm S (k0_part335 (F := F)) ∧ Part.calm S (k0_part336 (F := F)) ∧
    Part.calm S (k0_part337 (F := F)) ∧ Part.calm S (k0_part338 (F := F)) ∧ Part.calm S (k0_part339 (F := F)) ∧
    Part.calm S (k0_part340 (F := F)) ∧ Part.calm S (k0_part341 (F := F)) ∧ Part.calm S (k0_part342 (F := F)) ∧
    Part.calm S (k0_part343 (F := F)) ∧ Part.calm S (k0_part344 (F := F)) ∧ Part.calm S (k0_part345 (F := F)) ∧
    Part.calm S (k0_part346 (F := F)) ∧ Part.calm S (k0_part347 (F := F)) ∧ Part.calm S (k0_part348 (F := F)) ∧
    Part.calm S (k0_part349 (F := F)) := by
  and_intros <;>
  · simp only [Part.calm]
    intros
    delta k0_part301 k0_part302 k0_part303 k0_part304 k0_part305 k0_part306 k0_part307 k0_part308 k0_part309 k0_part310
      k0_part311 k0_part312 k0_part313 k0_part314 k0_part315 k0_part316 k0_part317 k0_part318 k0_part319 k0_part320
      k0_part321 k0_part322 k0_part323 k0_part324 k0_part325 k0_part326 k0_part327 k0_part328 k0_part329 k0_part330
      k0_part331 k0_part332 k0_part333 k0_part334 k0_part335 k0_part336 k0_part337 k0_part338 k0_part339 k0_part340
      k0_part341 k0_part342 k0_part343 k0_part344 k0_part345 k0_part346 k0_part347 k0_part348 k0_part349
    try extract_lets
    repeat' first
      | exact Calm.pure _
      | exact Calm.lift_load
      | exact Calm.lift_store
      | (refine Calm.bind Calm.smemLoad fun _ => ?_; try extract_lets)
      | (refine Calm.bind Calm.lift_load fun _ => ?_; try extract_lets)
      | (refine Calm.bind Calm.lift_store fun _ => ?_; try extract_lets)
      | (refine Calm.bind (Calm.loop fun _ _ => ?_) fun _ => ?_ <;> try extract_lets)
      | refine Calm.ite ?_ ?_
      | (refine Calm.dite (fun _ => ?_) (fun _ => ?_) <;> try extract_lets)

end Cert.Calm.Dsa

end
-- ==== Proof.Parts1.lean ====
/- The parts of the body that call parts which call no other: calm, since what they call is. -/
module

public import proofs.«01_k».proof.Kernel
public import proofs.«01_k».proof.Proof.Leaves1
public import proofs.«01_k».proof.Proof.Leaves2
public import proofs.«01_k».proof.Proof.Leaves3
public import proofs.«01_k».proof.Proof.Leaves4
public import proofs.«01_k».proof.Proof.Leaves5
public import proofs.«01_k».proof.Proof.Leaves6
public import proofs.«01_k».proof.Proof.Leaves7

@[expose] public section

set_option maxRecDepth 16384
-- a part takes nineteen memrefs and the proof of each that it is whole: the size at which the search for what
-- calmness means of such a function gives up
set_option synthInstance.maxSize 1000000000000000000
set_option synthInstance.maxHeartbeats 400000

noncomputable section

namespace Cert.Calm.Dsa

open Cert.Kernel Idealize.ShloMosaic Idealize.SL.Sem

variable {F : FTy → Type} [BitOps F] [Cert.Kernel.Facts] {S : Mems sig}

set_option maxHeartbeats 20000000 in
theorem early :
    Part.calm S (k0_part87 (F := F)) ∧
    Part.calm S (k0_part88 (F := F)) ∧
    Part.calm S (k0_part175 (F := F)) ∧
    Part.calm S (k0_part176 (F := F)) := by
  have h1 := leaves1 (F := F) (S := S)
  have h2 := leaves2 (F := F) (S := S)
  have h3 := leaves3 (F := F) (S := S)
  have h4 := leaves4 (F := F) (S := S)
  simp (maxSteps := 100000000) only [Part.calm] at h1 h2 h3 h4
  and_intros <;>
  · simp (maxSteps := 100000000) only [Part.calm]
    intros
    delta k0_part87 k0_part88 k0_part175 k0_part176
    try extract_lets
    repeat' first
      | (simp only [h1, h2, h3, h4]; done)
      | exact Calm.pure _
      | exact Calm.lift_load
      | exact Calm.lift_store
      | (refine Calm.bind Calm.smemLoad fun _ => ?_; try extract_lets)
      | (refine Calm.bind Calm.lift_load fun _ => ?_; try extract_lets)
      | (refine Calm.bind Calm.lift_store fun _ => ?_; try extract_lets)
      | (refine Calm.bind (Calm.loop fun _ _ => ?_) fun _ => ?_ <;> try extract_lets)
      | (refine Calm.bind ?_ fun _ => ?_; focus (simp only [h1, h2, h3, h4]; done); try split; try extract_lets)
      | (refine Calm.bind (Calm.ite ?_ ?_) fun _ => ?_ <;> try extract_lets)
      | (refine Calm.bind (Calm.dite (fun _ => ?_) (fun _ => ?_)) fun _ => ?_ <;> try extract_lets)
      | (refine Calm.ite ?_ ?_ <;> try extract_lets)
      | (refine Calm.dite (fun _ => ?_) (fun _ => ?_) <;> try extract_lets)
      | (refine Calm.bind (Calm.pure _) fun _ => ?_; try extract_lets)

set_option maxHeartbeats 20000000 in
theorem late :
    Part.calm S (k0_part279 (F := F)) ∧
    Part.calm S (k0_part391 (F := F)) ∧
    Part.calm S (k0_part395 (F := F)) := by
  have h1 := leaves5 (F := F) (S := S)
  have h2 := leaves6 (F := F) (S := S)
  simp (maxSteps := 100000000) only [Part.calm] at h1 h2
  and_intros <;>
  · simp (maxSteps := 100000000) only [Part.calm]
    intros
    delta k0_part279 k0_part391 k0_part395
    try extract_lets
    repeat' first
      | (simp only [h1, h2]; done)
      | exact Calm.pure _
      | exact Calm.lift_load
      | exact Calm.lift_store
      | (refine Calm.bind Calm.smemLoad fun _ => ?_; try extract_lets)
      | (refine Calm.bind Calm.lift_load fun _ => ?_; try extract_lets)
      | (refine Calm.bind Calm.lift_store fun _ => ?_; try extract_lets)
      | (refine Calm.bind (Calm.loop fun _ _ => ?_) fun _ => ?_ <;> try extract_lets)
      | (refine Calm.bind ?_ fun _ => ?_; focus (simp only [h1, h2]; done); try split; try extract_lets)
      | (refine Calm.bind (Calm.ite ?_ ?_) fun _ => ?_ <;> try extract_lets)
      | (refine Calm.bind (Calm.dite (fun _ => ?_) (fun _ => ?_)) fun _ => ?_ <;> try extract_lets)
      | (refine Calm.ite ?_ ?_ <;> try extract_lets)
      | (refine Calm.dite (fun _ => ?_) (fun _ => ?_) <;> try extract_lets)
      | (refine Calm.bind (Calm.pure _) fun _ => ?_; try extract_lets)

end Cert.Calm.Dsa

end
-- ==== Proof.Leaves8.lean ====
/- The parts 350 to 397 of the body that call no other part: each only loads from and stores to the
   memrefs it is given. -/
module

public import proofs.«01_k».proof.Kernel
public import proofs.«01_k».proof.Proof.Calm

@[expose] public section

set_option maxRecDepth 16384
-- a part takes nineteen memrefs and the proof of each that it is whole: the size at which the search for what
-- calmness means of such a function gives up
set_option synthInstance.maxSize 1000000000000000000
set_option synthInstance.maxHeartbeats 400000

noncomputable section

namespace Cert.Calm.Dsa

open Cert.Kernel Idealize.ShloMosaic Idealize.SL.Sem

variable {F : FTy → Type} [BitOps F] [Cert.Kernel.Facts] {S : Mems sig}

theorem leaves8 :
  Part.calm S (k0_part350 (F := F)) ∧ Part.calm S (k0_part351 (F := F)) ∧ Part.calm S (k0_part352 (F := F)) ∧
    Part.calm S (k0_part353 (F := F)) ∧ Part.calm S (k0_part354 (F := F)) ∧ Part.calm S (k0_part355 (F := F)) ∧
    Part.calm S (k0_part356 (F := F)) ∧ Part.calm S (k0_part357 (F := F)) ∧ Part.calm S (k0_part358 (F := F)) ∧
    Part.calm S (k0_part359 (F := F)) ∧ Part.calm S (k0_part360 (F := F)) ∧ Part.calm S (k0_part361 (F := F)) ∧
    Part.calm S (k0_part362 (F := F)) ∧ Part.calm S (k0_part363 (F := F)) ∧ Part.calm S (k0_part364 (F := F)) ∧
    Part.calm S (k0_part365 (F := F)) ∧ Part.calm S (k0_part366 (F := F)) ∧ Part.calm S (k0_part367 (F := F)) ∧
    Part.calm S (k0_part368 (F := F)) ∧ Part.calm S (k0_part369 (F := F)) ∧ Part.calm S (k0_part370 (F := F)) ∧
    Part.calm S (k0_part371 (F := F)) ∧ Part.calm S (k0_part372 (F := F)) ∧ Part.calm S (k0_part373 (F := F)) ∧
    Part.calm S (k0_part374 (F := F)) ∧ Part.calm S (k0_part375 (F := F)) ∧ Part.calm S (k0_part376 (F := F)) ∧
    Part.calm S (k0_part377 (F := F)) ∧ Part.calm S (k0_part378 (F := F)) ∧ Part.calm S (k0_part379 (F := F)) ∧
    Part.calm S (k0_part380 (F := F)) ∧ Part.calm S (k0_part381 (F := F)) ∧ Part.calm S (k0_part382 (F := F)) ∧
    Part.calm S (k0_part383 (F := F)) ∧ Part.calm S (k0_part384 (F := F)) ∧ Part.calm S (k0_part385 (F := F)) ∧
    Part.calm S (k0_part386 (F := F)) ∧ Part.calm S (k0_part387 (F := F)) ∧ Part.calm S (k0_part388 (F := F)) ∧
    Part.calm S (k0_part389 (F := F)) ∧ Part.calm S (k0_part390 (F := F)) ∧ Part.calm S (k0_part392 (F := F)) ∧
    Part.calm S (k0_part393 (F := F)) ∧ Part.calm S (k0_part394 (F := F)) ∧ Part.calm S (k0_part397 (F := F)) := by
  and_intros <;>
  · simp only [Part.calm]
    intros
    delta k0_part350 k0_part351 k0_part352 k0_part353 k0_part354 k0_part355 k0_part356 k0_part357 k0_part358 k0_part359
      k0_part360 k0_part361 k0_part362 k0_part363 k0_part364 k0_part365 k0_part366 k0_part367 k0_part368 k0_part369
      k0_part370 k0_part371 k0_part372 k0_part373 k0_part374 k0_part375 k0_part376 k0_part377 k0_part378 k0_part379
      k0_part380 k0_part381 k0_part382 k0_part383 k0_part384 k0_part385 k0_part386 k0_part387 k0_part388 k0_part389
      k0_part390 k0_part392 k0_part393 k0_part394 k0_part397
    try extract_lets
    repeat' first
      | exact Calm.pure _
      | exact Calm.lift_load
      | exact Calm.lift_store
      | (refine Calm.bind Calm.smemLoad fun _ => ?_; try extract_lets)
      | (refine Calm.bind Calm.lift_load fun _ => ?_; try extract_lets)
      | (refine Calm.bind Calm.lift_store fun _ => ?_; try extract_lets)
      | (refine Calm.bind (Calm.loop fun _ _ => ?_) fun _ => ?_ <;> try extract_lets)
      | refine Calm.ite ?_ ?_
      | (refine Calm.dite (fun _ => ?_) (fun _ => ?_) <;> try extract_lets)

end Cert.Calm.Dsa

end
-- ==== Proof.Parts.lean ====
/- The parts of the body that call others of the kind, and the body itself (`body`): calm, since what they call is. -/
module

public import proofs.«01_k».proof.Kernel
public import proofs.«01_k».proof.Proof.Parts1
public import proofs.«01_k».proof.Proof.Leaves4
public import proofs.«01_k».proof.Proof.Leaves5
public import proofs.«01_k».proof.Proof.Leaves6
public import proofs.«01_k».proof.Proof.Leaves7
public import proofs.«01_k».proof.Proof.Leaves8

@[expose] public section

set_option maxRecDepth 16384
-- a part takes nineteen memrefs and the proof of each that it is whole: the size at which the search for what
-- calmness means of such a function gives up
set_option synthInstance.maxSize 1000000000000000000
set_option synthInstance.maxHeartbeats 400000

noncomputable section

namespace Cert.Calm.Dsa

open Cert.Kernel Idealize.ShloMosaic Idealize.SL.Sem

variable {F : FTy → Type} [BitOps F] [Cert.Kernel.Facts] {S : Mems sig}

set_option maxHeartbeats 20000000 in
theorem search :
    Part.calm S (k0_part289 (F := F)) := by
  have h1 := leaves4 (F := F) (S := S)
  have h2 := leaves5 (F := F) (S := S)
  have h3 := early (F := F) (S := S)
  simp (maxSteps := 100000000) only [Part.calm] at h1 h2 h3
  simp (maxSteps := 100000000) only [Part.calm]
  intros
  delta k0_part289
  try extract_lets
  repeat' first
    | (simp only [h1, h2, h3]; done)
    | exact Calm.pure _
    | exact Calm.lift_load
    | exact Calm.lift_store
    | (refine Calm.bind Calm.smemLoad fun _ => ?_; try extract_lets)
    | (refine Calm.bind Calm.lift_load fun _ => ?_; try extract_lets)
    | (refine Calm.bind Calm.lift_store fun _ => ?_; try extract_lets)
    | (refine Calm.bind (Calm.loop fun _ _ => ?_) fun _ => ?_ <;> try extract_lets)
    | (refine Calm.bind ?_ fun _ => ?_; focus (simp only [h1, h2, h3]; done); try split; try extract_lets)
    | (refine Calm.bind (Calm.ite ?_ ?_) fun _ => ?_ <;> try extract_lets)
    | (refine Calm.bind (Calm.dite (fun _ => ?_) (fun _ => ?_)) fun _ => ?_ <;> try extract_lets)
    | (refine Calm.ite ?_ ?_ <;> try extract_lets)
    | (refine Calm.dite (fun _ => ?_) (fun _ => ?_) <;> try extract_lets)
    | (refine Calm.bind (Calm.pure _) fun _ => ?_; try extract_lets)

set_option maxHeartbeats 20000000 in
theorem sweep :
    Part.calm S (k0_part396 (F := F)) := by
  have h1 := leaves6 (F := F) (S := S)
  have h2 := late (F := F) (S := S)
  simp (maxSteps := 100000000) only [Part.calm] at h1 h2
  simp (maxSteps := 100000000) only [Part.calm]
  intros
  delta k0_part396
  try extract_lets
  repeat' first
    | (simp only [h1, h2]; done)
    | exact Calm.pure _
    | exact Calm.lift_load
    | exact Calm.lift_store
    | (refine Calm.bind Calm.smemLoad fun _ => ?_; try extract_lets)
    | (refine Calm.bind Calm.lift_load fun _ => ?_; try extract_lets)
    | (refine Calm.bind Calm.lift_store fun _ => ?_; try extract_lets)
    | (refine Calm.bind (Calm.loop fun _ _ => ?_) fun _ => ?_ <;> try extract_lets)
    | (refine Calm.bind ?_ fun _ => ?_; focus (simp only [h1, h2]; done); try split; try extract_lets)
    | (refine Calm.bind (Calm.ite ?_ ?_) fun _ => ?_ <;> try extract_lets)
    | (refine Calm.bind (Calm.dite (fun _ => ?_) (fun _ => ?_)) fun _ => ?_ <;> try extract_lets)
    | (refine Calm.ite ?_ ?_ <;> try extract_lets)
    | (refine Calm.dite (fun _ => ?_) (fun _ => ?_) <;> try extract_lets)
    | (refine Calm.bind (Calm.pure _) fun _ => ?_; try extract_lets)

set_option maxHeartbeats 20000000 in
theorem step :
    Part.calm S (k0_part398 (F := F)) := by
  have h1 := leaves6 (F := F) (S := S)
  have h2 := leaves7 (F := F) (S := S)
  have h3 := search (F := F) (S := S)
  simp (maxSteps := 100000000) only [Part.calm] at h1 h2 h3
  simp (maxSteps := 100000000) only [Part.calm]
  intros
  delta k0_part398
  try extract_lets
  repeat' first
    | (simp only [h1, h2, h3]; done)
    | exact Calm.pure _
    | exact Calm.lift_load
    | exact Calm.lift_store
    | (refine Calm.bind Calm.smemLoad fun _ => ?_; try extract_lets)
    | (refine Calm.bind Calm.lift_load fun _ => ?_; try extract_lets)
    | (refine Calm.bind Calm.lift_store fun _ => ?_; try extract_lets)
    | (refine Calm.bind (Calm.loop fun _ _ => ?_) fun _ => ?_ <;> try extract_lets)
    | (refine Calm.bind ?_ fun _ => ?_; focus (simp only [h1, h2, h3]; done); try split; try extract_lets)
    | (refine Calm.bind (Calm.ite ?_ ?_) fun _ => ?_ <;> try extract_lets)
    | (refine Calm.bind (Calm.dite (fun _ => ?_) (fun _ => ?_)) fun _ => ?_ <;> try extract_lets)
    | (refine Calm.ite ?_ ?_ <;> try extract_lets)
    | (refine Calm.dite (fun _ => ?_) (fun _ => ?_) <;> try extract_lets)
    | (refine Calm.bind (Calm.pure _) fun _ => ?_; try extract_lets)

set_option maxHeartbeats 20000000 in
theorem body :
    Part.calm S (k0_part399 (F := F)) := by
  have h1 := leaves7 (F := F) (S := S)
  have h2 := leaves8 (F := F) (S := S)
  have h3 := late (F := F) (S := S)
  have h4 := sweep (F := F) (S := S)
  have h5 := step (F := F) (S := S)
  simp (maxSteps := 100000000) only [Part.calm] at h1 h2 h3 h4 h5
  simp (maxSteps := 100000000) only [Part.calm]
  intros
  delta k0_part399
  try extract_lets
  repeat' first
    | (simp only [h1, h2, h3, h4, h5]; done)
    | exact Calm.pure _
    | exact Calm.lift_load
    | exact Calm.lift_store
    | (refine Calm.bind Calm.smemLoad fun _ => ?_; try extract_lets)
    | (refine Calm.bind Calm.lift_load fun _ => ?_; try extract_lets)
    | (refine Calm.bind Calm.lift_store fun _ => ?_; try extract_lets)
    | (refine Calm.bind (Calm.loop fun _ _ => ?_) fun _ => ?_ <;> try extract_lets)
    | (refine Calm.bind ?_ fun _ => ?_; focus (simp only [h1, h2, h3, h4, h5]; done); try split; try extract_lets)
    | (refine Calm.bind (Calm.ite ?_ ?_) fun _ => ?_ <;> try extract_lets)
    | (refine Calm.bind (Calm.dite (fun _ => ?_) (fun _ => ?_)) fun _ => ?_ <;> try extract_lets)
    | (refine Calm.ite ?_ ?_ <;> try extract_lets)
    | (refine Calm.dite (fun _ => ?_) (fun _ => ?_) <;> try extract_lets)
    | (refine Calm.bind (Calm.pure _) fun _ => ?_; try extract_lets)

end Cert.Calm.Dsa

end
-- ==== Proof.DsaFrame.lean ====
/- The frame of the attention kernel. Its body is calm (`Parts.lean`): it loads from and stores to the ten windows' staging
   buffers and its nine scratch buffers, and does nothing else. So from owning them all, at any contents, it runs to
   owning them all; the pipeline's own theorem makes of this that the whole program ends, with its arguments as they
   were and every semaphore at zero. Nothing is said of the result. -/
module

public import proofs.«01_k».proof.Proof.Parts
public import proofs.«01_k».proof.Proof.Gen.Kernel.Frame
public import proofs.«01_k».proof.Defs

@[expose] public section

set_option maxRecDepth 16384
set_option synthInstance.maxSize 1000000000000000000
set_option synthInstance.maxHeartbeats 400000

noncomputable section

namespace Cert.Calm.Dsa

open Cert.Kernel Cert.Kernel.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Pipeline

variable {F : FTy → Type} [BitOps F]

local notation "𝕄" => MT nD τ sig Unit (Elt F) ℕ (UR sig nD τ) ℕ

/-! ## Lending one of several -/

theorem lend_last {M : Type} [URA M] (P : sProp M) : P ⊢ iprop(P ∗ (P -∗ P)) := by
  iintro H
  isplitl [H]; · iexact H
  iintro H; iexact H

theorem lend_head {M : Type} [URA M] (P Q : sProp M) : iprop(P ∗ Q) ⊢ iprop(P ∗ (P -∗ P ∗ Q)) := by
  iintro ⟨H, HQ⟩
  isplitl [H]; · iexact H
  iintro H
  isplitl [H]; · iexact H
  iexact HQ

theorem lend_tail {M : Type} [URA M] {P Q X : sProp M} (h : Q ⊢ iprop(X ∗ (X -∗ Q))) :
    iprop(P ∗ Q) ⊢ iprop(X ∗ (X -∗ P ∗ Q)) := by
  iintro ⟨HP, HQ⟩
  ihave H := h $$ HQ
  icases H with ⟨HX, HQ⟩
  isplitl [HX]; · iexact HX
  iintro HX
  isplitl [HP]; · iexact HP
  iapply HQ; iexact HX

/-! ## The body -/

/-- The memrefs `I` lends. -/
def lent (c : Dev nD) (I : sProp 𝕄) : Mems sig := fun _ _ _ m =>
  I ⊢ iprop(holds (c.tc : Thread nD τ) m ∗ (holds (c.tc : Thread nD τ) m -∗ I))

variable (c : Dev nD) (i : grid0.Coords)
    (arg2 : Memref sig .tc .smem S4 .f32) (harg2 : arg2.IsWhole)
    (arg3 : Memref sig .tc .vmem S256x512 .bf16) (harg3 : arg3.IsWhole)
    (arg4 : Memref sig .tc .vmem S8x256x64 .bf16) (harg4 : arg4.IsWhole)
    (arg5 : Memref sig .tc .vmem S8x256 .f32) (harg5 : arg5.IsWhole)
    (arg6 : Memref sig .tc .vmem S4096x512 .bf16) (harg6 : arg6.IsWhole)
    (arg7 : Memref sig .tc .vmem S512x4096 .bf16) (harg7 : arg7.IsWhole)
    (arg8 : Memref sig .tc .vmem S4096x64 .bf16) (harg8 : arg8.IsWhole)
    (arg9 : Memref sig .tc .vmem S8x4096 .f32) (harg9 : arg9.IsWhole)
    (arg10 : Memref sig .tc .vmem S4x2x256x256 .f32) (harg10 : arg10.IsWhole)
    (arg11 : Memref sig .tc .vmem S256x512 .bf16) (harg11 : arg11.IsWhole)
    (arg12 : Memref sig .tc .vmem S4096x256 .f32) (harg12 : arg12.IsWhole)
    (arg13 : Memref sig .tc .vmem S32x128x256 .i32) (harg13 : arg13.IsWhole)
    (arg14 : Memref sig .tc .vmem S8x256 .i32) (harg14 : arg14.IsWhole)
    (arg15 : Memref sig .tc .vmem S4096x256 .f32) (harg15 : arg15.IsWhole)
    (arg16 : Memref sig .tc .vmem S4x256x256 .f32) (harg16 : arg16.IsWhole)
    (arg17 : Memref sig .tc .vmem S4x256x256 .f32) (harg17 : arg17.IsWhole)
    (arg18 : Memref sig .tc .vmem S4x1x256 .f32) (harg18 : arg18.IsWhole)
    (arg19 : Memref sig .tc .vmem S4x8x256 .f32) (harg19 : arg19.IsWhole)
    (arg20 : Memref sig .tc .vmem S4x128x256 .f32) (harg20 : arg20.IsWhole)

/-- What the body is given and gives back: each of its memrefs, at some contents. -/
def owned : sProp 𝕄 :=
  iprop(holds (c.tc : Thread nD τ) arg2 ∗ holds (c.tc : Thread nD τ) arg3 ∗ holds (c.tc : Thread nD τ) arg4 ∗ holds (c.tc : Thread nD τ) arg5 ∗ holds (c.tc : Thread nD τ) arg6 ∗ holds (c.tc : Thread nD τ) arg7 ∗ holds (c.tc : Thread nD τ) arg8 ∗ holds (c.tc : Thread nD τ) arg9 ∗ holds (c.tc : Thread nD τ) arg10 ∗ holds (c.tc : Thread nD τ) arg11 ∗ holds (c.tc : Thread nD τ) arg12 ∗ holds (c.tc : Thread nD τ) arg13 ∗ holds (c.tc : Thread nD τ) arg14 ∗ holds (c.tc : Thread nD τ) arg15 ∗ holds (c.tc : Thread nD τ) arg16 ∗ holds (c.tc : Thread nD τ) arg17 ∗ holds (c.tc : Thread nD τ) arg18 ∗ holds (c.tc : Thread nD τ) arg19 ∗ holds (c.tc : Thread nD τ) arg20)

set_option maxHeartbeats 2000000 in
/-- From its memrefs the body runs to its memrefs. -/
theorem body_wp (𝒱 : Variants) :
    owned (F := F) c arg2 arg3 arg4 arg5 arg6 arg7 arg8 arg9 arg10 arg11 arg12 arg13 arg14 arg15 arg16 arg17 arg18 arg19 arg20 ⊢
      wp frame (wpE (defs₀ (F := F)) 𝒱 (c.tc : Thread nD τ) none) Set.univ (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => owned (F := F) c arg2 arg3 arg4 arg5 arg6 arg7 arg8 arg9 arg10 arg11 arg12 arg13 arg14 arg15 arg16 arg17 arg18 arg19 arg20) := by
  generalize hI : owned (F := F) c arg2 arg3 arg4 arg5 arg6 arg7 arg8 arg9 arg10 arg11 arg12 arg13 arg14 arg15 arg16 arg17 arg18 arg19 arg20 = I
  have on : ∀ {sp : Space} {s : Shape} {e : EltTy} (m : Memref sig .tc sp s e),
      (owned (F := F) c arg2 arg3 arg4 arg5 arg6 arg7 arg8 arg9 arg10 arg11 arg12 arg13 arg14 arg15 arg16 arg17 arg18 arg19 arg20 ⊢ iprop(holds (c.tc : Thread nD τ) m ∗ (holds (c.tc : Thread nD τ) m -∗ owned (F := F) c arg2 arg3 arg4 arg5 arg6 arg7 arg8 arg9 arg10 arg11 arg12 arg13 arg14 arg15 arg16 arg17 arg18 arg19 arg20))) →
      On (lent (F := F) c I) m := fun m h => ⟨by rw [← hI]; exact h⟩
  unfold owned at on
  obtain ⟨oarg2, oarg3, oarg4, oarg5, oarg6, oarg7, oarg8, oarg9, oarg10, oarg11, oarg12, oarg13, oarg14, oarg15, oarg16, oarg17, oarg18, oarg19, oarg20⟩ :
      On (lent (F := F) c I) arg2 ∧ On (lent (F := F) c I) arg3 ∧ On (lent (F := F) c I) arg4 ∧
      On (lent (F := F) c I) arg5 ∧ On (lent (F := F) c I) arg6 ∧ On (lent (F := F) c I) arg7 ∧
      On (lent (F := F) c I) arg8 ∧ On (lent (F := F) c I) arg9 ∧ On (lent (F := F) c I) arg10 ∧
      On (lent (F := F) c I) arg11 ∧ On (lent (F := F) c I) arg12 ∧ On (lent (F := F) c I) arg13 ∧
      On (lent (F := F) c I) arg14 ∧ On (lent (F := F) c I) arg15 ∧ On (lent (F := F) c I) arg16 ∧
      On (lent (F := F) c I) arg17 ∧ On (lent (F := F) c I) arg18 ∧ On (lent (F := F) c I) arg19 ∧
      On (lent (F := F) c I) arg20 := by
    and_intros <;>
    · refine on _ ?_
      repeat' first
        | exact lend_last _
        | exact lend_head _ _
        | refine lend_tail ?_
  refine Calm.wp 𝒱 c (S := lent (F := F) c I) I (fun _ _ _ m h => h) ?_
  have h := body (F := F) (S := lent (F := F) c I)
  simp only [Part.calm] at h
  unfold cc0_dsa
  exact Calm.bind (h i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) fun _ => Calm.pure _

/-! ## The body at a grid point -/

theorem holds_of_owns {sp : Space} {s : Shape} {e : EltTy} (m : Memref sig .tc sp s e) (X : s.Idx → Elt F e) :
    (owns (c.tc : Thread nD τ) m fullShare X : sProp 𝕄) ⊢ holds (c.tc : Thread nD τ) m := by
  unfold owns holds
  iintro ⟨%f, -, H⟩
  iexists f; iexact H

theorem owns_of_holds {sp : Space} {s : Shape} {e : EltTy} (m : Memref sig .tc sp s e) :
    (holds (c.tc : Thread nD τ) m : sProp 𝕄) ⊢ iprop(∃ X, ⌜True⌝ ∗ owns (c.tc : Thread nD τ) m fullShare X) := by
  unfold owns holds
  iintro ⟨%f, H⟩
  iexists (m.view.read (Elt F) f)
  isplitr; · ipureintro; trivial
  iexists f
  isplitr; · ipureintro; rfl
  iexact H

/-- A scratch buffer, whole, at some contents. -/
theorem holds_whole (b : Ref sig .tc) :
    (holds (c.tc : Thread nD τ) (Memref.whole b) : sProp 𝕄) =
      iprop(∃ f : Buf (Elt F) ((c.tc : Thread nD τ).loc b), ((c.tc : Thread nD τ).loc b) ↦{fullShare} f) := by
  unfold holds
  rw [show (Memref.whole b : Memref sig .tc _ _ _).view.set = Finset.univ from View.set_whole b]

variable (m : (ℓ : Loc nD τ sig) → Buf (Elt F) ℓ) (ρ : Dev nD → PrngReg)

/-- The proof data: the arrays at entry are the arguments, and of what the body leaves nothing is said. -/
def rdat : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at a point's slots is the body called with the windows' current buffers and the scratch. -/
theorem row (t : Fin cfg0.N) : defs₀ (F := F) .tc cfg0.body (cfg0.bodyArgs t (cfg0.slots t)) = bodyAt0 t := by
  unfold defs₀; rw [Defs.onTc_tc]

/-- The memrefs the body is called with at a point, each at some contents. -/
abbrev ownedAt (t : Fin cfg0.N) : sProp 𝕄 :=
  owned (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8)

theorem enter (t : Fin cfg0.N) (Y : (w : Fin cfg0.W) → (cfg0.win w).block.Idx → Elt F (cfg0.win w).elt) (O : sProp 𝕄) :
    iprop(Pipeline.ΦA spec0 c ∗ O ∗ bigSep Finset.univ fun w => owns (c.tc : Thread nD τ) ((cfg0.win w).stage (cfg0.slots t w)) fullShare (Y w)) ⊢
      iprop(((∃ r, prngReg c r) ∗ O) ∗ ownedAt (F := F) c t) := by
  unfold ownedAt owned Pipeline.ΦA
  rw [bigSep_W0, scopedRest0_eq]
  simp only [holds_whole]
  iintro ⟨⟨⟨S0, S1, S2, S3, S4, S5, S6, S7, S8⟩, HP⟩, Ho, H0, H1, H2, H3, H4, H5, H6, H7, H8, H9⟩
  isplitl [HP Ho]
  · isplitl [HP]; · iexact HP
    iexact Ho
  isplitl [H0]; · iapply (holds_of_owns c _ (Y 0)); iexact H0
  isplitl [H1]; · iapply (holds_of_owns c _ (Y 1)); iexact H1
  isplitl [H2]; · iapply (holds_of_owns c _ (Y 2)); iexact H2
  isplitl [H3]; · iapply (holds_of_owns c _ (Y 3)); iexact H3
  isplitl [H4]; · iapply (holds_of_owns c _ (Y 4)); iexact H4
  isplitl [H5]; · iapply (holds_of_owns c _ (Y 5)); iexact H5
  isplitl [H6]; · iapply (holds_of_owns c _ (Y 6)); iexact H6
  isplitl [H7]; · iapply (holds_of_owns c _ (Y 7)); iexact H7
  isplitl [H8]; · iapply (holds_of_owns c _ (Y 8)); iexact H8
  isplitl [H9]; · iapply (holds_of_owns c _ (Y 9)); iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

theorem leave (t : Fin cfg0.N) (O : sProp 𝕄) :
    iprop(((∃ r, prngReg c r) ∗ O) ∗ ownedAt (F := F) c t) ⊢
      iprop(Pipeline.ΦA spec0 c ∗ O ∗ bigSep Finset.univ fun w => iprop(∃ X, ⌜True⌝ ∗ owns (c.tc : Thread nD τ) ((cfg0.win w).stage (cfg0.slots t w)) fullShare X)) := by
  unfold ownedAt owned Pipeline.ΦA
  rw [bigSep_W0, scopedRest0_eq]
  simp only [holds_whole]
  iintro ⟨⟨HP, Ho⟩, H0, H1, H2, H3, H4, H5, H6, H7, H8, H9, S0, S1, S2, S3, S4, S5, S6, S7, S8⟩
  isplitl [S0 S1 S2 S3 S4 S5 S6 S7 S8 HP]
  · isplitr [HP]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact HP
  isplitl [Ho]; · iexact Ho
  isplitl [H0]; · iapply (owns_of_holds c _); iexact H0
  isplitl [H1]; · iapply (owns_of_holds c _); iexact H1
  isplitl [H2]; · iapply (owns_of_holds c _); iexact H2
  isplitl [H3]; · iapply (owns_of_holds c _); iexact H3
  isplitl [H4]; · iapply (owns_of_holds c _); iexact H4
  isplitl [H5]; · iapply (owns_of_holds c _); iexact H5
  isplitl [H6]; · iapply (owns_of_holds c _); iexact H6
  isplitl [H7]; · iapply (owns_of_holds c _); iexact H7
  isplitl [H8]; · iapply (owns_of_holds c _); iexact H8
  iapply (owns_of_holds c _); iexact H9

/-- What the pipeline asks of the body, at every point. -/
theorem body_obligation : (rdat c m).BodyObligation (defs₀ (F := F)) Variants.none () Set.univ := fun t Y _ => by
  rw [row]
  refine (enter c t Y _).trans ?_
  refine BIBase.Entails.trans ?_ (wp_mono _ _ _ fun _ => leave c t _)
  refine BIBase.Entails.trans ?_ (wp_frame_l _ _ _)
  exact sep_mono .rfl (body_wp c (grid0.coords t) _ _ _ _ _ _ _ _ _ _ _ _ _ _ _ _ _ _ _ _ _ _ _ _ _ _ _ _ _ _ _ _ _ _ _ _ _ _ Variants.none)

/-! ## The run -/

set_option backward.isDefEq.respectTransparency.types false in
set_option maxHeartbeats 800000 in
theorem run_frame : θ_run defs (onTc (τ := τ) (main (F := F))) (s₀ m ρ)
    (fun r => Pipeline.RDat.FramePost cfg0 (fun c => rdat c m) (V m) r ∧ r.2.sem = fun _ => 0) :=
  Pipeline.RDat.θ_run_frame (Q' := _) cfgs (0 : Fin 1) launch0 defs₀ Variants.none (fun c => rdat c m) m ρ main
    (hbody := fun c => body_obligation c m) (hshare := fun c w => by unfold RDat.share; split <;> rfl)
    (howed := fun _ _ => rfl) (V := V m) (hmain := hmain m Variants.none) (hA := fun _ _ => rfl) (hΦ := fun _ _ => rfl)

theorem quiescent : Cert.quiescent_Kernel := fun m ρ _ =>
  (θ_run _ _ _).mono (fun r h => ⟨fun c =>
    ⟨(h.1.arr_in c 0 rfl),
      (h.1.arr_in c 1 rfl),
      (h.1.arr_in c 2 rfl),
      (h.1.arr_in c 3 rfl),
      (h.1.arr_in c 4 rfl),
      (h.1.arr_in c 5 rfl),
      (h.1.arr_in c 6 rfl),
      (h.1.arr_in c 7 rfl),
      (h.1.arr_in c 8 rfl)⟩, h.2⟩) (run_frame m ρ)

end Cert.Calm.Dsa

end
-- ==== Proof.FfnRow.lean ====
/- The output projection and the feed-forward block of one token, over the extended reals: what the kernel's body and
   the reference are both read as. -/
module

public import Idealize.ShloMosaic.PureOps.Ideal
public import Idealize.ShloMosaic.Lib.Pointwise

@[expose] public section

noncomputable section

namespace Cert.Ffn

open Idealize.ShloMosaic

/-- The RMS normalisation of a row of 1024 with its gain: `u · rsqrt(mean u² + ε) · g`, the two literals as printed. -/
def rms (u g : Fin 1024 → EReal) (j : Fin 1024) : EReal :=
  u j * Ideal.rsqrt (Ideal.div (∑ k, u k * u k) (Ideal.ofBits FTy.f32 1149239296#32) + Ideal.ofBits FTy.f32 897988541#32) * g j

/-- The mixers' outputs projected: the two halves of the concatenated row against the two halves of the weight. -/
def mix (a b : Fin 512 → EReal) (wa wb : Fin 512 → Fin 1024 → EReal) (j : Fin 1024) : EReal :=
  ∑ k, a k * wa k j + ∑ k, b k * wb k j

/-- One hidden unit's addend of the feed-forward output: `silu(h · gate) · (h · up) · down`. -/
def unit (h : Fin 1024 → EReal) (wg wu : Fin 1024 → Fin 2816 → EReal) (wd : Fin 2816 → Fin 1024 → EReal) (j : Fin 1024)
    (f : Fin 2816) : EReal :=
  ((∑ k, h k * wg k f) * Ideal.logistic (∑ k, h k * wg k f) * ∑ k, h k * wu k f) * wd f j

/-- The row after the mixers' residual. -/
def mid (x : Fin 1024 → EReal) (a b : Fin 512 → EReal) (wa wb : Fin 512 → Fin 1024 → EReal) (gm : Fin 1024 → EReal)
    (j : Fin 1024) : EReal :=
  x j + rms (mix a b wa wb) gm j

/-- The feed-forward output of a row, all 2816 hidden units. -/
def ffn (u gf : Fin 1024 → EReal) (wg wu : Fin 1024 → Fin 2816 → EReal) (wd : Fin 2816 → Fin 1024 → EReal)
    (j : Fin 1024) : EReal :=
  ∑ f, unit (rms u gf) wg wu wd j f

/-- The layer's result of a row. -/
def row (x : Fin 1024 → EReal) (a b : Fin 512 → EReal) (wa wb : Fin 512 → Fin 1024 → EReal) (gm gf : Fin 1024 → EReal)
    (wg wu : Fin 1024 → Fin 2816 → EReal) (wd : Fin 2816 → Fin 1024 → EReal) (go : Fin 1024 → EReal) (j : Fin 1024) : EReal :=
  mid x a b wa wb gm j + rms (ffn (mid x a b wa wb gm) gf wg wu wd) go j

/-- The layer's result of token `q` (batch element `q / 4096` at place `q % 4096`) from the whole arrays: the token's row of
    the residual and of the mixers' outputs, the projection's upper and lower halves, gains and weights of the one layer. -/
def ofArrays (x0 : (⟨3, ![8, 4096, 1024]⟩ : Shape).Idx → EReal) (x1 x2 : (⟨3, ![8, 4096, 512]⟩ : Shape).Idx → EReal)
    (x3 : (⟨3, ![1, 1024, 1024]⟩ : Shape).Idx → EReal) (x4 x5 : (⟨2, ![1, 1024]⟩ : Shape).Idx → EReal)
    (x6 x7 : (⟨3, ![1, 1024, 2816]⟩ : Shape).Idx → EReal) (x8 : (⟨3, ![1, 2816, 1024]⟩ : Shape).Idx → EReal)
    (x9 : (⟨2, ![1, 1024]⟩ : Shape).Idx → EReal) (q : Fin 32768) (j : Fin 1024) : EReal :=
  row (fun k => x0 (ix3 ⟨q / 4096, by omega⟩ ⟨q % 4096, by omega⟩ k)) (fun k => x1 (ix3 ⟨q / 4096, by omega⟩ ⟨q % 4096, by omega⟩ k))
    (fun k => x2 (ix3 ⟨q / 4096, by omega⟩ ⟨q % 4096, by omega⟩ k)) (fun k j => x3 (ix3 0 ⟨k, by omega⟩ j))
    (fun k j => x3 (ix3 0 ⟨512 + k, by omega⟩ j)) (fun j => x4 (ix2 0 j)) (fun j => x5 (ix2 0 j)) (fun k f => x6 (ix3 0 k f))
    (fun k f => x7 (ix3 0 k f)) (fun f j => x8 (ix3 0 f j)) (fun j => x9 (ix2 0 j)) j

/-- A sum over the 2816 hidden units, 256 at a time from the left. -/
theorem sum_chunks (t : Fin 2816 → EReal) :
    ∑ f, t f = (∑ x : Fin 256, t ⟨↑x, by omega⟩) + (∑ x : Fin 256, t ⟨256 + ↑x, by omega⟩) + (∑ x : Fin 256, t ⟨512 + ↑x, by omega⟩)
      + (∑ x : Fin 256, t ⟨768 + ↑x, by omega⟩) + (∑ x : Fin 256, t ⟨1024 + ↑x, by omega⟩) + (∑ x : Fin 256, t ⟨1280 + ↑x, by omega⟩)
      + (∑ x : Fin 256, t ⟨1536 + ↑x, by omega⟩) + (∑ x : Fin 256, t ⟨1792 + ↑x, by omega⟩) + (∑ x : Fin 256, t ⟨2048 + ↑x, by omega⟩)
      + (∑ x : Fin 256, t ⟨2304 + ↑x, by omega⟩) + (∑ x : Fin 256, t ⟨2560 + ↑x, by omega⟩) := by
  have h : ∑ f, t f = ∑ c : Fin 11, ∑ x : Fin 256, t ⟨256 * c.val + x.val, by omega⟩ := by
    rw [← Fintype.sum_prod_type' (fun (c : Fin 11) (x : Fin 256) => t ⟨256 * c.val + x.val, by omega⟩),
      ← (finProdFinEquiv (m := 11) (n := 256)).sum_comp]
    refine Finset.sum_congr rfl fun cx _ => congrArg t (Fin.ext ?_)
    simp [finProdFinEquiv, Nat.add_comm]
  have e (g : Fin 11 → EReal) : ∑ c, g c = g 0 + g 1 + g 2 + g 3 + g 4 + g 5 + g 6 + g 7 + g 8 + g 9 + g 10 := by
    simp only [Fin.sum_univ_castSucc, Fin.sum_univ_zero, zero_add]; rfl
  have z : ∑ x : Fin 256, t ⟨↑x, by omega⟩ = ∑ x : Fin 256, t ⟨256 * (0 : Fin 11).val + x.val, by have := x.isLt; omega⟩ :=
    Finset.sum_congr rfl fun x _ => congrArg t (Fin.ext (by simp))
  rw [h, e, z]
  rfl

end Cert.Ffn

end
-- ==== Proof.FfnBody.lean ====
/- What the body of the output projection and feed-forward kernel leaves in its result block, at the ideal instance: row
   by row, the function `Cert.Ffn.row` of the blocks it reads. -/
module

public import proofs.«01_k».proof.Proof.FfnRow
public import proofs.«01_k».proof.Proof.Gen.Kernel2Ideal.Value
public import Idealize.ShloMosaic.Lib.Pipeline.ValueKit
public import Idealize.ShloMosaic.Lib.Pointwise

@[expose] public section

set_option maxRecDepth 16384

noncomputable section
namespace Cert.Ffn
open Cert.Kernel2Ideal Cert.Kernel2Ideal.Gen Idealize.ShloMosaic Idealize.ShloMosaic.TcCoe

variable (x0 : Vec Ideal S512x1024 .f32) (x1 x2 : Vec Ideal S512x512 .bf16) (x3 x4 : Vec Ideal S512x1024 .bf16)
  (x5 x6 : Vec Ideal S1x1024 .f32) (x7 x8 : Vec Ideal S1024x2816 .bf16) (x9 : Vec Ideal S2816x1024 .bf16) (x10 : Vec Ideal S1x1024 .f32)
  (p : Fin 512) (j : Fin 1024)

/-- A block's row `p` after the mixers' residual. -/
abbrev midRow (j : Fin 1024) : EReal :=
  mid (fun k => x0 (ix2 p k)) (fun k => x1 (ix2 p k)) (fun k => x2 (ix2 p k)) (fun k j => x3 (ix2 k j))
    (fun k j => x4 (ix2 k j)) (fun j => x5 (ix2 0 j)) j

/-- The normalised row that the gate and up products take. -/
abbrev hidRow : Fin 1024 → EReal := rms (midRow x0 x1 x2 x3 x4 x5 p) (fun j => x6 (ix2 0 j))

/-- The block after the mixers' residual. -/
theorem pay15_apply : k0_pay15 (F := Ideal) x0 x1 x2 x3 x4 x5 x6 x7 x8 x9 x10 (ix2 p j) = midRow x0 x1 x2 x3 x4 x5 p j := by
  pointwise [k0_pay15, k0_pay2]; rfl

/-- The block that the gate and up products take. -/
theorem pay18_apply : k0_pay18 (F := Ideal) x0 x1 x2 x3 x4 x5 x6 x7 x8 x9 x10 (ix2 p j) = hidRow x0 x1 x2 x3 x4 x5 x6 p j := by
  pointwise [k0_pay18, k0_pay17, k0_pay16, k0_pay3, k0_pay4, k0_pay5, k0_pay15, k0_pay2]; rfl

set_option maxHeartbeats 2000000 in
/-- The result block's row `p` is `Cert.Ffn.row` of the rows `p` of the token blocks: the accumulator's eleven chunks of
    256 hidden units are the sum over all 2816. -/
theorem out_apply : out0_11 (F := Ideal) x0 x1 x2 x3 x4 x5 x6 x7 x8 x9 x10 (ix2 p j)
    = row (fun k => x0 (ix2 p k)) (fun k => x1 (ix2 p k)) (fun k => x2 (ix2 p k)) (fun k j => x3 (ix2 k j))
    (fun k j => x4 (ix2 k j)) (fun j => x5 (ix2 0 j)) (fun j => x6 (ix2 0 j)) (fun k j => x7 (ix2 k j))  (fun k j => x8 (ix2 k j))
     (fun k j => x9 (ix2 k j)) (fun j => x10 (ix2 0 j)) j := by
  frame_out
  have hU := pay15_apply x0 x1 x2 x3 x4 x5 x6 x7 x8 x9 x10 p
  have hH := pay18_apply x0 x1 x2 x3 x4 x5 x6 x7 x8 x9 x10 p
  have h5 : k0_pay5 (k0_pay15 (F := Ideal) x0 x1 x2 x3 x4 x5 x6 x7 x8 x9 x10) (k0_pay16 (F := Ideal) x0 x1 x2 x3 x4 x5 x6 x7 x8 x9 x10)
      (k0_pay17 (F := Ideal) x0 x1 x2 x3 x4 x5 x6 x7 x8 x9 x10) = k0_pay18 (F := Ideal) x0 x1 x2 x3 x4 x5 x6 x7 x8 x9 x10 := rfl
  unfold k0_pay6 k0_pay7
  rw [h5]
  clear h5
  generalize k0_pay15 (F := Ideal) x0 x1 x2 x3 x4 x5 x6 x7 x8 x9 x10 = U at hU ⊢
  generalize k0_pay18 (F := Ideal) x0 x1 x2 x3 x4 x5 x6 x7 x8 x9 x10 = H at hH ⊢
  unfold k0_pay1
  pointwise [k0_pay14, k0_pay13, k0_pay12, k0_pay11, k0_pay10, k0_pay9, k0_pay8]
  simp only [hH, hU]
  rw [row, rms]
  simp only [ffn, sum_chunks]
  rfl

end Cert.Ffn

end
-- ==== Proof.FfnKernel.lean ====
/- The output projection and feed-forward kernel's result array, at the ideal instance: every token's row is
   `Cert.Ffn.row` of that token's rows of the arguments. -/
module

public import proofs.«01_k».proof.Proof.FfnBody
public import Idealize.ShloMosaic.Lib.Claim

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD) (t : Fin cfg0.N)

/-- Where the windows' blocks lie: the token windows move with the point, the weights' stay. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] := by decide +kernel

/-! ## The blocks, read off the arguments -/

theorem blk0 (p : Fin 512) (k : Fin 1024) (ht : t.val < 64) : iblk m c 0 t (ix2 p k)
    = m ((c : Thread nD τ).loc main_arg0) (ix3 ⟨(512 * t.val + p) / 4096, by omega⟩ ⟨(512 * t.val + p) % 4096, by omega⟩ k) := by
  blk_ext! [iblk, V, idx t]

theorem blk1 (p : Fin 512) (k : Fin 512) (ht : t.val < 64) : iblk m c 1 t (ix2 p k)
    = m ((c : Thread nD τ).loc main_arg1) (ix3 ⟨(512 * t.val + p) / 4096, by omega⟩ ⟨(512 * t.val + p) % 4096, by omega⟩ k) := by
  blk_ext! [iblk, V, idx t]

theorem blk2 (p : Fin 512) (k : Fin 512) (ht : t.val < 64) : iblk m c 2 t (ix2 p k)
    = m ((c : Thread nD τ).loc main_arg2) (ix3 ⟨(512 * t.val + p) / 4096, by omega⟩ ⟨(512 * t.val + p) % 4096, by omega⟩ k) := by
  blk_ext! [iblk, V, idx t]

theorem blk3 (k : Fin 512) (j : Fin 1024) : iblk m c 3 t (ix2 k j)
    = m ((c : Thread nD τ).loc main_arg3) (ix3 0 ⟨k, by omega⟩ j) := by
  blk_ext! [iblk, V, idx t]

theorem blk4 (k : Fin 512) (j : Fin 1024) : iblk m c 4 t (ix2 k j)
    = m ((c : Thread nD τ).loc main_arg3) (ix3 0 ⟨512 + k, by omega⟩ j) := by
  blk_ext! [iblk, V, idx t]

theorem blk5 (k : Fin 1024) : iblk m c 5 t (ix2 0 k) = m ((c : Thread nD τ).loc main_arg4) (ix2 0 k) := by
  blk_ext! [iblk, V, idx t]

theorem blk6 (k : Fin 1024) : iblk m c 6 t (ix2 0 k) = m ((c : Thread nD τ).loc main_arg5) (ix2 0 k) := by
  blk_ext! [iblk, V, idx t]

theorem blk10 (k : Fin 1024) : iblk m c 10 t (ix2 0 k) = m ((c : Thread nD τ).loc main_arg9) (ix2 0 k) := by
  blk_ext! [iblk, V, idx t]

theorem blk7 (k : Fin 1024) (f : Fin 2816) : iblk m c 7 t (ix2 k f) = m ((c : Thread nD τ).loc main_arg6) (ix3 0 k f) := by
  blk_ext! [iblk, V, idx t]

theorem blk8 (k : Fin 1024) (f : Fin 2816) : iblk m c 8 t (ix2 k f) = m ((c : Thread nD τ).loc main_arg7) (ix3 0 k f) := by
  blk_ext! [iblk, V, idx t]

theorem blk9 (k : Fin 2816) (f : Fin 1024) : iblk m c 9 t (ix2 k f) = m ((c : Thread nD τ).loc main_arg8) (ix3 0 k f) := by
  blk_ext! [iblk, V, idx t]

/-- The result array after the run. -/
def result : (c : Dev nD) → Buf (Elt Ideal) ((c : Thread nD τ).loc main_v21) := fun c i =>
  ofArrays (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (i 0) (i 1)

theorem final : (dats m 0 c).arrAt 11 cfg0.N = result m c := by
  refine (dats m 0 c).arrAt_eq_of_covers 11 _ (by decide +kernel) fun t hf y => ?_
  unfold result
  blk_simp
  rw [after0_11]
  idx_vars y
  have ht : t.val < 64 := t.isLt.trans_eq N_0
  have e0 : ((View.whole main_v21).slice (win0_11.rect t)).emb (ix2 y0 y1) 0 = (⟨512 * t.val + y0, by omega⟩ : Fin 32768) := by
    apply Fin.ext
    show _ = 512 * t.val + y0.val
    blk_simp [idx t]
    omega
  have e1 : ((View.whole main_v21).slice (win0_11.rect t)).emb (ix2 y0 y1) 1 = y1 := by
    apply Fin.ext
    blk_simp [idx t]
  rw [e0, e1, out_apply]
  simp only [blk0 m c t _ _ ht, blk1 m c t _ _ ht, blk2 m c t _ _ ht, blk3, blk4, blk5, blk6, blk7, blk8, blk9, blk10]
  rfl

end Cert.Ffn

end
-- ==== Proof.FfnRef.lean ====
/- The reference's result of the output projection and the feed-forward, at the ideal instance: every token's row is
   `Cert.Ffn.row` of that token's rows of the arguments. -/
module

public import proofs.«01_k».proof.Proof.FfnRow
public import proofs.«01_k».proof.Proof.Gen.Reference2Ideal.Run
public import Idealize.ShloMosaic.Lib.Pipeline.ValueKit
public import Idealize.ShloMosaic.Lib.Pointwise
public import Idealize.ShloMosaic.Lib.Tactic.CleanTypes

@[expose] public section

set_option maxRecDepth 16384

noncomputable section
namespace Cert.Ffn
open Cert.Reference2Ideal Idealize.ShloMosaic Idealize.ShloMosaic.TcCoe

/-- The reference's result of token `q`, batch element `q / 4096` at place `q % 4096`. -/
theorem ref_apply (m : (ℓ : Loc nD τ sig) → Buf (Elt Ideal) ℓ) (c : Dev nD) (q : Fin 32768) (j : Fin 1024) :
    Value.res_out0 (F := Ideal) m c (ix2 q j) = ofArrays (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) q j := by
  unfold Value.res_out0 Value.res_main_v55
  clean_types
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  generalize m ((c.tc : Thread nD τ).loc main_arg6) = x6
  generalize m ((c.tc : Thread nD τ).loc main_arg7) = x7
  generalize m ((c.tc : Thread nD τ).loc main_arg8) = x8
  generalize m ((c.tc : Thread nD τ).loc main_arg9) = x9
  pointwise
  rfl

end Cert.Ffn

end
-- ==== Proof.FfnClaim.lean ====
/- The claims about the output projection and the feed-forward, from the values the kernel (`FfnKernel.lean`) and the
   reference (`FfnRef.lean`) leave. -/
module

public import proofs.«01_k».proof.Defs
public import proofs.«01_k».proof.Proof.FfnKernel
public import proofs.«01_k».proof.Proof.FfnRef
public import proofs.«01_k».proof.Proof.Gen.Kernel2.Frame
public import Idealize.ShloMosaic.Lib.Quiescent

@[expose] public section

noncomputable section

namespace Cert.Ffn

open Idealize.ShloMosaic Idealize.ShloMosaic.TcCoe Idealize.SL.Sem

theorem quiescent : Cert.quiescent_Kernel2 := fun m ρ _ => Cert.Kernel2.Gen.frame m ρ

theorem quiescent_ideal : Cert.quiescent_Kernel2Ideal := fun m ρ _ => Cert.Kernel2Ideal.Gen.frame m ρ

theorem quiescent_ref : Cert.quiescent_Reference2Ideal := fun m ρ _ =>
  (θ_run _ _ _).mono (fun _ h => ⟨fun c => (h c).2, sem_eq_zero_of_no_sems (by decide) _⟩)
    (Cert.Reference2Ideal.Value.run m ρ)

/-- Both programs end with the layer's result of each token: the same function of the same arguments. -/
theorem algebraic : Cert.algebraic_Kernel2Ideal_Reference2Ideal := by
  intro m g m' g' _ hm
  refine ⟨result m, (θ_run _ _ _).mono (fun _ h c => ?_) (Cert.Kernel2Ideal.Value.run_blocks m g),
    (θ_run _ _ _).mono (fun _ h c => ?_) (Cert.Reference2Ideal.Value.run m' g')⟩
  · exact ⟨(h c).1.trans (by rw [final]), (h c).2⟩
  · refine ⟨(h c).1.trans (funext fun i => ?_), (h c).2⟩
    obtain ⟨e0, e1, e2, e3, e4, e5, e6, e7, e8, e9⟩ := hm c
    have hi : i = ix2 (i 0) (i 1) := eq_ix2 i
    have := ref_apply m' c (i 0) (i 1)
    rw [e0, e1, e2, e3, e4, e5, e6, e7, e8, e9] at this
    rw [hi]
    exact this

end Cert.Ffn

end
-- ==== Proof.ProjRow.lean ====
/- The input projections and the spatial gating of one token, over the extended reals: what the kernel's body and the
   reference are both read as. -/
module

public import proofs.«01_k».proof.Proof.FfnRow

@[expose] public section

noncomputable section

namespace Cert.Proj

open Idealize.ShloMosaic

/-- One column of the projection of a normalised row. -/
def dot (h w : Fin 1024 → EReal) : EReal := ∑ k, h k * w k

/-- The layer normalisation of a row of 512 with its gain and offset, the two literals as printed. -/
def norm (v g b : Fin 512 → EReal) (j : Fin 512) : EReal :=
  (v j - Ideal.div (∑ k, v k) (Ideal.ofBits FTy.f32 1140850688#32))
    * Ideal.rsqrt (Ideal.div (∑ k, (v k - Ideal.div (∑ k, v k) (Ideal.ofBits FTy.f32 1140850688#32))
        * (v k - Ideal.div (∑ k, v k) (Ideal.ofBits FTy.f32 1140850688#32))) (Ideal.ofBits FTy.f32 1140850688#32)
      + Ideal.ofBits FTy.f32 897988541#32) * g j + b j

/-- The spatial gate at place `i` of a block of 128 tokens: `u` times the mix of the normalised values `vn` of the block's
    tokens, those of a later chunk of 64 left out. -/
def gate (u : EReal) (w vn : Fin 128 → EReal) (b : EReal) (i : Fin 128) : EReal :=
  u * (∑ j : Fin 128, (if j.val / 64 ≤ i.val / 64 then vn j * w j else 0) + b)

/-! ## From the whole arrays -/

variable (x0 : (⟨3, ![8, 4096, 1024]⟩ : Shape).Idx → EReal) (x1 : (⟨2, ![1, 1024]⟩ : Shape).Idx → EReal)
  (x2 : (⟨3, ![1, 1024, 3144]⟩ : Shape).Idx → EReal) (x3 x4 : (⟨2, ![1, 512]⟩ : Shape).Idx → EReal)
  (x5 : (⟨4, ![1, 4, 128, 128]⟩ : Shape).Idx → EReal) (x6 : (⟨3, ![1, 4, 128]⟩ : Shape).Idx → EReal)

/-- The normalised row of the token at place `s` of batch element `b`. -/
def hid (b : Fin 8) (s : Fin 4096) : Fin 1024 → EReal :=
  Cert.Ffn.rms (fun k => x0 (ix3 b s k)) (fun k => x1 (ix2 0 k))

/-- Column `j` of that token's projection. -/
def projAt (b : Fin 8) (s : Fin 4096) (j : Fin 3144) : EReal := dot (hid x0 x1 b s) (fun k => x2 (ix3 0 k j))

/-- Column `j` of token `q`'s projection: place `q % 4096` of batch element `q / 4096`. -/
def proj (q : Fin 32768) (j : Fin 3144) : EReal := projAt x0 x1 x2 ⟨q / 4096, by omega⟩ ⟨q % 4096, by omega⟩ j

/-- The queries, scaled by the head dimension's root and by log₂ e. -/
def query (q : Fin 32768) (j : Fin 512) : EReal := proj x0 x1 x2 q ⟨1024 + j, by omega⟩ * Ideal.ofBits FTy.f32 1040356334#32

/-- The keys. -/
def key (q : Fin 32768) (j : Fin 512) : EReal := proj x0 x1 x2 q ⟨1536 + j, by omega⟩

/-- The values. -/
def val (q : Fin 32768) (j : Fin 512) : EReal := proj x0 x1 x2 q ⟨2048 + j, by omega⟩

/-- The indexer's queries, head `a`, scaled. -/
def iquery (a : Fin 8) (q : Fin 32768) (d : Fin 64) : EReal :=
  proj x0 x1 x2 q ⟨2560 + (a.val * 64 + d.val), by omega⟩ * Ideal.ofBits FTy.f32 1040187392#32

/-- The indexer's keys. -/
def ikey (q : Fin 32768) (d : Fin 64) : EReal := proj x0 x1 x2 q ⟨3072 + d, by omega⟩

/-- The indexer's head weights, scaled. -/
def iweight (q : Fin 32768) (a : Fin 8) : EReal := proj x0 x1 x2 q ⟨3136 + a, by omega⟩ * Ideal.ofBits FTy.f32 1052050675#32

/-- The sum of squares of a head's key; the rows from 4 on are the padding. -/
def keysq (a : Fin 8) (q : Fin 32768) : EReal :=
  if h : a.val < 4 then ∑ d : Fin 128, key x0 x1 x2 q ⟨a.val * 128 + d.val, by omega⟩ * key x0 x1 x2 q ⟨a.val * 128 + d.val, by omega⟩
  else 0

/-- Mixer A's result at place `s` of batch element `b`, place `s % 128` of its block, in column `j` of group `j / 128`. -/
def mixedAt (b : Fin 8) (s : Fin 4096) (j : Fin 512) : EReal :=
  gate (projAt x0 x1 x2 b s ⟨j, by omega⟩) (fun k => x5 (ix4 0 ⟨j / 128, by omega⟩ ⟨s % 128, by omega⟩ k))
    (fun k => norm (fun l => projAt x0 x1 x2 b ⟨s / 128 * 128 + k, by omega⟩ ⟨512 + l, by omega⟩) (fun l => x3 (ix2 0 l))
      (fun l => x4 (ix2 0 l)) j)
    (x6 (ix3 0 ⟨j / 128, by omega⟩ ⟨s % 128, by omega⟩)) ⟨s % 128, by omega⟩

/-- Mixer A's result of token `q`. -/
def mixed (q : Fin 32768) (j : Fin 512) : EReal :=
  mixedAt x0 x1 x2 x3 x4 x5 x6 ⟨q / 4096, by omega⟩ ⟨q % 4096, by omega⟩ j

end Cert.Proj

end
-- ==== Proof.ProjBody.lean ====
/- The blocks the input projections kernel's body stores, at the ideal instance, as the functions of `ProjRow.lean`: all but the
   spatial gating's (`ProjGate.lean`). -/
module

public import proofs.«01_k».proof.Proof.ProjRow
public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section
namespace Cert.Proj
open Cert.Kernel3Ideal Cert.Kernel3Ideal.Gen Idealize.ShloMosaic Idealize.ShloMosaic.TcCoe

variable (x0 : Vec Ideal S512x1024 .f32) (x1 : Vec Ideal S1x1024 .f32) (x2 : Vec Ideal S1024x3072 .bf16)
  (x3 : Vec Ideal S1024x128 .bf16) (x4 x5 : Vec Ideal S1x512 .f32) (x6 : Vec Ideal S4x128x128 .f32) (x7 : Vec Ideal S128x4 .f32)
  (p : Fin 512)

/-- The normalised row `p` of a block of tokens. -/
abbrev hidRow : Fin 1024 → EReal := Cert.Ffn.rms (fun k => x0 (ix2 p k)) (fun j => x1 (ix2 0 j))

/-- Column `j` of its projection by the wide weight. -/
abbrev wide (j : Fin 3072) : EReal := dot (hidRow x0 x1 p) (fun k => x2 (ix2 k j))

/-- Column `j` of its projection by the narrow weight. -/
abbrev narrow (j : Fin 128) : EReal := dot (hidRow x0 x1 p) (fun k => x3 (ix2 k j))

theorem query_apply (j : Fin 512) : out0_9 (F := Ideal) x0 x1 x2 x3 x4 x5 x6 x7 (ix2 p j)
    = wide x0 x1 x2 p ⟨1024 + j, by omega⟩ * Ideal.ofBits FTy.f32 1040356334#32 := by
  frame_out
  pointwise [k0_pay4, k0_pay1]
  rfl

theorem key_apply (j : Fin 512) : out0_10 (F := Ideal) x0 x1 x2 x3 x4 x5 x6 x7 (ix2 p j) = wide x0 x1 x2 p ⟨1536 + j, by omega⟩ := by
  frame_out
  pointwise [k0_pay50, k0_pay5, k0_pay1]
  rfl

theorem val_apply (j : Fin 512) : out0_11 (F := Ideal) x0 x1 x2 x3 x4 x5 x6 x7 (ix2 j p) = wide x0 x1 x2 p ⟨2048 + j, by omega⟩ := by
  frame_out
  pointwise [k0_pay48, k0_pay7, k0_pay1]
  rfl

theorem ikey_apply (d : Fin 64) : out0_13 (F := Ideal) x0 x1 x2 x3 x4 x5 x6 x7 (ix2 p d) = narrow x0 x1 x3 p ⟨d, by omega⟩ := by
  frame_out
  pointwise [k0_pay48, k0_pay18, k0_pay17, k0_pay1]
  rfl

theorem iweight_apply (a : Fin 8) : out0_14 (F := Ideal) x0 x1 x2 x3 x4 x5 x6 x7 (ix2 a p)
    = narrow x0 x1 x3 p ⟨64 + a, by omega⟩ * Ideal.ofBits FTy.f32 1052050675#32 := by
  frame_out
  pointwise [k0_pay48, k0_pay19, k0_pay17, k0_pay1]
  rfl

theorem keysq_apply (a : Fin 8) : out0_15 (F := Ideal) x0 x1 x2 x3 x4 x5 x6 x7 (ix2 a p)
    = if h : a.val < 4 then ∑ d : Fin 128, wide x0 x1 x2 p ⟨1536 + (a.val * 128 + d.val), by omega⟩
        * wide x0 x1 x2 p ⟨1536 + (a.val * 128 + d.val), by omega⟩ else 0 := by
  have hK (j : Fin 512) : k0_pay50 (F := Ideal) x0 x1 x2 x3 x4 x5 x6 x7 (ix2 p j) = wide x0 x1 x2 p ⟨1536 + j, by omega⟩ := by
    pointwise [k0_pay50, k0_pay5, k0_pay1]
    rfl
  frame_out
  generalize k0_pay50 (F := Ideal) x0 x1 x2 x3 x4 x5 x6 x7 = K at hK ⊢
  pointwise [k0_pay6]
  simp only [hK]
  fin_cases a <;> simp

/-- The first head's slice. -/
abbrev k0_pay9' (v67 : FVec Ideal S512x512 .bf16) : FVec Ideal S1x512x64 .bf16 :=
  shapeCast S1x512x64 (extractStridedSlice S512x64 ![0, 0] v67 slices_S512x512_o0_0_S512x64) shapeCasts_S512x64_S1x512x64

/-- The eight heads of 64 columns each, one after the other. -/
def heads (Q : Vec Ideal S512x512 .bf16) : Vec Ideal S8x512x64 .bf16 := fun y =>
  Q (ix2 (y 1) ⟨(y 0).val * 64 + (y 2).val, by
    have h0 : (y 0).val < 8 := (y 0).isLt
    have h2 : (y 2).val < 64 := (y 2).isLt
    omega⟩)

theorem heads_of (Q : Vec Ideal S512x512 .bf16) (y : S8x512x64.Idx) (p : Fin 512) (j : Fin 512) (h1 : (y 1).val = p.val)
    (h : (y 0).val * 64 + (y 2).val = j.val) : Q (ix2 p j) = heads Q y :=
  congrArg₂ (fun a b => Q (ix2 a b)) (Fin.ext h1.symm) (Fin.ext h.symm)

theorem iquery_apply (a : Fin 8) (d : Fin 64) : out0_12 (F := Ideal) x0 x1 x2 x3 x4 x5 x6 x7 (ix3 a p d)
    = wide x0 x1 x2 p ⟨2560 + (a.val * 64 + d.val), by omega⟩ * Ideal.ofBits FTy.f32 1040187392#32 := by
  have hQ (j : Fin 512) : k0_pay51 (F := Ideal) x0 x1 x2 x3 x4 x5 x6 x7 (ix2 p j)
      = wide x0 x1 x2 p ⟨2560 + j, by omega⟩ * Ideal.ofBits FTy.f32 1040187392#32 := by
    pointwise [k0_pay51, k0_pay48, k0_pay8, k0_pay1]
    rfl
  frame_out
  refine (View.canon_apply_of_pieces (heads (k0_pay51 (F := Ideal) x0 x1 x2 x3 x4 x5 x6 x7)) _ (View.PiecesOf.mem ?_) _
    (cover0_12 _ _ _ _ _ _ _ _ _)).trans (hQ ⟨a.val * 64 + d.val, by omega⟩)
  have h9 : k0_pay9 (k0_pay48 (F := Ideal) x0 x1 x2 x3 x4 x5 x6 x7) (View.ld x2 r0_9) = k0_pay9' (k0_pay51 (F := Ideal) x0 x1 x2 x3 x4 x5 x6 x7) := rfl
  rw [h9]
  generalize k0_pay51 (F := Ideal) x0 x1 x2 x3 x4 x5 x6 x7 = Q
  simp only [View.PiecesOf, and_true]
  and_intros
  all_goals
    intro y
    idx_vars y
    pointwise [k0_pay16, k0_pay15, k0_pay14, k0_pay13, k0_pay12, k0_pay11, k0_pay10, k0_pay9']
    refine heads_of Q _ _ _ ?_ ?_
    · show 0 + 1 * y1.val = y1.val
      omega
    · show (_ + 1 * y0.val) * 64 + (0 + 1 * y2.val) = _
      have := y0.isLt
      simp
      try omega

end Cert.Proj

end
-- ==== Proof.ProjGate.lean ====
/- The block of the spatial gating that the input projections kernel's body stores, at the ideal instance. -/
module

public import proofs.«01_k».proof.Proof.ProjBody
public import Idealize.ShloMosaic.Lib.Pipeline.ValueKit
public import Idealize.ShloMosaic.Lib.Pipeline.ReadBack
public import Idealize.ShloMosaic.Lib.Pointwise

@[expose] public section

set_option maxRecDepth 16384

noncomputable section
namespace Cert.Proj
open Cert.Kernel3Ideal Cert.Kernel3Ideal.Gen Idealize.ShloMosaic Idealize.ShloMosaic.TcCoe

variable (x0 : Vec Ideal S512x1024 .f32) (x1 : Vec Ideal S1x1024 .f32) (x2 : Vec Ideal S1024x3072 .bf16)
  (x3 : Vec Ideal S1024x128 .bf16) (x4 x5 : Vec Ideal S1x512 .f32) (x6 : Vec Ideal S4x128x128 .f32) (x7 : Vec Ideal S128x4 .f32)
  (p : Fin 512)

/-- The kernel's chunk of 64 of a place below 128: integer division rounding down, with the signs taken by comparisons. -/
def vchunk (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32)) : BitVec 32))
      (IntOp.cmpi .ne (IntOp.remsi .vector x 64#32) 0#32))
    (IntOp.subi (IntOp.divsi .vector x 64#32) 1#32) (IntOp.divsi .vector x 64#32)

/-- It is the place divided by 64. -/
theorem vchunk_eq : ∀ i : Fin 128, vchunk (BitVec.ofNat 32 i) = BitVec.ofNat 32 (i / 64) := by decide +kernel

theorem vsle_eq : ∀ j i : Fin 2, IntOp.cmpi .sle (BitVec.ofNat 32 j) (BitVec.ofNat 32 i) = if j.val ≤ i.val then 1#1 else 0#1 := by
  decide +kernel

/-- The mask: the chunk of `k` is not after the chunk of `r`. -/
theorem vmask (r k : Fin 128) : k0_pay53 (F := Ideal) x0 x1 x2 x3 x4 x5 x6 x7 (ix2 r k) = if k.val / 64 ≤ r.val / 64 then 1#1 else 0#1 := by
  pointwise [k0_pay53, k0_pay23, k0_pay22, k0_pay21]
  show IntOp.cmpi .sle (vchunk (BitVec.ofNat 32 k)) (vchunk (BitVec.ofNat 32 r)) = _
  rw [vchunk_eq, vchunk_eq]
  exact vsle_eq ⟨k / 64, by omega⟩ ⟨r / 64, by omega⟩

/-- The gated block, from the projected values `U` and the normalised values `V`. -/
def gated (U V : Vec Ideal S512x512 .f32) (p j : Fin 512) : EReal :=
  gate (U (ix2 p j)) (fun k => x6 (ix3 ⟨j / 128, by omega⟩ ⟨p % 128, by omega⟩ k))
    (fun k => V (ix2 ⟨p / 128 * 128 + k, by omega⟩ j)) (x7 (ix2 ⟨p % 128, by omega⟩ ⟨j / 128, by omega⟩)) ⟨p % 128, by omega⟩

/-- What a stored tile has at row `r` and group `g`, its rows being those from `o` on, is the gated block there. -/
theorem gated_at (U V : Vec Ideal S512x512 .f32) (p j p' j' : Fin 512) (o : Fin 128 → Fin 512) (r : Fin 128) (g : Fin 4)
    (hp : p'.val = p.val) (hj : j'.val = j.val) (hr : p.val % 128 = r.val) (hg : j.val / 128 = g.val)
    (ho : ∀ k, p.val / 128 * 128 + k.val = (o k).val) :
    U (ix2 p j) * (∑ k : Fin 128, Scalar.select (if k.val / 64 ≤ r.val / 64 then 1#1 else 0#1) (x6 (ix3 g r k) * V (ix2 (o k) j)) 0
      + x7 (ix2 r g)) = gated x6 x7 U V p' j' := by
  obtain rfl := Fin.ext hp
  obtain rfl := Fin.ext hj
  have er : (⟨p' % 128, by omega⟩ : Fin 128) = r := Fin.ext hr
  have eg : (⟨j' / 128, by omega⟩ : Fin 4) = g := Fin.ext hg
  have eo (k : Fin 128) : (⟨p' / 128 * 128 + k, by omega⟩ : Fin 512) = o k := Fin.ext (ho k)
  simp only [gated, gate, er, eg, eo, hr]
  refine congrArg (fun s => U (ix2 p' j') * (s + x7 (ix2 r g))) (Finset.sum_congr rfl fun k _ => ?_)
  split
  · exact mul_comm (x6 (ix3 g r k) : EReal) (V (ix2 (o k) j'))
  · rfl

theorem mixed_apply (j : Fin 512) : out0_8 (F := Ideal) x0 x1 x2 x3 x4 x5 x6 x7 (ix2 p j)
    = gate (wide x0 x1 x2 p ⟨j, by omega⟩) (fun k => x6 (ix3 ⟨j / 128, by omega⟩ ⟨p % 128, by omega⟩ k))
      (fun k => norm (fun l => wide x0 x1 x2 ⟨p / 128 * 128 + k, by omega⟩ ⟨512 + l, by omega⟩) (fun l => x4 (ix2 0 l)) (fun l => x5 (ix2 0 l)) j)
      (x7 (ix2 ⟨p % 128, by omega⟩ ⟨j / 128, by omega⟩)) ⟨p % 128, by omega⟩ := by
  have hU (p j : Fin 512) : k0_pay49 (F := Ideal) x0 x1 x2 x3 x4 x5 x6 x7 (ix2 p j) = wide x0 x1 x2 p ⟨j, by omega⟩ := by
    pointwise [k0_pay49, k0_pay2, k0_pay1]
    rfl
  have hV (p j : Fin 512) : k0_pay52 (F := Ideal) x0 x1 x2 x3 x4 x5 x6 x7 (ix2 p j)
      = norm (fun l => wide x0 x1 x2 p ⟨512 + l, by omega⟩) (fun l => x4 (ix2 0 l)) (fun l => x5 (ix2 0 l)) j := by
    unfold k0_pay52
    have h3 (p j : Fin 512) : k0_pay3 (F := Ideal) (View.ld x0 r0_0) (View.ld x1 r0_1) (View.ld x2 r0_3) (ix2 p j) = wide x0 x1 x2 p ⟨512 + j, by omega⟩ := by
      pointwise [k0_pay3, k0_pay1]
      rfl
    generalize k0_pay3 (F := Ideal) (View.ld x0 r0_0) (View.ld x1 r0_1) (View.ld x2 r0_3) = A at h3 ⊢
    pointwise [k0_pay20]
    simp only [h3]
    rfl
  frame_out
  generalize k0_pay49 (F := Ideal) x0 x1 x2 x3 x4 x5 x6 x7 = U at hU ⊢
  generalize k0_pay52 (F := Ideal) x0 x1 x2 x3 x4 x5 x6 x7 = V at hV ⊢
  have hM := vmask x0 x1 x2 x3 x4 x5 x6 x7
  generalize k0_pay53 (F := Ideal) x0 x1 x2 x3 x4 x5 x6 x7 = M at hM ⊢
  refine (View.canon_apply_of_pieces (fun y => gated x6 x7 U V (y 0) (y 1) : Vec Ideal S512x512 .bf16) _ (View.PiecesOf.mem ?_) _ ?_).trans ?_
  rotate_left
  · apply cover0_8
  rotate_left
  · simp only [View.PiecesOf, and_true]
    and_intros
    all_goals
      intro y
      idx_vars y
      pointwise [k0_pay47, k0_pay46, k0_pay45, k0_pay44, k0_pay43, k0_pay42, k0_pay41, k0_pay40, k0_pay39, k0_pay38, k0_pay37,
        k0_pay36, k0_pay35, k0_pay34, k0_pay33, k0_pay32, k0_pay31, k0_pay30, k0_pay29, k0_pay28, k0_pay27, k0_pay26, k0_pay25,
        k0_pay24]
      simp only [hM]
      refine gated_at x6 x7 U V _ _ _ _ _ y0 _ ?_ ?_ ?_ ?_ fun k => ?_
      · show _ + 1 * y0.val = _
        simp
      · show _ + 1 * y1.val = _
        simp
      · simp
        try omega
      · simp
        try omega
      · simp
        try omega
  · show gated x6 x7 U V p j = _
    simp only [gated, hU, hV]

end Cert.Proj

end
-- ==== Proof.ProjKernel.lean ====
/- The eight result arrays of the input projections kernel, at the ideal instance: the functions of `ProjRow.lean` of the
   arguments. -/
module

public import proofs.«01_k».proof.Proof.ProjGate
public import Idealize.ShloMosaic.Lib.Claim

@[expose] public section

set_option maxRecDepth 16384

noncomputable section

namespace Cert.Proj

open Cert.Kernel3Ideal Cert.Kernel3Ideal.Gen Idealize.ShloMosaic Idealize.ShloMosaic.TcCoe Idealize.SL.Sem

variable (m : (ℓ : Loc nD τ sig) → Buf (Elt Ideal) ℓ) (c : Dev nD) (t : Fin cfg0.N)

/-- Where the windows' blocks lie: the token windows move with the point, the weights' stay. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0] ∧ win0_8.index t = ![t.val, 0] ∧ win0_9.index t = ![t.val, 0] ∧ win0_10.index t = ![t.val, 0]
    ∧ win0_11.index t = ![0, t.val] ∧ win0_12.index t = ![0, t.val, 0] ∧ win0_13.index t = ![t.val, 0]
    ∧ win0_14.index t = ![0, t.val] ∧ win0_15.index t = ![0, t.val] := by decide +kernel

/-- What the lines before the region leave in the windows' arrays. -/
theorem entry :
    V m c main_v0 = shapeCast S32768x1024 (m ((c : Thread nD τ).loc main_arg0)) shapeCasts_S8x4096x1024_S32768x1024
    ∧ V m c main_v8 = broadcastInDim S1x1024 ![1] bcast_S1024_S1x1024_1 (shapeCast S1024 (m ((c : Thread nD τ).loc main_arg1)) shapeCasts_S1x1024_S1024)
    ∧ V m c main_v3 = (truncf .bf16 · bitsLt_bf16_f32) (extractStridedSlice S1024x3072 ![0, 0]
        (shapeCast S1024x3144 (m ((c : Thread nD τ).loc main_arg2)) shapeCasts_S1x1024x3144_S1024x3144) slices_S1024x3144_S1024x3072_0_0 : FVec Ideal S1024x3072 .f32)
    ∧ V m c main_v6 = (truncf .bf16 · bitsLt_bf16_f32) (pad S1024x128 ![0, 0] ![0, 56] ![0, 0] (extractStridedSlice S1024x72 ![0, 3072]
        (shapeCast S1024x3144 (m ((c : Thread nD τ).loc main_arg2)) shapeCasts_S1x1024x3144_S1024x3144) slices_S1024x3144_S1024x72_0_3072)
        (sitofp .f32 (constantI S_ 32 0#32)) pads_S1024x72_S1024x128_000_0560 h_S_ : FVec Ideal S1024x128 .f32)
    ∧ V m c main_v10 = broadcastInDim S1x512 ![1] bcast_S512_S1x512_1 (shapeCast S512 (m ((c : Thread nD τ).loc main_arg3)) shapeCasts_S1x512_S512)
    ∧ V m c main_v12 = broadcastInDim S1x512 ![1] bcast_S512_S1x512_1 (shapeCast S512 (m ((c : Thread nD τ).loc main_arg4)) shapeCasts_S1x512_S512)
    ∧ V m c main_v13 = shapeCast S4x128x128 (m ((c : Thread nD τ).loc main_arg5)) shapeCasts_S1x4x128x128_S4x128x128
    ∧ V m c main_v15 = transpose S128x4 [1, 0] (shapeCast S4x128 (m ((c : Thread nD τ).loc main_arg6)) shapeCasts_S1x4x128_S4x128) transposes_S4x128_S128x4_1_0 := by
  refine ⟨?_, ?_, ?_, ?_, ?_, ?_, ?_, ?_⟩ <;>
    (simp only [V, hostOps0, hostOps0_1, hostOps0_2, List.flatten_cons, List.flatten_nil, List.append_nil, List.cons_append,
        List.nil_append]
     after_results
     rfl)

/-! ## The windows' blocks of any array, and the arrays' entries -/

theorem rd0 (A : Vec Ideal S32768x1024 .f32) (p : Fin 512) (k : Fin 1024) (ht : t.val < 64) :
    ((cfg0.win 0).blk t).view.read (Elt Ideal) A (ix2 p k) = A (ix2 (⟨512 * t.val + p, by omega⟩ : Fin 32768) k) := by
  blk_ext [idx t]

theorem pw0 (X : Vec Ideal S8x4096x1024 .f32) (q : Fin 32768) (k : Fin 1024) :
    shapeCast S32768x1024 X shapeCasts_S8x4096x1024_S32768x1024 (ix2 q k)
      = X (ix3 ⟨q / 4096, by omega⟩ ⟨q % 4096, by omega⟩ k) := by
  pointwise

theorem rd1 (A : Vec Ideal S1x1024 .f32) (k : Fin 1024) : ((cfg0.win 1).blk t).view.read (Elt Ideal) A (ix2 0 k) = A (ix2 0 k) := by
  blk_ext [idx t]

theorem rd2 (A : Vec Ideal S1024x3072 .bf16) (k : Fin 1024) (j : Fin 3072) : ((cfg0.win 2).blk t).view.read (Elt Ideal) A (ix2 k j) = A (ix2 k j) := by
  blk_ext [idx t]

theorem rd3 (A : Vec Ideal S1024x128 .bf16) (k : Fin 1024) (j : Fin 128) : ((cfg0.win 3).blk t).view.read (Elt Ideal) A (ix2 k j) = A (ix2 k j) := by
  blk_ext [idx t]

theorem rd4 (A : Vec Ideal S1x512 .f32) (k : Fin 512) : ((cfg0.win 4).blk t).view.read (Elt Ideal) A (ix2 0 k) = A (ix2 0 k) := by
  blk_ext [idx t]

theorem rd5 (A : Vec Ideal S1x512 .f32) (k : Fin 512) : ((cfg0.win 5).blk t).view.read (Elt Ideal) A (ix2 0 k) = A (ix2 0 k) := by
  blk_ext [idx t]

theorem rd6 (A : Vec Ideal S4x128x128 .f32) (g : Fin 4) (r k : Fin 128) : ((cfg0.win 6).blk t).view.read (Elt Ideal) A (ix3 g r k) = A (ix3 g r k) := by
  blk_ext [idx t]

theorem rd7 (A : Vec Ideal S128x4 .f32) (r : Fin 128) (g : Fin 4) : ((cfg0.win 7).blk t).view.read (Elt Ideal) A (ix2 r g) = A (ix2 r g) := by
  blk_ext [idx t]

theorem pw1 (X : Vec Ideal S1x1024 .f32) (k : Fin 1024) :
    broadcastInDim S1x1024 ![1] bcast_S1024_S1x1024_1 (shapeCast S1024 X shapeCasts_S1x1024_S1024) (ix2 0 k) = X (ix2 0 k) := by
  pointwise

theorem pw2 (X : Vec Ideal S1x1024x3144 .f32) (k : Fin 1024) (j : Fin 3072) :
    (truncf .bf16 · bitsLt_bf16_f32) (extractStridedSlice S1024x3072 ![0, 0]
        (shapeCast S1024x3144 X shapeCasts_S1x1024x3144_S1024x3144) slices_S1024x3144_S1024x3072_0_0 : FVec Ideal S1024x3072 .f32)
        (ix2 k j) = X (ix3 0 k ⟨j, by omega⟩) := by
  pointwise

theorem pw3 (X : Vec Ideal S1x1024x3144 .f32) (k : Fin 1024) (j : Fin 72) :
    (truncf .bf16 · bitsLt_bf16_f32) (pad S1024x128 ![0, 0] ![0, 56] ![0, 0] (extractStridedSlice S1024x72 ![0, 3072]
        (shapeCast S1024x3144 X shapeCasts_S1x1024x3144_S1024x3144) slices_S1024x3144_S1024x72_0_3072)
        (sitofp .f32 (constantI S_ 32 0#32)) pads_S1024x72_S1024x128_000_0560 h_S_ : FVec Ideal S1024x128 .f32)
        (ix2 k (⟨j, by omega⟩ : Fin 128)) = X (ix3 0 k ⟨3072 + j, by omega⟩) := by
  pointwise

theorem pw4 (X : Vec Ideal S1x512 .f32) (k : Fin 512) :
    broadcastInDim S1x512 ![1] bcast_S512_S1x512_1 (shapeCast S512 X shapeCasts_S1x512_S512) (ix2 0 k) = X (ix2 0 k) := by
  pointwise

theorem pw6 (X : Vec Ideal S1x4x128x128 .f32) (g : Fin 4) (r k : Fin 128) :
    shapeCast S4x128x128 X shapeCasts_S1x4x128x128_S4x128x128 (ix3 g r k) = X (ix4 0 g r k) := by
  pointwise

theorem pw7 (X : Vec Ideal S1x4x128 .f32) (r : Fin 128) (g : Fin 4) :
    transpose S128x4 [1, 0] (shapeCast S4x128 X shapeCasts_S1x4x128_S4x128) transposes_S4x128_S128x4_1_0 (ix2 r g) = X (ix3 0 g r) := by
  pointwise

/-! ## The blocks, read off the arguments -/

theorem blk0 (p : Fin 512) (k : Fin 1024) (ht : t.val < 64) : iblk m c 0 t (ix2 p k)
    = m ((c : Thread nD τ).loc main_arg0) (ix3 ⟨(512 * t.val + p) / 4096, by omega⟩ ⟨(512 * t.val + p) % 4096, by omega⟩ k) := by
  unfold iblk
  refine (congrArg (fun A => ((cfg0.win 0).blk t).view.read (Elt Ideal) A (ix2 p k)) (entry m c).1).trans ?_
  exact (rd0 t _ p k ht).trans (pw0 _ _ k)

theorem blk1 (k : Fin 1024) : iblk m c 1 t (ix2 0 k) = m ((c : Thread nD τ).loc main_arg1) (ix2 0 k) := by
  unfold iblk
  refine (congrArg (fun A => ((cfg0.win 1).blk t).view.read (Elt Ideal) A (ix2 0 k)) (entry m c).2.1).trans ?_
  exact (rd1 t _ k).trans (pw1 _ k)

theorem blk2 (k : Fin 1024) (j : Fin 3072) : iblk m c 2 t (ix2 k j)
    = m ((c : Thread nD τ).loc main_arg2) (ix3 0 k ⟨j, by omega⟩) := by
  unfold iblk
  refine (congrArg (fun A => ((cfg0.win 2).blk t).view.read (Elt Ideal) A (ix2 k j)) (entry m c).2.2.1).trans ?_
  exact (rd2 t _ k j).trans (pw2 _ k j)

theorem blk3 (k : Fin 1024) (j : Fin 72) : iblk m c 3 t (ix2 k (⟨j, by omega⟩ : Fin 128))
    = m ((c : Thread nD τ).loc main_arg2) (ix3 0 k ⟨3072 + j, by omega⟩) := by
  unfold iblk
  refine (congrArg (fun A => ((cfg0.win 3).blk t).view.read (Elt Ideal) A (ix2 k (⟨j, by omega⟩ : Fin 128))) (entry m c).2.2.2.1).trans ?_
  exact (rd3 t _ k _).trans (pw3 _ k j)

theorem blk4 (k : Fin 512) : iblk m c 4 t (ix2 0 k) = m ((c : Thread nD τ).loc main_arg3) (ix2 0 k) := by
  unfold iblk
  refine (congrArg (fun A => ((cfg0.win 4).blk t).view.read (Elt Ideal) A (ix2 0 k)) (entry m c).2.2.2.2.1).trans ?_
  exact (rd4 t _ k).trans (pw4 _ k)

theorem blk5 (k : Fin 512) : iblk m c 5 t (ix2 0 k) = m ((c : Thread nD τ).loc main_arg4) (ix2 0 k) := by
  unfold iblk
  refine (congrArg (fun A => ((cfg0.win 5).blk t).view.read (Elt Ideal) A (ix2 0 k)) (entry m c).2.2.2.2.2.1).trans ?_
  exact (rd5 t _ k).trans (pw4 _ k)

theorem blk6 (g : Fin 4) (r k : Fin 128) : iblk m c 6 t (ix3 g r k) = m ((c : Thread nD τ).loc main_arg5) (ix4 0 g r k) := by
  unfold iblk
  refine (congrArg (fun A => ((cfg0.win 6).blk t).view.read (Elt Ideal) A (ix3 g r k)) (entry m c).2.2.2.2.2.2.1).trans ?_
  exact (rd6 t _ g r k).trans (pw6 _ g r k)

theorem blk7 (r : Fin 128) (g : Fin 4) : iblk m c 7 t (ix2 r g) = m ((c : Thread nD τ).loc main_arg6) (ix3 0 g r) := by
  unfold iblk
  refine (congrArg (fun A => ((cfg0.win 7).blk t).view.read (Elt Ideal) A (ix2 r g)) (entry m c).2.2.2.2.2.2.2).trans ?_
  exact (rd7 t _ r g).trans (pw7 _ r g)

/-! ## The projections of a block's tokens -/

theorem wide_blk (p : Fin 512) (j : Fin 3072) (ht : t.val < 64) : wide (iblk m c 0 t) (iblk m c 1 t) (iblk m c 2 t) p j
    = proj (m ((c : Thread nD τ).loc main_arg0)) (m ((c : Thread nD τ).loc main_arg1)) (m ((c : Thread nD τ).loc main_arg2))
        ⟨512 * t.val + p, by omega⟩ ⟨j, by omega⟩ := by
  simp only [wide, hidRow, blk0 m c t _ _ ht, blk1, blk2]
  rfl

theorem narrow_blk (p : Fin 512) (j : Fin 72) (ht : t.val < 64) : narrow (iblk m c 0 t) (iblk m c 1 t) (iblk m c 3 t) p ⟨j, by omega⟩
    = proj (m ((c : Thread nD τ).loc main_arg0)) (m ((c : Thread nD τ).loc main_arg1)) (m ((c : Thread nD τ).loc main_arg2))
        ⟨512 * t.val + p, by omega⟩ ⟨3072 + j, by omega⟩ := by
  simp only [narrow, hidRow, blk0 m c t _ _ ht, blk1, blk3]
  rfl

/-- The gate of a block's token, the block's rows taken at their places of the batch element. -/
theorem mixed_blk (p j : Fin 512) (ht : t.val < 64) :
    gate (wide (iblk m c 0 t) (iblk m c 1 t) (iblk m c 2 t) p ⟨j, by omega⟩)
      (fun k => iblk m c 6 t (ix3 ⟨j / 128, by omega⟩ ⟨p % 128, by omega⟩ k))
      (fun k => norm (fun l => wide (iblk m c 0 t) (iblk m c 1 t) (iblk m c 2 t) ⟨p / 128 * 128 + k, by omega⟩ ⟨512 + l, by omega⟩)
        (fun l => iblk m c 4 t (ix2 0 l)) (fun l => iblk m c 5 t (ix2 0 l)) j)
      (iblk m c 7 t (ix2 ⟨p % 128, by omega⟩ ⟨j / 128, by omega⟩)) ⟨p % 128, by omega⟩
    = mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨512 * t.val + p, by omega⟩ j := by
  have es : (512 * t.val + p.val) % 4096 % 128 = p.val % 128 := by omega
  have ek (k : Fin 128) (j : Fin 3144) : proj (m ((c : Thread nD τ).loc main_arg0)) (m ((c : Thread nD τ).loc main_arg1)) (m ((c : Thread nD τ).loc main_arg2))
        ⟨512 * t.val + (p.val / 128 * 128 + k.val), by omega⟩ j
      = projAt (m ((c : Thread nD τ).loc main_arg0)) (m ((c : Thread nD τ).loc main_arg1)) (m ((c : Thread nD τ).loc main_arg2))
        ⟨(512 * t.val + p.val) / 4096, by omega⟩ ⟨(512 * t.val + p.val) % 4096 / 128 * 128 + k.val, by omega⟩ j :=
    congrArg₂ (fun b s => projAt (m ((c : Thread nD τ).loc main_arg0)) (m ((c : Thread nD τ).loc main_arg1)) (m ((c : Thread nD τ).loc main_arg2)) b s j)
      (Fin.ext (show (512 * t.val + (p.val / 128 * 128 + k.val)) / 4096 = (512 * t.val + p.val) / 4096 by omega))
      (Fin.ext (show (512 * t.val + (p.val / 128 * 128 + k.val)) % 4096 = (512 * t.val + p.val) % 4096 / 128 * 128 + k.val by omega))
  simp only [wide_blk m c t _ _ ht, blk4, blk5, blk6, blk7, ek]
  unfold mixed mixedAt
  simp only [es]
  rfl

/-! ## The results -/

theorem final8 : (dats m 0 c).arrAt 8 cfg0.N = (fun i => mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) : Buf (Elt Ideal) ((c : Thread nD τ).loc main_v16_0)) := by
  refine (dats m 0 c).arrAt_eq_of_covers 8 _ (by decide +kernel) fun t hf y => ?_
  blk_simp
  rw [after0_8]
  idx_vars y
  have ht : t.val < 64 := t.isLt.trans_eq N_0
  have e0 : ((View.whole main_v16_0).slice (win0_8.rect t)).emb (ix2 y0 y1) 0 = (⟨512 * t.val + y0, by omega⟩ : Fin 32768) := by
    apply Fin.ext
    show _ = 512 * t.val + y0.val
    blk_simp [idx t]
    omega
  have e1 : ((View.whole main_v16_0).slice (win0_8.rect t)).emb (ix2 y0 y1) 1 = y1 := by
    apply Fin.ext
    blk_simp [idx t]
  rw [e0, e1, mixed_apply]
  exact mixed_blk m c t _ _ ht

theorem final9 : (dats m 0 c).arrAt 9 cfg0.N = (fun i => query (m ((c : Thread nD τ).loc main_arg0)) (m ((c : Thread nD τ).loc main_arg1)) (m ((c : Thread nD τ).loc main_arg2)) (i 0) (i 1) : Buf (Elt Ideal) ((c : Thread nD τ).loc main_v16_1)) := by
  refine (dats m 0 c).arrAt_eq_of_covers 9 _ (by decide +kernel) fun t hf y => ?_
  blk_simp
  rw [after0_9]
  idx_vars y
  have ht : t.val < 64 := t.isLt.trans_eq N_0
  have e0 : ((View.whole main_v16_1).slice (win0_9.rect t)).emb (ix2 y0 y1) 0 = (⟨512 * t.val + y0, by omega⟩ : Fin 32768) := by
    apply Fin.ext
    show _ = 512 * t.val + y0.val
    blk_simp [idx t]
    omega
  have e1 : ((View.whole main_v16_1).slice (win0_9.rect t)).emb (ix2 y0 y1) 1 = y1 := by
    apply Fin.ext
    blk_simp [idx t]
  rw [e0, e1, query_apply]
  simp only [wide_blk m c t _ _ ht]
  rfl

theorem final10 : (dats m 0 c).arrAt 10 cfg0.N = (fun i => key (m ((c : Thread nD τ).loc main_arg0)) (m ((c : Thread nD τ).loc main_arg1)) (m ((c : Thread nD τ).loc main_arg2)) (i 0) (i 1) : Buf (Elt Ideal) ((c : Thread nD τ).loc main_v16_2)) := by
  refine (dats m 0 c).arrAt_eq_of_covers 10 _ (by decide +kernel) fun t hf y => ?_
  blk_simp
  rw [after0_10]
  idx_vars y
  have ht : t.val < 64 := t.isLt.trans_eq N_0
  have e0 : ((View.whole main_v16_2).slice (win0_10.rect t)).emb (ix2 y0 y1) 0 = (⟨512 * t.val + y0, by omega⟩ : Fin 32768) := by
    apply Fin.ext
    show _ = 512 * t.val + y0.val
    blk_simp [idx t]
    omega
  have e1 : ((View.whole main_v16_2).slice (win0_10.rect t)).emb (ix2 y0 y1) 1 = y1 := by
    apply Fin.ext
    blk_simp [idx t]
  rw [e0, e1, key_apply]
  simp only [wide_blk m c t _ _ ht]
  rfl

theorem final11 : (dats m 0 c).arrAt 11 cfg0.N = (fun i => val (m ((c : Thread nD τ).loc main_arg0)) (m ((c : Thread nD τ).loc main_arg1)) (m ((c : Thread nD τ).loc main_arg2)) (i 1) (i 0) : Buf (Elt Ideal) ((c : Thread nD τ).loc main_v16_3)) := by
  refine (dats m 0 c).arrAt_eq_of_covers 11 _ (by decide +kernel) fun t hf y => ?_
  blk_simp
  rw [after0_11]
  idx_vars y
  have ht : t.val < 64 := t.isLt.trans_eq N_0
  have e0 : ((View.whole main_v16_3).slice (win0_11.rect t)).emb (ix2 y0 y1) 0 = y0 := by
    apply Fin.ext
    blk_simp [idx t]
  have e1 : ((View.whole main_v16_3).slice (win0_11.rect t)).emb (ix2 y0 y1) 1 = (⟨512 * t.val + y1, by omega⟩ : Fin 32768) := by
    apply Fin.ext
    show _ = 512 * t.val + y1.val
    blk_simp [idx t]
    omega
  rw [e0, e1, val_apply]
  simp only [wide_blk m c t _ _ ht]
  rfl

theorem final12 : (dats m 0 c).arrAt 12 cfg0.N = (fun i => iquery (m ((c : Thread nD τ).loc main_arg0)) (m ((c : Thread nD τ).loc main_arg1)) (m ((c : Thread nD τ).loc main_arg2)) (i 0) (i 1) (i 2) : Buf (Elt Ideal) ((c : Thread nD τ).loc main_v16_4)) := by
  refine (dats m 0 c).arrAt_eq_of_covers 12 _ (by decide +kernel) fun t hf y => ?_
  blk_simp
  rw [after0_12]
  idx_vars y
  have ht : t.val < 64 := t.isLt.trans_eq N_0
  have e0 : ((View.whole main_v16_4).slice (win0_12.rect t)).emb (ix3 y0 y1 y2) 0 = y0 := by
    apply Fin.ext
    blk_simp [idx t]
  have e1 : ((View.whole main_v16_4).slice (win0_12.rect t)).emb (ix3 y0 y1 y2) 1 = (⟨512 * t.val + y1, by omega⟩ : Fin 32768) := by
    apply Fin.ext
    show _ = 512 * t.val + y1.val
    blk_simp [idx t]
    omega
  have e2 : ((View.whole main_v16_4).slice (win0_12.rect t)).emb (ix3 y0 y1 y2) 2 = y2 := by
    apply Fin.ext
    blk_simp [idx t]
  rw [e0, e1, e2, iquery_apply]
  simp only [wide_blk m c t _ _ ht]
  rfl

theorem final13 : (dats m 0 c).arrAt 13 cfg0.N = (fun i => ikey (m ((c : Thread nD τ).loc main_arg0)) (m ((c : Thread nD τ).loc main_arg1)) (m ((c : Thread nD τ).loc main_arg2)) (i 0) (i 1) : Buf (Elt Ideal) ((c : Thread nD τ).loc main_v16_5)) := by
  refine (dats m 0 c).arrAt_eq_of_covers 13 _ (by decide +kernel) fun t hf y => ?_
  blk_simp
  rw [after0_13]
  idx_vars y
  have ht : t.val < 64 := t.isLt.trans_eq N_0
  have e0 : ((View.whole main_v16_5).slice (win0_13.rect t)).emb (ix2 y0 y1) 0 = (⟨512 * t.val + y0, by omega⟩ : Fin 32768) := by
    apply Fin.ext
    show _ = 512 * t.val + y0.val
    blk_simp [idx t]
    omega
  have e1 : ((View.whole main_v16_5).slice (win0_13.rect t)).emb (ix2 y0 y1) 1 = y1 := by
    apply Fin.ext
    blk_simp [idx t]
  rw [e0, e1, ikey_apply]
  exact narrow_blk m c t y0 ⟨y1, by omega⟩ ht

theorem final14 : (dats m 0 c).arrAt 14 cfg0.N = (fun i => iweight (m ((c : Thread nD τ).loc main_arg0)) (m ((c : Thread nD τ).loc main_arg1)) (m ((c : Thread nD τ).loc main_arg2)) (i 1) (i 0) : Buf (Elt Ideal) ((c : Thread nD τ).loc main_v16_6)) := by
  refine (dats m 0 c).arrAt_eq_of_covers 14 _ (by decide +kernel) fun t hf y => ?_
  blk_simp
  rw [after0_14]
  idx_vars y
  have ht : t.val < 64 := t.isLt.trans_eq N_0
  have e0 : ((View.whole main_v16_6).slice (win0_14.rect t)).emb (ix2 y0 y1) 0 = y0 := by
    apply Fin.ext
    blk_simp [idx t]
  have e1 : ((View.whole main_v16_6).slice (win0_14.rect t)).emb (ix2 y0 y1) 1 = (⟨512 * t.val + y1, by omega⟩ : Fin 32768) := by
    apply Fin.ext
    show _ = 512 * t.val + y1.val
    blk_simp [idx t]
    omega
  rw [e0, e1, iweight_apply]
  refine congrArg (fun x : EReal => x * Ideal.ofBits FTy.f32 1052050675#32) ((narrow_blk m c t y1 ⟨64 + y0, by omega⟩ ht).trans ?_)
  exact congrArg (fun j => proj (m ((c : Thread nD τ).loc main_arg0)) (m ((c : Thread nD τ).loc main_arg1)) (m ((c : Thread nD τ).loc main_arg2)) _ j) (Fin.ext (show 3072 + (64 + y0.val) = 3136 + y0.val by omega))

theorem final15 : (dats m 0 c).arrAt 15 cfg0.N = (fun i => keysq (m ((c : Thread nD τ).loc main_arg0)) (m ((c : Thread nD τ).loc main_arg1)) (m ((c : Thread nD τ).loc main_arg2)) (i 0) (i 1) : Buf (Elt Ideal) ((c : Thread nD τ).loc main_v16_7)) := by
  refine (dats m 0 c).arrAt_eq_of_covers 15 _ (by decide +kernel) fun t hf y => ?_
  blk_simp
  rw [after0_15]
  idx_vars y
  have ht : t.val < 64 := t.isLt.trans_eq N_0
  have e0 : ((View.whole main_v16_7).slice (win0_15.rect t)).emb (ix2 y0 y1) 0 = y0 := by
    apply Fin.ext
    blk_simp [idx t]
  have e1 : ((View.whole main_v16_7).slice (win0_15.rect t)).emb (ix2 y0 y1) 1 = (⟨512 * t.val + y1, by omega⟩ : Fin 32768) := by
    apply Fin.ext
    show _ = 512 * t.val + y1.val
    blk_simp [idx t]
    omega
  rw [e0, e1, keysq_apply]
  simp only [wide_blk m c t _ _ ht]
  rfl

end Cert.Proj

end
-- ==== Proof.ProjRef.lean ====
/- The reference's results of the input projections and the spatial gating, at the ideal instance: each is the function
   of the arguments that `ProjRow.lean` states. -/
module

public import proofs.«01_k».proof.Proof.ProjRow
public import proofs.«01_k».proof.Proof.Gen.Reference3Ideal.Run
public import Idealize.ShloMosaic.Lib.Pipeline.ValueKit
public import Idealize.ShloMosaic.Lib.Pointwise
public import Idealize.ShloMosaic.Lib.Tactic.CleanTypes

@[expose] public section

set_option maxRecDepth 16384

noncomputable section
namespace Cert.Proj
open Cert.Reference3Ideal Idealize.ShloMosaic Idealize.ShloMosaic.TcCoe Idealize.SL.Sem

/-- The chunk of 64 of a place below 128, as the reference's integer division rounding down computes it. -/
def chunk (x : BitVec 32) : BitVec 32 :=
  Scalar.select
    (IntOp.andi (IntOp.cmpi .ne (if x = 0 then 0 else if x.msb = true then -1 else 1 : BitVec 32)
        (if 64#32 = 0 then 0 else if (64#32).msb = true then -1 else 1 : BitVec 32))
      (IntOp.cmpi .ne (IntOp.remsi .host x 64#32) 0#32))
    (IntOp.subi (IntOp.divsi .host x 64#32) 1#32) (IntOp.divsi .host x 64#32)

/-- It is the place divided by 64. -/
theorem chunk_eq : ∀ i : Fin 128, chunk (BitVec.ofNat 32 i) = BitVec.ofNat 32 (i / 64) := by decide +kernel

theorem sle_eq : ∀ j i : Fin 2, IntOp.cmpi .sle (BitVec.ofNat 32 j) (BitVec.ofNat 32 i) = if j.val ≤ i.val then 1#1 else 0#1 := by
  decide +kernel

/-- The mask: the chunk of `j` is not after the chunk of `i`. -/
theorem mask_eq (j i : Fin 128) : IntOp.cmpi .sle (chunk (BitVec.ofNat 32 j)) (chunk (BitVec.ofNat 32 i))
    = if j.val / 64 ≤ i.val / 64 then 1#1 else 0#1 := by
  rw [chunk_eq, chunk_eq]
  exact sle_eq ⟨j / 64, by omega⟩ ⟨i / 64, by omega⟩

theorem select_ite (c : Prop) [Decidable c] (a b : EReal) : Scalar.select (if c then 1#1 else 0#1) a b = if c then a else b := by
  split <;> rfl

theorem sitofp_zero : FloatOps.sitofp (F := Ideal) FTy.f32 (0#32) = (0 : EReal) := by
  show ((BitVec.toInt 0#32 : ℝ) : EReal) = 0
  simp

/-- The reference ends with the eight results that `ProjRow.lean` states, of its own arguments, and these unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = (fun i => mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_v90) = (fun i => query (m ((c.tc : Thread nD τ).loc main_arg0)) (m ((c.tc : Thread nD τ).loc main_arg1)) (m ((c.tc : Thread nD τ).loc main_arg2)) (i 0) (i 1))
      ∧ r.2.mem ((c.tc : Thread nD τ).loc main_v91) = (fun i => key (m ((c.tc : Thread nD τ).loc main_arg0)) (m ((c.tc : Thread nD τ).loc main_arg1)) (m ((c.tc : Thread nD τ).loc main_arg2)) (i 0) (i 1))
      ∧ r.2.mem ((c.tc : Thread nD τ).loc main_v93) = (fun i => val (m ((c.tc : Thread nD τ).loc main_arg0)) (m ((c.tc : Thread nD τ).loc main_arg1)) (m ((c.tc : Thread nD τ).loc main_arg2)) (i 1) (i 0))
      ∧ r.2.mem ((c.tc : Thread nD τ).loc main_v94) = (fun i => iquery (m ((c.tc : Thread nD τ).loc main_arg0)) (m ((c.tc : Thread nD τ).loc main_arg1)) (m ((c.tc : Thread nD τ).loc main_arg2)) (i 0) (i 1) (i 2))
      ∧ r.2.mem ((c.tc : Thread nD τ).loc main_v96) = (fun i => ikey (m ((c.tc : Thread nD τ).loc main_arg0)) (m ((c.tc : Thread nD τ).loc main_arg1)) (m ((c.tc : Thread nD τ).loc main_arg2)) (i 0) (i 1))
      ∧ r.2.mem ((c.tc : Thread nD τ).loc main_v97) = (fun i => iweight (m ((c.tc : Thread nD τ).loc main_arg0)) (m ((c.tc : Thread nD τ).loc main_arg1)) (m ((c.tc : Thread nD τ).loc main_arg2)) (i 1) (i 0))
      ∧ r.2.mem ((c.tc : Thread nD τ).loc main_v87) = (fun i => keysq (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (Value.run m ρ)
  obtain ⟨h0, h1, h2, h3, h4, h5, h6, h7, hk⟩ := h c
  unfold Value.res_main_v89 at h0; clear h
  refine ⟨h0.trans ?_, h1.trans ?_, h2.trans ?_, h3.trans ?_, h4.trans ?_, h5.trans ?_, h6.trans ?_, h7.trans ?_, hk⟩
  all_goals
    clear h0 h1 h2 h3 h4 h5 h6 h7 hk
    clean_types
    generalize m ((c.tc : Thread nD τ).loc main_arg0) = x0
    generalize m ((c.tc : Thread nD τ).loc main_arg1) = x1
    generalize m ((c.tc : Thread nD τ).loc main_arg2) = x2
    generalize m ((c.tc : Thread nD τ).loc main_arg3) = x3
    generalize m ((c.tc : Thread nD τ).loc main_arg4) = x4
    generalize m ((c.tc : Thread nD τ).loc main_arg5) = x5
    generalize m ((c.tc : Thread nD τ).loc main_arg6) = x6
    funext i
    idx_vars i
    pointwise
    try rfl
  · unfold mixed mixedAt gate
    refine congr (congrArg HMul.hMul ?_) (congr (congrArg HAdd.hAdd (Finset.sum_congr rfl fun x _ => ?_)) ?_)
    · rfl
    rotate_left
    · rfl
    refine (congrArg (fun b => Scalar.select b _ _) (mask_eq x ⟨i0 % 4096 % 128, by omega⟩)).trans ?_
    rw [select_ite]
    rfl
  · unfold keysq
    refine dite_congr rfl (fun h => Finset.sum_congr rfl fun x _ => ?_) (fun h => sitofp_zero)
    have e : ∀ a b : EReal, a = b → a * a = b * b := fun _ _ e => e ▸ rfl
    exact e _ _ rfl

end Cert.Proj

end
-- ==== Proof.ProjClaim.lean ====
/- The claims about the input projections and the spatial gating. -/
module

public import proofs.«01_k».proof.Defs
public import proofs.«01_k».proof.Proof.ProjKernel
public import proofs.«01_k».proof.Proof.ProjRef
public import proofs.«01_k».proof.Proof.Gen.Kernel3.Frame
public import proofs.«01_k».proof.Proof.Gen.Kernel3Ideal.Frame
public import Idealize.ShloMosaic.Lib.Quiescent

@[expose] public section

noncomputable section

namespace Cert.Proj

open Idealize.ShloMosaic Idealize.ShloMosaic.TcCoe Idealize.SL.Sem

theorem quiescent : Cert.quiescent_Kernel3 := fun m ρ _ => Cert.Kernel3.Gen.frame m ρ

theorem quiescent_ideal : Cert.quiescent_Kernel3Ideal := fun m ρ _ => Cert.Kernel3Ideal.Gen.frame m ρ

theorem quiescent_ref : Cert.quiescent_Reference3Ideal := fun m ρ _ =>
  (θ_run _ _ _).mono (fun _ h => ⟨fun c => (h c).2.2.2.2.2.2.2.2, sem_eq_zero_of_no_sems (by decide) _⟩)
    (Cert.Reference3Ideal.Value.run m ρ)

/-- Both programs end with the same eight functions of the same arguments. -/
theorem algebraic : Cert.algebraic_Kernel3Ideal_Reference3Ideal := by
  intro m g m' g' _ hm
  refine ⟨fun c i => mixed (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (i 0) (i 1),
    fun c i => query (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (i 0) (i 1),
    fun c i => key (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (i 0) (i 1),
    fun c i => val (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (i 1) (i 0),
    fun c i => iquery (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (i 0) (i 1) (i 2),
    fun c i => ikey (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (i 0) (i 1),
    fun c i => iweight (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (i 1) (i 0),
    fun c i => keysq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (i 0) (i 1),
    (θ_run _ _ _).mono (fun _ h c => ?_) (Cert.Kernel3Ideal.Value.run_blocks m g),
    (θ_run _ _ _).mono (fun _ h c => ?_) (ref_run m' g')⟩
  · obtain ⟨h0, h1, h2, h3, h4, h5, h6, h7, hk⟩ := h c
    exact ⟨h0.trans (final8 m c), h1.trans (final9 m c), h2.trans (final10 m c), h3.trans (final11 m c), h4.trans (final12 m c),
      h5.trans (final13 m c), h6.trans (final14 m c), h7.trans (final15 m c), hk⟩
  · have hr := h c
    obtain ⟨e0, e1, e2, e3, e4, e5, e6⟩ := hm c
    refine ⟨?_, ?_, ?_, ?_, ?_, ?_, ?_, ?_, hr.2.2.2.2.2.2.2.2⟩
    · rw [hr.1, e0, e1, e2, e3, e4, e5, e6]
      rfl
    · rw [hr.2.1, e0, e1, e2]
      rfl
    · rw [hr.2.2.1, e0, e1, e2]
      rfl
    · rw [hr.2.2.2.1, e0, e1, e2]
      rfl
    · rw [hr.2.2.2.2.1, e0, e1, e2]
      rfl
    · rw [hr.2.2.2.2.2.1, e0, e1, e2]
      rfl
    · rw [hr.2.2.2.2.2.2.1, e0, e1, e2]
      rfl
    · rw [hr.2.2.2.2.2.2.2.1, e0, e1, e2]
      rfl

end Cert.Proj

end
-- ==== Proof.lean ====
module

public import proofs.«01_k».proof.Defs
public import proofs.«01_k».proof.Proof.Gen.Kernel
public import proofs.«01_k».proof.Proof.Gen.Kernel.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.DsaFrame
public import proofs.«01_k».proof.Proof.FfnClaim
public import proofs.«01_k».proof.Proof.ProjClaim
public import Idealize.ShloMosaic.Adequacy
public import Idealize.ShloMosaic.Init

@[expose] public section

noncomputable section

namespace Cert.Proof

theorem claim : Cert.Claim := ⟨Cert.Kernel.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Calm.Dsa.quiescent, Cert.Ffn.quiescent, Cert.Ffn.quiescent_ideal, Cert.Ffn.quiescent_ref,
  Cert.Proj.quiescent, Cert.Proj.quiescent_ideal, Cert.Proj.quiescent_ref,
  trivial, Cert.Ffn.algebraic, trivial, Cert.Proj.algebraic⟩

end Cert.Proof

end
